-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_values_10)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_values_10) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v73) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_values_33) = v1 c
          ∧ r.2.mem ((c.tc : Thread Cert.ReferenceIdeal.nD Cert.ReferenceIdeal.τ).loc Cert.ReferenceIdeal.main_v153) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x2 : Shape := ⟨2, ![20000, 2]⟩
abbrev S2x80x100x200 : Shape := ⟨4, ![2, 80, 100, 200]⟩
abbrev S2x4x100x200 : Shape := ⟨4, ![2, 4, 100, 200]⟩
abbrev S2x1x100x200 : Shape := ⟨4, ![2, 1, 100, 200]⟩
abbrev S2x2 : Shape := ⟨2, ![2, 2]⟩
abbrev S2x80x20000 : Shape := ⟨3, ![2, 80, 20000]⟩
abbrev S2x1x20000 : Shape := ⟨3, ![2, 1, 20000]⟩
abbrev S1x80x20000 : Shape := ⟨3, ![1, 80, 20000]⟩
abbrev S1x1x20000 : Shape := ⟨3, ![1, 1, 20000]⟩
abbrev S80x20000 : Shape := ⟨2, ![80, 20000]⟩
abbrev S20000 : Shape := ⟨1, ![20000]⟩
abbrev S1x20000 : Shape := ⟨2, ![1, 20000]⟩
abbrev S2x20000 : Shape := ⟨2, ![2, 20000]⟩
abbrev S2x1000 : Shape := ⟨2, ![2, 1000]⟩
abbrev S_ : Shape := ⟨0, ![]⟩
abbrev S2x1000x1 : Shape := ⟨3, ![2, 1000, 1]⟩
abbrev S1 : Shape := ⟨1, ![1]⟩
abbrev S1x1x1 : Shape := ⟨3, ![1, 1, 1]⟩
abbrev S2x1000x2 : Shape := ⟨3, ![2, 1000, 2]⟩
abbrev S2x4x20000 : Shape := ⟨3, ![2, 4, 20000]⟩
abbrev S2x1x1000 : Shape := ⟨3, ![2, 1, 1000]⟩
abbrev S2x4x1000 : Shape := ⟨3, ![2, 4, 1000]⟩
abbrev S2x1 : Shape := ⟨2, ![2, 1]⟩
abbrev S2 : Shape := ⟨1, ![2]⟩
abbrev S2x1024 : Shape := ⟨2, ![2, 1024]⟩
abbrev S2x8x128 : Shape := ⟨3, ![2, 8, 128]⟩
abbrev S1x8x128 : Shape := ⟨3, ![1, 8, 128]⟩
abbrev S8x128 : Shape := ⟨2, ![8, 128]⟩
abbrev S2x8x128x1 : Shape := ⟨4, ![2, 8, 128, 1]⟩
abbrev S2x8x128x4 : Shape := ⟨4, ![2, 8, 128, 4]⟩
abbrev S2x1024x4 : Shape := ⟨3, ![2, 1024, 4]⟩
abbrev S2x1000x4 : Shape := ⟨3, ![2, 1000, 4]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 259
  | .vmem => 28
  | .smem => 0
  | _ => 0

abbrev hbmTy0_0 (i : Nat) : BufTy := match i % 128 with
  | 0 => ⟨S20000x2, .f32⟩
  | 1 => ⟨S2x80x100x200, .f32⟩
  | 2 => ⟨S2x4x100x200, .f32⟩
  | 3 => ⟨S2x1x100x200, .f32⟩
  | 4 => ⟨S2x1x100x200, .f32⟩
  | 5 => ⟨S2x2, .i32⟩
  | 6 => ⟨S2x80x20000, .f32⟩
  | 7 => ⟨S2x1x20000, .f32⟩
  | 8 => ⟨S2x1x20000, .f32⟩
  | 9 => ⟨S2x1x20000, .f32⟩
  | 10 => ⟨S2x1x20000, .i32⟩
  | 11 => ⟨S2x1x20000, .i32⟩
  | 12 => ⟨S2x20000, .f32⟩
  | 13 => ⟨S2x20000, .i32⟩
  | 14 => ⟨S2x20000, .i32⟩
  | 15 => ⟨S2x1000, .f32⟩
  | 16 => ⟨S2x1000, .i32⟩
  | 17 => ⟨S_, .i32⟩
  | 18 => ⟨S2x1000, .i32⟩
  | 19 => ⟨S2x1000, .i1⟩
  | 20 => ⟨S_, .i32⟩
  | 21 => ⟨S2x1000, .i32⟩
  | 22 => ⟨S2x1000, .i32⟩
  | 23 => ⟨S2x1000, .i32⟩
  | 24 => ⟨S2x1000x1, .i32⟩
  | 25 => ⟨S1, .i32⟩
  | 26 => ⟨S_, .i32⟩
  | 27 => ⟨S2x1000x1, .i32⟩
  | 28 => ⟨S2x1000x1, .i1⟩
  | 29 => ⟨S1x1x1, .i32⟩
  | 30 => ⟨S2x1000x1, .i32⟩
  | 31 => ⟨S2x1000x1, .i1⟩
  | 32 => ⟨S2x1000x1, .i1⟩
  | 33 => ⟨S_, .i1⟩
  | 34 => ⟨S2x1000, .i1⟩
  | 35 => ⟨S2x1000x2, .f32⟩
  | 36 => ⟨S2x1000x2, .i1⟩
  | 37 => ⟨S_, .f32⟩
  | 38 => ⟨S2x1000x2, .f32⟩
  | 39 => ⟨S2x1000x2, .f32⟩
  | 40 => ⟨S2x4x20000, .f32⟩
  | 41 => ⟨S2x1x1000, .i32⟩
  | 42 => ⟨S_, .i32⟩
  | 43 => ⟨S2x1x1000, .i32⟩
  | 44 => ⟨S2x1x1000, .i1⟩
  | 45 => ⟨S_, .i32⟩
  | 46 => ⟨S2x1x1000, .i32⟩
  | 47 => ⟨S2x1x1000, .i32⟩
  | 48 => ⟨S2x1x1000, .i32⟩
  | 49 => ⟨S2x1000x1, .i32⟩
  | 50 => ⟨S1, .i32⟩
  | 51 => ⟨S_, .i32⟩
  | 52 => ⟨S2x1000x1, .i32⟩
  | 53 => ⟨S2x1000x1, .i1⟩
  | 54 => ⟨S1x1x1, .i32⟩
  | 55 => ⟨S2x1000x1, .i32⟩
  | 56 => ⟨S2x1000x1, .i1⟩
  | 57 => ⟨S2x1000x1, .i1⟩
  | 58 => ⟨S_, .i1⟩
  | 59 => ⟨S2x1000, .i1⟩
  | 60 => ⟨S2x4x1000, .f32⟩
  | 61 => ⟨S2x4x1000, .i1⟩
  | 62 => ⟨S_, .f32⟩
  | 63 => ⟨S2x4x1000, .f32⟩
  | 64 => ⟨S2x4x1000, .f32⟩
  | 65 => ⟨S_, .i32⟩
  | 66 => ⟨S2x1000, .i32⟩
  | 67 => ⟨S2x1000, .i1⟩
  | 68 => ⟨S_, .i32⟩
  | 69 => ⟨S2x1000, .i32⟩
  | 70 => ⟨S2x1000, .i32⟩
  | 71 => ⟨S2x1000, .i32⟩
  | 72 => ⟨S2x1000x1, .i32⟩
  | 73 => ⟨S1, .i32⟩
  | 74 => ⟨S_, .i32⟩
  | 75 => ⟨S2x1000x1, .i32⟩
  | 76 => ⟨S2x1000x1, .i1⟩
  | 77 => ⟨S1x1x1, .i32⟩
  | 78 => ⟨S2x1000x1, .i32⟩
  | 79 => ⟨S2x1000x1, .i1⟩
  | 80 => ⟨S2x1000x1, .i1⟩
  | 81 => ⟨S_, .i1⟩
  | 82 => ⟨S2x1000, .i1⟩
  | 83 => ⟨S2x1000, .i32⟩
  | 84 => ⟨S_, .i32⟩
  | 85 => ⟨S2x1000, .i32⟩
  | 86 => ⟨S2x1000, .i32⟩
  | 87 => ⟨S_, .i32⟩
  | 88 => ⟨S2x1000, .i32⟩
  | 89 => ⟨S2x1000, .i1⟩
  | 90 => ⟨S_, .i32⟩
  | 91 => ⟨S2x1000, .i32⟩
  | 92 => ⟨S2x1000, .i32⟩
  | 93 => ⟨S2x1000, .i32⟩
  | 94 => ⟨S2x1000x1, .i32⟩
  | 95 => ⟨S1, .i32⟩
  | 96 => ⟨S_, .i32⟩
  | 97 => ⟨S2x1000x1, .i32⟩
  | 98 => ⟨S2x1000x1, .i1⟩
  | 99 => ⟨S1x1x1, .i32⟩
  | 100 => ⟨S2x1000x1, .i32⟩
  | 101 => ⟨S2x1000x1, .i1⟩
  | 102 => ⟨S2x1000x1, .i1⟩
  | 103 => ⟨S_, .i1⟩
  | 104 => ⟨S2x1000, .i1⟩
  | 105 => ⟨S2x1000, .i32⟩
  | 106 => ⟨S_, .i32⟩
  | 107 => ⟨S2x1000, .i32⟩
  | 108 => ⟨S2x1000, .i32⟩
  | 109 => ⟨S2x2, .f32⟩
  | 110 => ⟨S2x1, .f32⟩
  | 111 => ⟨S2, .f32⟩
  | 112 => ⟨S_, .f32⟩
  | 113 => ⟨S2, .f32⟩
  | 114 => ⟨S2, .f32⟩
  | 115 => ⟨S2x1, .f32⟩
  | 116 => ⟨S2x1024, .f32⟩
  | 117 => ⟨S2x8x128, .f32⟩
  | 118 => ⟨S2x1, .f32⟩
  | 119 => ⟨S2, .f32⟩
  | 120 => ⟨S_, .f32⟩
  | 121 => ⟨S2, .f32⟩
  | 122 => ⟨S2, .f32⟩
  | 123 => ⟨S2x1, .f32⟩
  | 124 => ⟨S2x1024, .f32⟩
  | 125 => ⟨S2x8x128, .f32⟩
  | 126 => ⟨S_, .f32⟩
  | 127 => ⟨S_, .f32⟩
  | _ => ⟨S20000x2, .f32⟩

abbrev hbmTy0_1 (i : Nat) : BufTy := match i % 128 with
  | 0 => ⟨S2x1024, .f32⟩
  | 1 => ⟨S2x8x128, .f32⟩
  | 2 => ⟨S2x1000x1, .f32⟩
  | 3 => ⟨S2x1000, .f32⟩
  | 4 => ⟨S_, .f32⟩
  | 5 => ⟨S_, .f32⟩
  | 6 => ⟨S2x1024, .f32⟩
  | 7 => ⟨S2x8x128, .f32⟩
  | 8 => ⟨S2x1000x1, .f32⟩
  | 9 => ⟨S2x1000, .f32⟩
  | 10 => ⟨S_, .f32⟩
  | 11 => ⟨S_, .f32⟩
  | 12 => ⟨S2x1024, .f32⟩
  | 13 => ⟨S2x8x128, .f32⟩
  | 14 => ⟨S2x1x1000, .f32⟩
  | 15 => ⟨S2x1000, .f32⟩
  | 16 => ⟨S_, .f32⟩
  | 17 => ⟨S_, .f32⟩
  | 18 => ⟨S2x1024, .f32⟩
  | 19 => ⟨S2x8x128, .f32⟩
  | 20 => ⟨S2x1x1000, .f32⟩
  | 21 => ⟨S2x1000, .f32⟩
  | 22 => ⟨S_, .f32⟩
  | 23 => ⟨S_, .f32⟩
  | 24 => ⟨S2x1024, .f32⟩
  | 25 => ⟨S2x8x128, .f32⟩
  | 26 => ⟨S2x1x1000, .f32⟩
  | 27 => ⟨S2x1000, .f32⟩
  | 28 => ⟨S_, .f32⟩
  | 29 => ⟨S_, .f32⟩
  | 30 => ⟨S2x1024, .f32⟩
  | 31 => ⟨S2x8x128, .f32⟩
  | 32 => ⟨S2x1x1000, .f32⟩
  | 33 => ⟨S2x1000, .f32⟩
  | 34 => ⟨S_, .f32⟩
  | 35 => ⟨S_, .f32⟩
  | 36 => ⟨S2x1024, .f32⟩
  | 37 => ⟨S2x8x128, .f32⟩
  | 38 => ⟨S2x1000, .f32⟩
  | 39 => ⟨S_, .f32⟩
  | 40 => ⟨S_, .f32⟩
  | 41 => ⟨S2x1024, .f32⟩
  | 42 => ⟨S2x8x128, .f32⟩
  | 43 => ⟨S2x1000, .f32⟩
  | 44 => ⟨S_, .f32⟩
  | 45 => ⟨S_, .f32⟩
  | 46 => ⟨S2x1024, .f32⟩
  | 47 => ⟨S2x8x128, .f32⟩
  | 48 => ⟨S2x8x128, .f32⟩
  | 49 => ⟨S2x8x128, .f32⟩
  | 50 => ⟨S2x8x128, .f32⟩
  | 51 => ⟨S2x8x128, .f32⟩
  | 52 => ⟨S2x8x128, .f32⟩
  | 53 => ⟨S2x1024, .f32⟩
  | 54 => ⟨S2x1000, .f32⟩
  | 55 => ⟨S2x8x128x1, .f32⟩
  | 56 => ⟨S2x8x128x1, .f32⟩
  | 57 => ⟨S2x8x128x1, .f32⟩
  | 58 => ⟨S2x8x128x1, .f32⟩
  | 59 => ⟨S2x8x128x4, .f32⟩
  | 60 => ⟨S2x1024x4, .f32⟩
  | 61 => ⟨S2x1000x4, .f32⟩
  | 62 => ⟨S2x100, .f32⟩
  | 63 => ⟨S2x100, .i32⟩
  | 64 => ⟨S2x100x1, .i32⟩
  | 65 => ⟨S_, .i32⟩
  | 66 => ⟨S2x100x1, .i32⟩
  | 67 => ⟨S2x100x1, .i1⟩
  | 68 => ⟨S_, .i32⟩
  | 69 => ⟨S2x100x1, .i32⟩
  | 70 => ⟨S2x100x1, .i32⟩
  | 71 => ⟨S2x100x1, .i32⟩
  | 72 => ⟨S1, .i32⟩
  | 73 => ⟨S_, .i32⟩
  | 74 => ⟨S2x100x1, .i32⟩
  | 75 => ⟨S2x100x1, .i1⟩
  | 76 => ⟨S1x1x1, .i32⟩
  | 77 => ⟨S2x100x1, .i32⟩
  | 78 => ⟨S2x100x1, .i1⟩
  | 79 => ⟨S2x100x1, .i1⟩
  | 80 => ⟨S_, .i1⟩
  | 81 => ⟨S2x100, .i1⟩
  | 82 => ⟨S2x100x4, .f32⟩
  | 83 => ⟨S2x100x4, .i1⟩
  | 84 => ⟨S_, .f32⟩
  | 85 => ⟨S2x100x4, .f32⟩
  | 86 => ⟨S2x100x4, .f32⟩
  | 87 => ⟨S_, .i32⟩
  | 88 => ⟨S2x100, .i32⟩
  | 89 => ⟨S2x100, .i1⟩
  | 90 => ⟨S_, .i32⟩
  | 91 => ⟨S2x100, .i32⟩
  | 92 => ⟨S2x100, .i32⟩
  | 93 => ⟨S2x100, .i32⟩
  | 94 => ⟨S2x100x1, .i32⟩
  | 95 => ⟨S1, .i32⟩
  | 96 => ⟨S_, .i32⟩
  | 97 => ⟨S2x100x1, .i32⟩
  | 98 => ⟨S2x100x1, .i1⟩
  | 99 => ⟨S1x1x1, .i32⟩
  | 100 => ⟨S2x100x1, .i32⟩
  | 101 => ⟨S2x100x1, .i1⟩
  | 102 => ⟨S2x100x1, .i1⟩
  | 103 => ⟨S_, .i1⟩
  | 104 => ⟨S2x100, .i1⟩
  | 105 => ⟨S2x100, .i32⟩
  | 106 => ⟨S_, .i32⟩
  | 107 => ⟨S2x100, .i32⟩
  | 108 => ⟨S2x100, .i32⟩
  | 109 => ⟨S_, .i32⟩
  | 110 => ⟨S2x100, .i32⟩
  | 111 => ⟨S2x100, .i1⟩
  | 112 => ⟨S_, .i32⟩
  | 113 => ⟨S2x100, .i32⟩
  | 114 => ⟨S2x100, .i32⟩
  | 115 => ⟨S2x100, .i32⟩
  | 116 => ⟨S2x100x1, .i32⟩
  | 117 => ⟨S1, .i32⟩
  | 118 => ⟨S_, .i32⟩
  | 119 => ⟨S2x100x1, .i32⟩
  | 120 => ⟨S2x100x1, .i1⟩
  | 121 => ⟨S1x1x1, .i32⟩
  | 122 => ⟨S2x100x1, .i32⟩
  | 123 => ⟨S2x100x1, .i1⟩
  | 124 => ⟨S2x100x1, .i1⟩
  | 125 => ⟨S_, .i1⟩
  | 126 => ⟨S2x100, .i1⟩
  | 127 => ⟨S2x100, .i32⟩
  | _ => ⟨S20000x2, .f32⟩

abbrev hbmTy0_2 (i : Nat) : BufTy := match i % 128 with
  | 0 => ⟨S_, .i32⟩
  | 1 => ⟨S2x100, .i32⟩
  | 2 => ⟨S2x100, .i32⟩
  | _ => ⟨S20000x2, .f32⟩

abbrev hbmTy (i : Nat) : BufTy := match i / 128 with
  | 0 => hbmTy0_0 i
  | 1 => hbmTy0_1 i
  | 2 => hbmTy0_2 i
  | _ => ⟨S20000x2, .f32⟩

abbrev bufTy : (tb : Table) → Fin (tcTables nBuf tb) → BufTy
  | .hbm, ⟨i, _⟩ => hbmTy i
  | .local _ .vmem, ⟨0, _⟩ => ⟨S1x80x20000, .f32⟩
  | .local _ .vmem, ⟨1, _⟩ => ⟨S1x80x20000, .f32⟩
  | .local _ .vmem, ⟨2, _⟩ => ⟨S1x1x20000, .f32⟩
  | .local _ .vmem, ⟨3, _⟩ => ⟨S1x1x20000, .f32⟩
  | .local _ .vmem, ⟨4, _⟩ => ⟨S1x1x20000, .f32⟩
  | .local _ .vmem, ⟨5, _⟩ => ⟨S1x1x20000, .f32⟩
  | .local _ .vmem, ⟨6, _⟩ => ⟨S1x1x20000, .f32⟩
  | .local _ .vmem, ⟨7, _⟩ => ⟨S1x1x20000, .f32⟩
  | .local _ .vmem, ⟨8, _⟩ => ⟨S1x1x20000, .i32⟩
  | .local _ .vmem, ⟨9, _⟩ => ⟨S1x1x20000, .i32⟩
  | .local _ .vmem, ⟨10, _⟩ => ⟨S1x1x20000, .i32⟩
  | .local _ .vmem, ⟨11, _⟩ => ⟨S1x1x20000, .i32⟩
  | .local _ .vmem, ⟨12, _⟩ => ⟨S2x8x128, .f32⟩
  | .local _ .vmem, ⟨13, _⟩ => ⟨S2x8x128, .f32⟩
  | .local _ .vmem, ⟨14, _⟩ => ⟨S2x8x128, .f32⟩
  | .local _ .vmem, ⟨15, _⟩ => ⟨S2x8x128, .f32⟩
  | .local _ .vmem, ⟨16, _⟩ => ⟨S2x8x128, .f32⟩
  | .local _ .vmem, ⟨17, _⟩ => ⟨S2x8x128, .f32⟩
  | .local _ .vmem, ⟨18, _⟩ => ⟨S2x8x128, .f32⟩
  | .local _ .vmem, ⟨19, _⟩ => ⟨S2x8x128, .f32⟩
  | .local _ .vmem, ⟨20, _⟩ => ⟨S2x8x128, .f32⟩
  | .local _ .vmem, ⟨21, _⟩ => ⟨S2x8x128, .f32⟩
  | .local _ .vmem, ⟨22, _⟩ => ⟨S2x8x128, .f32⟩
  | .local _ .vmem, ⟨23, _⟩ => ⟨S2x8x128, .f32⟩
  | .local _ .vmem, ⟨24, _⟩ => ⟨S2x8x128, .f32⟩
  | .local _ .vmem, ⟨25, _⟩ => ⟨S2x8x128, .f32⟩
  | .local _ .vmem, ⟨26, _⟩ => ⟨S2x8x128, .f32⟩
  | .local _ .vmem, ⟨27, _⟩ => ⟨S2x8x128, .f32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_values : Ref sig .tc := ⟨.hbm, 15, rfl⟩
abbrev main_indices : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v10 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_c_4 : Ref sig .tc := ⟨.hbm, 84, rfl⟩
abbrev main_call2_v14 : Ref sig .tc := ⟨.hbm, 85, rfl⟩
abbrev main_v11 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_c_4 : Ref sig .tc := ⟨.hbm, 106, rfl⟩
abbrev main_call3_v14 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_cst : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_cst_0 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_cst_1 : Ref sig .tc := ⟨.hbm, 126, rfl⟩
abbrev main_call4_v0 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_2 : Ref sig .tc := ⟨.hbm, 132, rfl⟩
abbrev main_call5_v0 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_cst_3 : Ref sig .tc := ⟨.hbm, 138, rfl⟩
abbrev main_call6_v0 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_cst_4 : Ref sig .tc := ⟨.hbm, 144, rfl⟩
abbrev main_call7_v0 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_cst_5 : Ref sig .tc := ⟨.hbm, 150, rfl⟩
abbrev main_call8_v0 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_cst_6 : Ref sig .tc := ⟨.hbm, 156, rfl⟩
abbrev main_call9_v0 : Ref sig .tc := ⟨.hbm, 157, rfl⟩
abbrev main_v48 : Ref sig .tc := ⟨.hbm, 158, rfl⟩
abbrev main_v49 : Ref sig .tc := ⟨.hbm, 159, rfl⟩
abbrev main_v50 : Ref sig .tc := ⟨.hbm, 160, rfl⟩
abbrev main_v51 : Ref sig .tc := ⟨.hbm, 161, rfl⟩
abbrev main_cst_7 : Ref sig .tc := ⟨.hbm, 162, rfl⟩
abbrev main_call10_v0 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_cst_8 : Ref sig .tc := ⟨.hbm, 167, rfl⟩
abbrev main_call11_v0 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_cst_9 : Ref sig .tc := ⟨.hbm, 172, rfl⟩
abbrev main_call12_v0 : Ref sig .tc := ⟨.hbm, 173, rfl⟩
abbrev main_v58 : Ref sig .tc := ⟨.hbm, 174, rfl⟩
abbrev main_v59 : Ref sig .tc := ⟨.hbm, 175, rfl⟩
abbrev main_v60_0 : Ref sig .tc := ⟨.hbm, 176, rfl⟩
abbrev main_v60_1 : Ref sig .tc := ⟨.hbm, 177, rfl⟩
abbrev main_v60_2 : Ref sig .tc := ⟨.hbm, 178, rfl⟩
abbrev main_v60_3 : Ref sig .tc := ⟨.hbm, 179, rfl⟩
abbrev main_v60_4 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_values_10 : Ref sig .tc := ⟨.hbm, 190, rfl⟩
abbrev main_indices_11 : Ref sig .tc := ⟨.hbm, 191, rfl⟩
abbrev main_v70 : Ref sig .tc := ⟨.hbm, 192, rfl⟩
abbrev main_call13_c : Ref sig .tc := ⟨.hbm, 193, rfl⟩
abbrev main_call13_v0 : Ref sig .tc := ⟨.hbm, 194, rfl⟩
abbrev main_call13_v1 : Ref sig .tc := ⟨.hbm, 195, rfl⟩
abbrev main_call13_c_0 : Ref sig .tc := ⟨.hbm, 196, rfl⟩
abbrev main_call13_v2 : Ref sig .tc := ⟨.hbm, 197, rfl⟩
abbrev main_call13_v3 : Ref sig .tc := ⟨.hbm, 198, rfl⟩
abbrev main_call13_v4 : Ref sig .tc := ⟨.hbm, 199, rfl⟩
abbrev main_call13_c_1 : Ref sig .tc := ⟨.hbm, 200, rfl⟩
abbrev main_call13_c_2 : Ref sig .tc := ⟨.hbm, 201, rfl⟩
abbrev main_call13_v5 : Ref sig .tc := ⟨.hbm, 202, rfl⟩
abbrev main_call13_v6 : Ref sig .tc := ⟨.hbm, 203, rfl⟩
abbrev main_call13_v7 : Ref sig .tc := ⟨.hbm, 204, rfl⟩
abbrev main_call13_v8 : Ref sig .tc := ⟨.hbm, 205, rfl⟩
abbrev main_call13_v9 : Ref sig .tc := ⟨.hbm, 206, rfl⟩
abbrev main_call13_v10 : Ref sig .tc := ⟨.hbm, 207, rfl⟩
abbrev main_call13_c_3 : Ref sig .tc := ⟨.hbm, 208, rfl⟩
abbrev main_call13_v11 : Ref sig .tc := ⟨.hbm, 209, rfl⟩
abbrev main_call13_v12 : Ref sig .tc := ⟨.hbm, 210, rfl⟩
abbrev main_call13_v13 : Ref sig .tc := ⟨.hbm, 211, rfl⟩
abbrev main_call13_cst : Ref sig .tc := ⟨.hbm, 212, rfl⟩
abbrev main_call13_v14 : Ref sig .tc := ⟨.hbm, 213, rfl⟩
abbrev main_v71 : Ref sig .tc := ⟨.hbm, 214, rfl⟩
abbrev main_call14_c : Ref sig .tc := ⟨.hbm, 215, rfl⟩
abbrev main_call14_v0 : Ref sig .tc := ⟨.hbm, 216, rfl⟩
abbrev main_call14_v1 : Ref sig .tc := ⟨.hbm, 217, rfl⟩
abbrev main_call14_c_0 : Ref sig .tc := ⟨.hbm, 218, rfl⟩
abbrev main_call14_v2 : Ref sig .tc := ⟨.hbm, 219, rfl⟩
abbrev main_call14_v3 : Ref sig .tc := ⟨.hbm, 220, rfl⟩
abbrev main_call14_v4 : Ref sig .tc := ⟨.hbm, 221, rfl⟩
abbrev main_call14_v5 : Ref sig .tc := ⟨.hbm, 222, rfl⟩
abbrev main_call14_c_1 : Ref sig .tc := ⟨.hbm, 223, rfl⟩
abbrev main_call14_c_2 : Ref sig .tc := ⟨.hbm, 224, rfl⟩
abbrev main_call14_v6 : Ref sig .tc := ⟨.hbm, 225, rfl⟩
abbrev main_call14_v7 : Ref sig .tc := ⟨.hbm, 226, rfl⟩
abbrev main_call14_v8 : Ref sig .tc := ⟨.hbm, 227, rfl⟩
abbrev main_call14_v9 : Ref sig .tc := ⟨.hbm, 228, rfl⟩
abbrev main_call14_v10 : Ref sig .tc := ⟨.hbm, 229, rfl⟩
abbrev main_call14_v11 : Ref sig .tc := ⟨.hbm, 230, rfl⟩
abbrev main_call14_c_3 : Ref sig .tc := ⟨.hbm, 231, rfl⟩
abbrev main_call14_v12 : Ref sig .tc := ⟨.hbm, 232, rfl⟩
abbrev main_call14_v13 : Ref sig .tc := ⟨.hbm, 233, rfl⟩
abbrev main_call14_c_4 : Ref sig .tc := ⟨.hbm, 234, rfl⟩
abbrev main_call14_v14 : Ref sig .tc := ⟨.hbm, 235, rfl⟩
abbrev main_v72 : Ref sig .tc := ⟨.hbm, 236, rfl⟩
abbrev main_call15_c : Ref sig .tc := ⟨.hbm, 237, rfl⟩
abbrev main_call15_v0 : Ref sig .tc := ⟨.hbm, 238, rfl⟩
abbrev main_call15_v1 : Ref sig .tc := ⟨.hbm, 239, rfl⟩
abbrev main_call15_c_0 : Ref sig .tc := ⟨.hbm, 240, rfl⟩
abbrev main_call15_v2 : Ref sig .tc := ⟨.hbm, 241, rfl⟩
abbrev main_call15_v3 : Ref sig .tc := ⟨.hbm, 242, rfl⟩
abbrev main_call15_v4 : Ref sig .tc := ⟨.hbm, 243, rfl⟩
abbrev main_call15_v5 : Ref sig .tc := ⟨.hbm, 244, rfl⟩
abbrev main_call15_c_1 : Ref sig .tc := ⟨.hbm, 245, rfl⟩
abbrev main_call15_c_2 : Ref sig .tc := ⟨.hbm, 246, rfl⟩
abbrev main_call15_v6 : Ref sig .tc := ⟨.hbm, 247, rfl⟩
abbrev main_call15_v7 : Ref sig .tc := ⟨.hbm, 248, rfl⟩
abbrev main_call15_v8 : Ref sig .tc := ⟨.hbm, 249, rfl⟩
abbrev main_call15_v9 : Ref sig .tc := ⟨.hbm, 250, rfl⟩
abbrev main_call15_v10 : Ref sig .tc := ⟨.hbm, 251, rfl⟩
abbrev main_call15_v11 : Ref sig .tc := ⟨.hbm, 252, rfl⟩
abbrev main_call15_c_3 : Ref sig .tc := ⟨.hbm, 253, rfl⟩
abbrev main_call15_v12 : Ref sig .tc := ⟨.hbm, 254, rfl⟩
abbrev main_call15_v13 : Ref sig .tc := ⟨.hbm, 255, rfl⟩
abbrev main_call15_c_4 : Ref sig .tc := ⟨.hbm, 256, rfl⟩
abbrev main_call15_v14 : Ref sig .tc := ⟨.hbm, 257, rfl⟩
abbrev main_v73 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x80x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x20000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x20000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

@[reducible] def k1_t1_loop : Scf.Loop 32 :=
  let c0_i32 : BitVec 32 := 0#32
  let c1000_i32 : BitVec 32 := 1000#32
  let v77 : BitVec 32 := Scalar.addi c0_i32 c1000_i32
  let c1_i32 : BitVec 32 := 1#32
  ⟨c0_i32, v77, c1_i32⟩
@[reducible] def k1_t2_loop : Scf.Loop 32 :=
  let c0_i32_116 : BitVec 32 := 0#32
  let c1000_i32_117 : BitVec 32 := 1000#32
  let v176 : BitVec 32 := Scalar.addi c0_i32_116 c1000_i32_117
  let c1_i32_118 : BitVec 32 := 1#32
  ⟨c0_i32_116, v176, c1_i32_118⟩
abbrev stage1_0 : Fin 1 → Memref sig .tc .vmem S2x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2x8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S2x8x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S2x8x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S2x8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2x8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S2x8x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S2x8x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S2x8x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S2x8x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S2x8x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
-- ==== ReferenceIdeal.lean ====
abbrev S20000x2 : Shape := ⟨2, ![20000, 2]⟩
abbrev S2x80x100x200 : Shape := ⟨4, ![2, 80, 100, 200]⟩
abbrev S2x4x100x200 : Shape := ⟨4, ![2, 4, 100, 200]⟩
abbrev S2x1x100x200 : Shape := ⟨4, ![2, 1, 100, 200]⟩
abbrev S2x2 : Shape := ⟨2, ![2, 2]⟩
abbrev S2x100x200x80 : Shape := ⟨4, ![2, 100, 200, 80]⟩
abbrev S2x20000x80 : Shape := ⟨3, ![2, 20000, 80]⟩
abbrev S_ : Shape := ⟨0, ![]⟩
abbrev S2x100x200x4 : Shape := ⟨4, ![2, 100, 200, 4]⟩
abbrev S2x20000x4 : Shape := ⟨3, ![2, 20000, 4]⟩
abbrev S2x100x200x1 : Shape := ⟨4, ![2, 100, 200, 1]⟩
abbrev S2x20000 : Shape := ⟨2, ![2, 20000]⟩
abbrev S2x1000 : Shape := ⟨2, ![2, 1000]⟩
abbrev S2x1000x1 : Shape := ⟨3, ![2, 1000, 1]⟩
abbrev S1 : Shape := ⟨1, ![1]⟩
abbrev S1x1x1 : Shape := ⟨3, ![1, 1, 1]⟩
abbrev S2x1000x2 : Shape := ⟨3, ![2, 1000, 2]⟩
abbrev S2x1000x4 : Shape := ⟨3, ![2, 1000, 4]⟩
abbrev S2x1 : Shape := ⟨2, ![2, 1]⟩
abbrev S1000 : Shape := ⟨1, ![1000]⟩
abbrev S2x1x4 : Shape := ⟨3, ![2, 1, 4]⟩
abbrev S2x1x1 : Shape := ⟨3, ![2, 1, 1]⟩
abbrev S1x1000 : Shape := ⟨2, ![1, 1000]⟩
abbrev S2 : Shape := ⟨1, ![2]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 489
  | .vmem => 0
  | .smem => 0
  | _ => 0

abbrev hbmTy0_0 (i : Nat) : BufTy := match i % 128 with
  | 0 => ⟨S20000x2, .f32⟩
  | 1 => ⟨S2x80x100x200, .f32⟩
  | 2 => ⟨S2x4x100x200, .f32⟩
  | 3 => ⟨S2x1x100x200, .f32⟩
  | 4 => ⟨S2x1x100x200, .f32⟩
  | 5 => ⟨S2x2, .i32⟩
  | 6 => ⟨S2x100x200x80, .f32⟩
  | 7 => ⟨S2x20000x80, .f32⟩
  | 8 => ⟨S2x20000x80, .f32⟩
  | 9 => ⟨S2x20000x80, .f32⟩
  | 10 => ⟨S_, .f32⟩
  | 11 => ⟨S2x20000x80, .f32⟩
  | 12 => ⟨S2x20000x80, .f32⟩
  | 13 => ⟨S_, .f32⟩
  | 14 => ⟨S2x20000x80, .f32⟩
  | 15 => ⟨S2x20000x80, .f32⟩
  | 16 => ⟨S2x100x200x4, .f32⟩
  | 17 => ⟨S2x20000x4, .f32⟩
  | 18 => ⟨S2x100x200x1, .f32⟩
  | 19 => ⟨S2x20000, .f32⟩
  | 20 => ⟨S2x20000, .f32⟩
  | 21 => ⟨S2x20000, .f32⟩
  | 22 => ⟨S_, .f32⟩
  | 23 => ⟨S2x20000, .f32⟩
  | 24 => ⟨S2x20000, .f32⟩
  | 25 => ⟨S_, .f32⟩
  | 26 => ⟨S2x20000, .f32⟩
  | 27 => ⟨S2x20000, .f32⟩
  | 28 => ⟨S2x100x200x1, .f32⟩
  | 29 => ⟨S2x20000, .f32⟩
  | 30 => ⟨S2x20000, .f32⟩
  | 31 => ⟨S2x20000, .i32⟩
  | 32 => ⟨S_, .f32⟩
  | 33 => ⟨S2x20000, .f32⟩
  | 34 => ⟨S2x20000x80, .i32⟩
  | 35 => ⟨S_, .f32⟩
  | 36 => ⟨S_, .i32⟩
  | 37 => ⟨S2x20000, .f32⟩
  | 38 => ⟨S2x20000, .i32⟩
  | 39 => ⟨S_, .i32⟩
  | 40 => ⟨S2x20000, .i32⟩
  | 41 => ⟨S2x20000, .i32⟩
  | 42 => ⟨S_, .f32⟩
  | 43 => ⟨S2x20000, .f32⟩
  | 44 => ⟨S2x20000, .i1⟩
  | 45 => ⟨S2x20000, .f32⟩
  | 46 => ⟨S_, .f32⟩
  | 47 => ⟨S_, .f32⟩
  | 48 => ⟨S2x20000, .f32⟩
  | 49 => ⟨S2x20000, .f32⟩
  | 50 => ⟨S2x1000, .f32⟩
  | 51 => ⟨S2x1000, .i32⟩
  | 52 => ⟨S_, .i32⟩
  | 53 => ⟨S2x1000, .i32⟩
  | 54 => ⟨S2x1000, .i1⟩
  | 55 => ⟨S_, .i32⟩
  | 56 => ⟨S2x1000, .i32⟩
  | 57 => ⟨S2x1000, .i32⟩
  | 58 => ⟨S2x1000, .i32⟩
  | 59 => ⟨S2x1000x1, .i32⟩
  | 60 => ⟨S1, .i32⟩
  | 61 => ⟨S_, .i32⟩
  | 62 => ⟨S2x1000x1, .i32⟩
  | 63 => ⟨S2x1000x1, .i1⟩
  | 64 => ⟨S1x1x1, .i32⟩
  | 65 => ⟨S2x1000x1, .i32⟩
  | 66 => ⟨S2x1000x1, .i1⟩
  | 67 => ⟨S2x1000x1, .i1⟩
  | 68 => ⟨S_, .i1⟩
  | 69 => ⟨S2x1000, .i1⟩
  | 70 => ⟨S2x1000x2, .f32⟩
  | 71 => ⟨S2x1000x2, .i1⟩
  | 72 => ⟨S_, .f32⟩
  | 73 => ⟨S2x1000x2, .f32⟩
  | 74 => ⟨S2x1000x2, .f32⟩
  | 75 => ⟨S2x1000x1, .i32⟩
  | 76 => ⟨S_, .i32⟩
  | 77 => ⟨S2x1000x1, .i32⟩
  | 78 => ⟨S2x1000x1, .i1⟩
  | 79 => ⟨S_, .i32⟩
  | 80 => ⟨S2x1000x1, .i32⟩
  | 81 => ⟨S2x1000x1, .i32⟩
  | 82 => ⟨S2x1000x1, .i32⟩
  | 83 => ⟨S1, .i32⟩
  | 84 => ⟨S_, .i32⟩
  | 85 => ⟨S2x1000x1, .i32⟩
  | 86 => ⟨S2x1000x1, .i1⟩
  | 87 => ⟨S1x1x1, .i32⟩
  | 88 => ⟨S2x1000x1, .i32⟩
  | 89 => ⟨S2x1000x1, .i1⟩
  | 90 => ⟨S2x1000x1, .i1⟩
  | 91 => ⟨S_, .i1⟩
  | 92 => ⟨S2x1000, .i1⟩
  | 93 => ⟨S2x1000x4, .f32⟩
  | 94 => ⟨S2x1000x4, .i1⟩
  | 95 => ⟨S_, .f32⟩
  | 96 => ⟨S2x1000x4, .f32⟩
  | 97 => ⟨S2x1000x4, .f32⟩
  | 98 => ⟨S_, .i32⟩
  | 99 => ⟨S2x1000, .i32⟩
  | 100 => ⟨S2x1000, .i1⟩
  | 101 => ⟨S_, .i32⟩
  | 102 => ⟨S2x1000, .i32⟩
  | 103 => ⟨S2x1000, .i32⟩
  | 104 => ⟨S2x1000, .i32⟩
  | 105 => ⟨S2x1000x1, .i32⟩
  | 106 => ⟨S1, .i32⟩
  | 107 => ⟨S_, .i32⟩
  | 108 => ⟨S2x1000x1, .i32⟩
  | 109 => ⟨S2x1000x1, .i1⟩
  | 110 => ⟨S1x1x1, .i32⟩
  | 111 => ⟨S2x1000x1, .i32⟩
  | 112 => ⟨S2x1000x1, .i1⟩
  | 113 => ⟨S2x1000x1, .i1⟩
  | 114 => ⟨S_, .i1⟩
  | 115 => ⟨S2x1000, .i1⟩
  | 116 => ⟨S2x1000, .i32⟩
  | 117 => ⟨S_, .i32⟩
  | 118 => ⟨S2x1000, .i32⟩
  | 119 => ⟨S2x1000, .i32⟩
  | 120 => ⟨S_, .i32⟩
  | 121 => ⟨S2x1000, .i32⟩
  | 122 => ⟨S2x1000, .i1⟩
  | 123 => ⟨S_, .i32⟩
  | 124 => ⟨S2x1000, .i32⟩
  | 125 => ⟨S2x1000, .i32⟩
  | 126 => ⟨S2x1000, .i32⟩
  | 127 => ⟨S2x1000x1, .i32⟩
  | _ => ⟨S20000x2, .f32⟩

abbrev hbmTy0_1 (i : Nat) : BufTy := match i % 128 with
  | 0 => ⟨S1, .i32⟩
  | 1 => ⟨S_, .i32⟩
  | 2 => ⟨S2x1000x1, .i32⟩
  | 3 => ⟨S2x1000x1, .i1⟩
  | 4 => ⟨S1x1x1, .i32⟩
  | 5 => ⟨S2x1000x1, .i32⟩
  | 6 => ⟨S2x1000x1, .i1⟩
  | 7 => ⟨S2x1000x1, .i1⟩
  | 8 => ⟨S_, .i1⟩
  | 9 => ⟨S2x1000, .i1⟩
  | 10 => ⟨S2x1000, .i32⟩
  | 11 => ⟨S_, .i32⟩
  | 12 => ⟨S2x1000, .i32⟩
  | 13 => ⟨S2x1000, .i32⟩
  | 14 => ⟨S2x1, .i32⟩
  | 15 => ⟨S2x1, .f32⟩
  | 16 => ⟨S2x1, .i32⟩
  | 17 => ⟨S2x1, .f32⟩
  | 18 => ⟨S2x1000x1, .f32⟩
  | 19 => ⟨S2x1000, .f32⟩
  | 20 => ⟨S2x1000x1, .f32⟩
  | 21 => ⟨S2x1000, .f32⟩
  | 22 => ⟨S2x1000, .f32⟩
  | 23 => ⟨S_, .f32⟩
  | 24 => ⟨S2x1, .f32⟩
  | 25 => ⟨S2x1, .f32⟩
  | 26 => ⟨S_, .f32⟩
  | 27 => ⟨S_, .f32⟩
  | 28 => ⟨S2x1000, .f32⟩
  | 29 => ⟨S2x1000, .f32⟩
  | 30 => ⟨S2x1000, .f32⟩
  | 31 => ⟨S2x1000, .f32⟩
  | 32 => ⟨S2x1000x1, .f32⟩
  | 33 => ⟨S2x1000, .f32⟩
  | 34 => ⟨S2x1000x1, .f32⟩
  | 35 => ⟨S2x1000, .f32⟩
  | 36 => ⟨S2x1000, .f32⟩
  | 37 => ⟨S_, .f32⟩
  | 38 => ⟨S2x1, .f32⟩
  | 39 => ⟨S2x1, .f32⟩
  | 40 => ⟨S_, .f32⟩
  | 41 => ⟨S_, .f32⟩
  | 42 => ⟨S2x1000, .f32⟩
  | 43 => ⟨S2x1000, .f32⟩
  | 44 => ⟨S2x1000, .f32⟩
  | 45 => ⟨S2x1000, .f32⟩
  | 46 => ⟨S2x1000x1, .f32⟩
  | 47 => ⟨S2x1000, .f32⟩
  | 48 => ⟨S2x1000x1, .f32⟩
  | 49 => ⟨S2x1000, .f32⟩
  | 50 => ⟨S2x1000, .f32⟩
  | 51 => ⟨S_, .f32⟩
  | 52 => ⟨S2x1, .f32⟩
  | 53 => ⟨S2x1, .f32⟩
  | 54 => ⟨S_, .f32⟩
  | 55 => ⟨S_, .f32⟩
  | 56 => ⟨S2x1000, .f32⟩
  | 57 => ⟨S2x1000, .f32⟩
  | 58 => ⟨S2x1000, .f32⟩
  | 59 => ⟨S2x1000, .f32⟩
  | 60 => ⟨S2x1000x1, .f32⟩
  | 61 => ⟨S2x1000, .f32⟩
  | 62 => ⟨S2x1000x1, .f32⟩
  | 63 => ⟨S2x1000, .f32⟩
  | 64 => ⟨S2x1000, .f32⟩
  | 65 => ⟨S_, .f32⟩
  | 66 => ⟨S2x1, .f32⟩
  | 67 => ⟨S2x1, .f32⟩
  | 68 => ⟨S_, .f32⟩
  | 69 => ⟨S_, .f32⟩
  | 70 => ⟨S2x1000, .f32⟩
  | 71 => ⟨S2x1000, .f32⟩
  | 72 => ⟨S2x1000, .f32⟩
  | 73 => ⟨S2x1000, .f32⟩
  | 74 => ⟨S2x1000x1, .f32⟩
  | 75 => ⟨S2x1000x1, .f32⟩
  | 76 => ⟨S2x1000x1, .f32⟩
  | 77 => ⟨S2x1000x1, .f32⟩
  | 78 => ⟨S2x1000x4, .f32⟩
  | 79 => ⟨S2x1000x1, .f32⟩
  | 80 => ⟨S2x1000, .f32⟩
  | 81 => ⟨S2x1000x1, .f32⟩
  | 82 => ⟨S2x1000, .f32⟩
  | 83 => ⟨S2x1000, .f32⟩
  | 84 => ⟨S_, .f32⟩
  | 85 => ⟨S2x1000, .f32⟩
  | 86 => ⟨S2x1000, .f32⟩
  | 87 => ⟨S2x1000x1, .f32⟩
  | 88 => ⟨S2x1000, .f32⟩
  | 89 => ⟨S2x1000x1, .f32⟩
  | 90 => ⟨S2x1000, .f32⟩
  | 91 => ⟨S2x1000, .f32⟩
  | 92 => ⟨S_, .f32⟩
  | 93 => ⟨S2x1000, .f32⟩
  | 94 => ⟨S2x1000, .f32⟩
  | 95 => ⟨S_, .f32⟩
  | 96 => ⟨S2x1000, .f32⟩
  | 97 => ⟨S2x1000, .i1⟩
  | 98 => ⟨S_, .f32⟩
  | 99 => ⟨S2x1000, .f32⟩
  | 100 => ⟨S2x1000, .i1⟩
  | 101 => ⟨S2x1000, .i1⟩
  | 102 => ⟨S_, .f32⟩
  | 103 => ⟨S2x1000, .f32⟩
  | 104 => ⟨S2x1000, .i1⟩
  | 105 => ⟨S2x1000, .i1⟩
  | 106 => ⟨S2x1000, .f32⟩
  | 107 => ⟨S_, .f32⟩
  | 108 => ⟨S2x1000, .f32⟩
  | 109 => ⟨S2x1000, .f32⟩
  | 110 => ⟨S2x1000, .f32⟩
  | 111 => ⟨S_, .f32⟩
  | 112 => ⟨S2x1000, .f32⟩
  | 113 => ⟨S2x1000, .f32⟩
  | 114 => ⟨S2x1000, .f32⟩
  | 115 => ⟨S2x1000x1, .f32⟩
  | 116 => ⟨S2x1000x4, .f32⟩
  | 117 => ⟨S2x1000x4, .f32⟩
  | 118 => ⟨S_, .f32⟩
  | 119 => ⟨S_, .f32⟩
  | 120 => ⟨S2x1000, .f32⟩
  | 121 => ⟨S2x1000, .f32⟩
  | 122 => ⟨S2x1000, .f32⟩
  | 123 => ⟨S2x1000, .i32⟩
  | 124 => ⟨S2x1000, .f32⟩
  | 125 => ⟨S2x1000, .i32⟩
  | 126 => ⟨S2x1000x1, .i32⟩
  | 127 => ⟨S_, .i32⟩
  | _ => ⟨S20000x2, .f32⟩

abbrev hbmTy0_2 (i : Nat) : BufTy := match i % 128 with
  | 0 => ⟨S2x1000x1, .i32⟩
  | 1 => ⟨S2x1000x1, .i1⟩
  | 2 => ⟨S_, .i32⟩
  | 3 => ⟨S2x1000x1, .i32⟩
  | 4 => ⟨S2x1000x1, .i32⟩
  | 5 => ⟨S2x1000x1, .i32⟩
  | 6 => ⟨S1, .i32⟩
  | 7 => ⟨S_, .i32⟩
  | 8 => ⟨S2x1000x1, .i32⟩
  | 9 => ⟨S2x1000x1, .i1⟩
  | 10 => ⟨S1x1x1, .i32⟩
  | 11 => ⟨S2x1000x1, .i32⟩
  | 12 => ⟨S2x1000x1, .i1⟩
  | 13 => ⟨S2x1000x1, .i1⟩
  | 14 => ⟨S_, .i1⟩
  | 15 => ⟨S2x1000, .i1⟩
  | 16 => ⟨S2x1000x4, .f32⟩
  | 17 => ⟨S2x1000x4, .i1⟩
  | 18 => ⟨S_, .f32⟩
  | 19 => ⟨S2x1000x4, .f32⟩
  | 20 => ⟨S2x1000x4, .f32⟩
  | 21 => ⟨S2x1000x1, .f32⟩
  | 22 => ⟨S2x1000, .f32⟩
  | 23 => ⟨S2x1000x1, .f32⟩
  | 24 => ⟨S2x1000, .f32⟩
  | 25 => ⟨S2x1000, .f32⟩
  | 26 => ⟨S_, .f32⟩
  | 27 => ⟨S2x1000, .f32⟩
  | 28 => ⟨S2x1000, .f32⟩
  | 29 => ⟨S2x1000x1, .f32⟩
  | 30 => ⟨S2x1000, .f32⟩
  | 31 => ⟨S2x1000x1, .f32⟩
  | 32 => ⟨S2x1000, .f32⟩
  | 33 => ⟨S2x1000, .f32⟩
  | 34 => ⟨S_, .f32⟩
  | 35 => ⟨S2x1000, .f32⟩
  | 36 => ⟨S2x1000, .f32⟩
  | 37 => ⟨S2x1000, .f32⟩
  | 38 => ⟨S1000, .i32⟩
  | 39 => ⟨S_, .i1⟩
  | 40 => ⟨S2x1000, .i1⟩
  | 41 => ⟨S_, .i32⟩
  | 42 => ⟨S_, .i32⟩
  | 43 => ⟨S2x1000x4, .f32⟩
  | 44 => ⟨S2x1000, .f32⟩
  | 45 => ⟨S1000, .i32⟩
  | 46 => ⟨S_, .i32⟩
  | 47 => ⟨S_, .i32⟩
  | 48 => ⟨S2x1000, .i1⟩
  | 49 => ⟨S_, .i32⟩
  | 50 => ⟨S_, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S2x1x4, .f32⟩
  | 62 => ⟨S2x1x1, .f32⟩
  | 63 => ⟨S2x1, .f32⟩
  | 64 => ⟨S2x1000x1, .f32⟩
  | 65 => ⟨S2x1000, .f32⟩
  | 66 => ⟨S2x1000, .f32⟩
  | 67 => ⟨S2x1000, .f32⟩
  | 68 => ⟨S2x1x1, .f32⟩
  | 69 => ⟨S2x1, .f32⟩
  | 70 => ⟨S2x1000x1, .f32⟩
  | 71 => ⟨S2x1000, .f32⟩
  | 72 => ⟨S2x1000, .f32⟩
  | 73 => ⟨S2x1000, .f32⟩
  | 74 => ⟨S2x1x1, .f32⟩
  | 75 => ⟨S2x1, .f32⟩
  | 76 => ⟨S2x1000x1, .f32⟩
  | 77 => ⟨S2x1000, .f32⟩
  | 78 => ⟨S2x1000, .f32⟩
  | 79 => ⟨S2x1000, .f32⟩
  | 80 => ⟨S2x1x1, .f32⟩
  | 81 => ⟨S2x1, .f32⟩
  | 82 => ⟨S2x1000x1, .f32⟩
  | 83 => ⟨S2x1000, .f32⟩
  | 84 => ⟨S2x1000, .f32⟩
  | 85 => ⟨S2x1000, .f32⟩
  | 86 => ⟨S2x1000, .f32⟩
  | 87 => ⟨S_, .f32⟩
  | 88 => ⟨S2x1000, .f32⟩
  | 89 => ⟨S2x1000, .f32⟩
  | 90 => ⟨S_, .f32⟩
  | 91 => ⟨S2x1000, .f32⟩
  | 92 => ⟨S2x1000, .f32⟩
  | 93 => ⟨S2x1000, .f32⟩
  | 94 => ⟨S_, .f32⟩
  | 95 => ⟨S2x1000, .f32⟩
  | 96 => ⟨S2x1000, .f32⟩
  | 97 => ⟨S_, .f32⟩
  | 98 => ⟨S2x1000, .f32⟩
  | 99 => ⟨S2x1000, .f32⟩
  | 100 => ⟨S2x1000, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S2x1, .f32⟩
  | 109 => ⟨S2x1000, .f32⟩
  | 110 => ⟨S2x1000, .f32⟩
  | 111 => ⟨S2x1000, .f32⟩
  | 112 => ⟨S2x1000, .f32⟩
  | 113 => ⟨S_, .f32⟩
  | 114 => ⟨S2x1000, .f32⟩
  | 115 => ⟨S2x1000, .i1⟩
  | 116 => ⟨S_, .i32⟩
  | 117 => ⟨S1000, .i32⟩
  | 118 => ⟨S1000, .i1⟩
  | 119 => ⟨S1x1000, .i1⟩
  | 120 => ⟨S2x1000, .i1⟩
  | 121 => ⟨S2x1000, .i1⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S20000x2, .f32⟩

abbrev hbmTy0_3 (i : Nat) : BufTy := match i % 128 with
  | 0 => ⟨S_, .i32⟩
  | 1 => ⟨S2x1, .i1⟩
  | 2 => ⟨S2x1000, .i1⟩
  | 3 => ⟨S2x1000, .i1⟩
  | 4 => ⟨S2x1000, .i1⟩
  | 5 => ⟨S2x1000, .i1⟩
  | 6 => ⟨S_, .i32⟩
  | 7 => ⟨S_, .i32⟩
  | 8 => ⟨S_, .i1⟩
  | 9 => ⟨S2x1000, .i1⟩
  | 10 => ⟨S2, .i32⟩
  | 11 => ⟨S2x1, .i32⟩
  | 12 => ⟨S_, .i32⟩
  | 13 => ⟨S2x1, .i32⟩
  | 14 => ⟨S2x1, .i1⟩
  | 15 => ⟨S_, .i32⟩
  | 16 => ⟨S2x1, .i32⟩
  | 17 => ⟨S2x1, .i32⟩
  | 18 => ⟨S2x1, .i32⟩
  | 19 => ⟨S_, .i32⟩
  | 20 => ⟨S2x1000, .i32⟩
  | 21 => ⟨S2x1000, .i1⟩
  | 22 => ⟨S_, .i32⟩
  | 23 => ⟨S2x1000, .i32⟩
  | 24 => ⟨S2x1000, .i32⟩
  | 25 => ⟨S2x1000, .i32⟩
  | 26 => ⟨S2x1000, .i32⟩
  | 27 => ⟨S2x1000x1, .i32⟩
  | 28 => ⟨S2x1000x1, .i32⟩
  | 29 => ⟨S2x1000x2, .i32⟩
  | 30 => ⟨S2x1000, .i1⟩
  | 31 => ⟨S2x1000, .i1⟩
  | 32 => ⟨S_, .f32⟩
  | 33 => ⟨S_, .f32⟩
  | 34 => ⟨S2x1000, .f32⟩
  | 35 => ⟨S2x1000, .f32⟩
  | 36 => ⟨S2x100, .f32⟩
  | 37 => ⟨S2x100, .i32⟩
  | 38 => ⟨S2x100x1, .i32⟩
  | 39 => ⟨S_, .i32⟩
  | 40 => ⟨S2x100x1, .i32⟩
  | 41 => ⟨S2x100x1, .i1⟩
  | 42 => ⟨S_, .i32⟩
  | 43 => ⟨S2x100x1, .i32⟩
  | 44 => ⟨S2x100x1, .i32⟩
  | 45 => ⟨S2x100x1, .i32⟩
  | 46 => ⟨S1, .i32⟩
  | 47 => ⟨S_, .i32⟩
  | 48 => ⟨S2x100x1, .i32⟩
  | 49 => ⟨S2x100x1, .i1⟩
  | 50 => ⟨S1x1x1, .i32⟩
  | 51 => ⟨S2x100x1, .i32⟩
  | 52 => ⟨S2x100x1, .i1⟩
  | 53 => ⟨S2x100x1, .i1⟩
  | 54 => ⟨S_, .i1⟩
  | 55 => ⟨S2x100, .i1⟩
  | 56 => ⟨S2x100x4, .f32⟩
  | 57 => ⟨S2x100x4, .i1⟩
  | 58 => ⟨S_, .f32⟩
  | 59 => ⟨S2x100x4, .f32⟩
  | 60 => ⟨S2x100x4, .f32⟩
  | 61 => ⟨S_, .i32⟩
  | 62 => ⟨S2x100, .i32⟩
  | 63 => ⟨S2x100, .i1⟩
  | 64 => ⟨S_, .i32⟩
  | 65 => ⟨S2x100, .i32⟩
  | 66 => ⟨S2x100, .i32⟩
  | 67 => ⟨S2x100, .i32⟩
  | 68 => ⟨S2x100x1, .i32⟩
  | 69 => ⟨S1, .i32⟩
  | 70 => ⟨S_, .i32⟩
  | 71 => ⟨S2x100x1, .i32⟩
  | 72 => ⟨S2x100x1, .i1⟩
  | 73 => ⟨S1x1x1, .i32⟩
  | 74 => ⟨S2x100x1, .i32⟩
  | 75 => ⟨S2x100x1, .i1⟩
  | 76 => ⟨S2x100x1, .i1⟩
  | 77 => ⟨S_, .i1⟩
  | 78 => ⟨S2x100, .i1⟩
  | 79 => ⟨S2x100, .i32⟩
  | 80 => ⟨S_, .i32⟩
  | 81 => ⟨S2x100, .i32⟩
  | 82 => ⟨S2x100, .i32⟩
  | 83 => ⟨S_, .i32⟩
  | 84 => ⟨S2x100, .i32⟩
  | 85 => ⟨S2x100, .i1⟩
  | 86 => ⟨S_, .i32⟩
  | 87 => ⟨S2x100, .i32⟩
  | 88 => ⟨S2x100, .i32⟩
  | 89 => ⟨S2x100, .i32⟩
  | 90 => ⟨S2x100x1, .i32⟩
  | 91 => ⟨S1, .i32⟩
  | 92 => ⟨S_, .i32⟩
  | 93 => ⟨S2x100x1, .i32⟩
  | 94 => ⟨S2x100x1, .i1⟩
  | 95 => ⟨S1x1x1, .i32⟩
  | 96 => ⟨S2x100x1, .i32⟩
  | 97 => ⟨S2x100x1, .i1⟩
  | 98 => ⟨S2x100x1, .i1⟩
  | 99 => ⟨S_, .i1⟩
  | 100 => ⟨S2x100, .i1⟩
  | 101 => ⟨S2x100, .i32⟩
  | 102 => ⟨S_, .i32⟩
  | 103 => ⟨S2x100, .i32⟩
  | 104 => ⟨S2x100, .i32⟩
  | _ => ⟨S20000x2, .f32⟩

abbrev hbmTy (i : Nat) : BufTy := match i / 128 with
  | 0 => hbmTy0_0 i
  | 1 => hbmTy0_1 i
  | 2 => hbmTy0_2 i
  | 3 => hbmTy0_3 i
  | _ => ⟨S20000x2, .f32⟩

abbrev bufTy : (tb : Table) → Fin (tcTables nBuf tb) → BufTy
  | .hbm, ⟨i, _⟩ => hbmTy i
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_call1_v0 : Ref sig .tc := ⟨.hbm, 34, rfl⟩
abbrev main_call1_cst : Ref sig .tc := ⟨.hbm, 35, rfl⟩
abbrev main_call1_c : Ref sig .tc := ⟨.hbm, 36, rfl⟩
abbrev main_call1_v1_0 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_v29 : Ref sig .tc := ⟨.hbm, 49, rfl⟩
abbrev main_values : Ref sig .tc := ⟨.hbm, 50, rfl⟩
abbrev main_indices : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_v14 : Ref sig .tc := ⟨.hbm, 71, rfl⟩
abbrev main_call3_cst : Ref sig .tc := ⟨.hbm, 72, rfl⟩
abbrev main_call3_v15 : Ref sig .tc := ⟨.hbm, 73, rfl⟩
abbrev main_v30 : Ref sig .tc := ⟨.hbm, 74, rfl⟩
abbrev main_v31 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_c_1 : Ref sig .tc := ⟨.hbm, 83, rfl⟩
abbrev main_call4_c_2 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_c_3 : Ref sig .tc := ⟨.hbm, 91, rfl⟩
abbrev main_call4_v11 : Ref sig .tc := ⟨.hbm, 92, rfl⟩
abbrev main_call4_v12 : Ref sig .tc := ⟨.hbm, 93, rfl⟩
abbrev main_call4_v13 : Ref sig .tc := ⟨.hbm, 94, rfl⟩
abbrev main_call4_cst : Ref sig .tc := ⟨.hbm, 95, rfl⟩
abbrev main_call4_v14 : Ref sig .tc := ⟨.hbm, 96, rfl⟩
abbrev main_v32 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_c_4 : Ref sig .tc := ⟨.hbm, 117, rfl⟩
abbrev main_call5_v14 : Ref sig .tc := ⟨.hbm, 118, rfl⟩
abbrev main_v33 : Ref sig .tc := ⟨.hbm, 119, rfl⟩
abbrev main_call6_c : Ref sig .tc := ⟨.hbm, 120, rfl⟩
abbrev main_call6_v0 : Ref sig .tc := ⟨.hbm, 121, rfl⟩
abbrev main_call6_v1 : Ref sig .tc := ⟨.hbm, 122, rfl⟩
abbrev main_call6_c_0 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_call6_v5 : Ref sig .tc := ⟨.hbm, 127, rfl⟩
abbrev main_call6_c_1 : Ref sig .tc := ⟨.hbm, 128, rfl⟩
abbrev main_call6_c_2 : Ref sig .tc := ⟨.hbm, 129, rfl⟩
abbrev main_call6_v6 : Ref sig .tc := ⟨.hbm, 130, rfl⟩
abbrev main_call6_v7 : Ref sig .tc := ⟨.hbm, 131, rfl⟩
abbrev main_call6_v8 : Ref sig .tc := ⟨.hbm, 132, rfl⟩
abbrev main_call6_v9 : Ref sig .tc := ⟨.hbm, 133, rfl⟩
abbrev main_call6_v10 : Ref sig .tc := ⟨.hbm, 134, rfl⟩
abbrev main_call6_v11 : Ref sig .tc := ⟨.hbm, 135, rfl⟩
abbrev main_call6_c_3 : Ref sig .tc := ⟨.hbm, 136, rfl⟩
abbrev main_call6_v12 : Ref sig .tc := ⟨.hbm, 137, rfl⟩
abbrev main_call6_v13 : Ref sig .tc := ⟨.hbm, 138, rfl⟩
abbrev main_call6_c_4 : Ref sig .tc := ⟨.hbm, 139, rfl⟩
abbrev main_call6_v14 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_cst_6 : Ref sig .tc := ⟨.hbm, 151, rfl⟩
abbrev main_v44 : Ref sig .tc := ⟨.hbm, 152, rfl⟩
abbrev main_v45 : Ref sig .tc := ⟨.hbm, 153, rfl⟩
abbrev main_cst_7 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_call7_v3 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_cst_8 : Ref sig .tc := ⟨.hbm, 165, rfl⟩
abbrev main_v52 : Ref sig .tc := ⟨.hbm, 166, rfl⟩
abbrev main_v53 : Ref sig .tc := ⟨.hbm, 167, rfl⟩
abbrev main_cst_9 : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_call8_v3 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_cst_10 : Ref sig .tc := ⟨.hbm, 179, rfl⟩
abbrev main_v60 : Ref sig .tc := ⟨.hbm, 180, rfl⟩
abbrev main_v61 : Ref sig .tc := ⟨.hbm, 181, rfl⟩
abbrev main_cst_11 : Ref sig .tc := ⟨.hbm, 182, rfl⟩
abbrev main_call9_v0 : Ref sig .tc := ⟨.hbm, 183, rfl⟩
abbrev main_call9_v1 : Ref sig .tc := ⟨.hbm, 184, rfl⟩
abbrev main_call9_v2 : Ref sig .tc := ⟨.hbm, 185, rfl⟩
abbrev main_call9_v3 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩
abbrev main_v65 : Ref sig .tc := ⟨.hbm, 190, rfl⟩
abbrev main_v66 : Ref sig .tc := ⟨.hbm, 191, rfl⟩
abbrev main_v67 : Ref sig .tc := ⟨.hbm, 192, rfl⟩
abbrev main_cst_12 : Ref sig .tc := ⟨.hbm, 193, rfl⟩
abbrev main_v68 : Ref sig .tc := ⟨.hbm, 194, rfl⟩
abbrev main_v69 : Ref sig .tc := ⟨.hbm, 195, rfl⟩
abbrev main_cst_13 : Ref sig .tc := ⟨.hbm, 196, rfl⟩
abbrev main_call10_v0 : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_v70 : Ref sig .tc := ⟨.hbm, 201, rfl⟩
abbrev main_v71 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_cst_14 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_cst_15 : Ref sig .tc := ⟨.hbm, 220, rfl⟩
abbrev main_v88 : Ref sig .tc := ⟨.hbm, 221, rfl⟩
abbrev main_v89 : Ref sig .tc := ⟨.hbm, 222, rfl⟩
abbrev main_cst_16 : Ref sig .tc := ⟨.hbm, 223, rfl⟩
abbrev main_v90 : Ref sig .tc := ⟨.hbm, 224, rfl⟩
abbrev main_v91 : Ref sig .tc := ⟨.hbm, 225, rfl⟩
abbrev main_cst_17 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_18 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_cst_19 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_cst_20 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_cst_21 : Ref sig .tc := ⟨.hbm, 246, rfl⟩
abbrev main_call11_v0 : Ref sig .tc := ⟨.hbm, 247, rfl⟩
abbrev main_call11_v1 : Ref sig .tc := ⟨.hbm, 248, rfl⟩
abbrev main_v108 : Ref sig .tc := ⟨.hbm, 249, rfl⟩
abbrev main_v109 : Ref sig .tc := ⟨.hbm, 250, rfl⟩
abbrev main_call12_v0 : Ref sig .tc := ⟨.hbm, 251, rfl⟩
abbrev main_call12_v1_0 : Ref sig .tc := ⟨.hbm, 252, rfl⟩
abbrev main_v110 : Ref sig .tc := ⟨.hbm, 253, rfl⟩
abbrev main_v111 : Ref sig .tc := ⟨.hbm, 254, rfl⟩
abbrev main_call13_c : Ref sig .tc := ⟨.hbm, 255, rfl⟩
abbrev main_call13_v0 : Ref sig .tc := ⟨.hbm, 256, rfl⟩
abbrev main_call13_v1 : Ref sig .tc := ⟨.hbm, 257, rfl⟩
abbrev main_call13_c_0 : Ref sig .tc := ⟨.hbm, 258, rfl⟩
abbrev main_call13_v2 : Ref sig .tc := ⟨.hbm, 259, rfl⟩
abbrev main_call13_v3 : Ref sig .tc := ⟨.hbm, 260, rfl⟩
abbrev main_call13_v4 : Ref sig .tc := ⟨.hbm, 261, rfl⟩
abbrev main_call13_c_1 : Ref sig .tc := ⟨.hbm, 262, rfl⟩
abbrev main_call13_c_2 : Ref sig .tc := ⟨.hbm, 263, rfl⟩
abbrev main_call13_v5 : Ref sig .tc := ⟨.hbm, 264, rfl⟩
abbrev main_call13_v6 : Ref sig .tc := ⟨.hbm, 265, rfl⟩
abbrev main_call13_v7 : Ref sig .tc := ⟨.hbm, 266, rfl⟩
abbrev main_call13_v8 : Ref sig .tc := ⟨.hbm, 267, rfl⟩
abbrev main_call13_v9 : Ref sig .tc := ⟨.hbm, 268, rfl⟩
abbrev main_call13_v10 : Ref sig .tc := ⟨.hbm, 269, rfl⟩
abbrev main_call13_c_3 : Ref sig .tc := ⟨.hbm, 270, rfl⟩
abbrev main_call13_v11 : Ref sig .tc := ⟨.hbm, 271, rfl⟩
abbrev main_call13_v12 : Ref sig .tc := ⟨.hbm, 272, rfl⟩
abbrev main_call13_v13 : Ref sig .tc := ⟨.hbm, 273, rfl⟩
abbrev main_call13_cst : Ref sig .tc := ⟨.hbm, 274, rfl⟩
abbrev main_call13_v14 : Ref sig .tc := ⟨.hbm, 275, rfl⟩
abbrev main_v112 : Ref sig .tc := ⟨.hbm, 276, rfl⟩
abbrev main_v113 : Ref sig .tc := ⟨.hbm, 277, rfl⟩
abbrev main_v114 : Ref sig .tc := ⟨.hbm, 278, rfl⟩
abbrev main_v115 : Ref sig .tc := ⟨.hbm, 279, rfl⟩
abbrev main_v116 : Ref sig .tc := ⟨.hbm, 280, rfl⟩
abbrev main_v117 : Ref sig .tc := ⟨.hbm, 281, rfl⟩
abbrev main_cst_22 : Ref sig .tc := ⟨.hbm, 282, rfl⟩
abbrev main_v118 : Ref sig .tc := ⟨.hbm, 283, rfl⟩
abbrev main_v119 : Ref sig .tc := ⟨.hbm, 284, rfl⟩
abbrev main_v120 : Ref sig .tc := ⟨.hbm, 285, rfl⟩
abbrev main_v121 : Ref sig .tc := ⟨.hbm, 286, rfl⟩
abbrev main_v122 : Ref sig .tc := ⟨.hbm, 287, rfl⟩
abbrev main_v123 : Ref sig .tc := ⟨.hbm, 288, rfl⟩
abbrev main_v124 : Ref sig .tc := ⟨.hbm, 289, rfl⟩
abbrev main_cst_23 : Ref sig .tc := ⟨.hbm, 290, rfl⟩
abbrev main_v125 : Ref sig .tc := ⟨.hbm, 291, rfl⟩
abbrev main_v126 : Ref sig .tc := ⟨.hbm, 292, rfl⟩
abbrev main_v127 : Ref sig .tc := ⟨.hbm, 293, rfl⟩
abbrev main_v128 : Ref sig .tc := ⟨.hbm, 294, rfl⟩
abbrev main_c_24 : Ref sig .tc := ⟨.hbm, 295, rfl⟩
abbrev main_v129 : Ref sig .tc := ⟨.hbm, 296, rfl⟩
abbrev main_c_25 : Ref sig .tc := ⟨.hbm, 297, rfl⟩
abbrev main_c_26 : Ref sig .tc := ⟨.hbm, 298, rfl⟩
abbrev main_v130_0 : Ref sig .tc := ⟨.hbm, 299, rfl⟩
abbrev main_v130_1 : Ref sig .tc := ⟨.hbm, 300, rfl⟩
abbrev main_v130_2 : Ref sig .tc := ⟨.hbm, 301, rfl⟩
abbrev main_v130_3 : Ref sig .tc := ⟨.hbm, 302, rfl⟩
abbrev main_v130_4 : Ref sig .tc := ⟨.hbm, 303, rfl⟩
abbrev main_v130_5 : Ref sig .tc := ⟨.hbm, 304, rfl⟩
abbrev main_while0c_c_40 : Ref sig .tc := ⟨.hbm, 305, rfl⟩
abbrev main_while0c_v155 : Ref sig .tc := ⟨.hbm, 306, rfl⟩
abbrev main_while0b_c_40 : Ref sig .tc := ⟨.hbm, 307, rfl⟩
abbrev main_while0b_v155 : Ref sig .tc := ⟨.hbm, 308, rfl⟩
abbrev main_while0b_call14_c : Ref sig .tc := ⟨.hbm, 309, rfl⟩
abbrev main_while0b_call14_v0 : Ref sig .tc := ⟨.hbm, 310, rfl⟩
abbrev main_while0b_call14_v1 : Ref sig .tc := ⟨.hbm, 311, rfl⟩
abbrev main_while0b_call14_c_0 : Ref sig .tc := ⟨.hbm, 312, rfl⟩
abbrev main_while0b_call14_v2 : Ref sig .tc := ⟨.hbm, 313, rfl⟩
abbrev main_while0b_call14_v3 : Ref sig .tc := ⟨.hbm, 314, rfl⟩
abbrev main_while0b_call14_c_1 : Ref sig .tc := ⟨.hbm, 315, rfl⟩
abbrev main_while0b_call14_c_2 : Ref sig .tc := ⟨.hbm, 316, rfl⟩
abbrev main_while0b_v156 : Ref sig .tc := ⟨.hbm, 317, rfl⟩
abbrev main_while0b_v157 : Ref sig .tc := ⟨.hbm, 318, rfl⟩
abbrev main_while0b_v158 : Ref sig .tc := ⟨.hbm, 319, rfl⟩
abbrev main_while0b_v159 : Ref sig .tc := ⟨.hbm, 320, rfl⟩
abbrev main_while0b_v160 : Ref sig .tc := ⟨.hbm, 321, rfl⟩
abbrev main_while0b_v161 : Ref sig .tc := ⟨.hbm, 322, rfl⟩
abbrev main_while0b_v162 : Ref sig .tc := ⟨.hbm, 323, rfl⟩
abbrev main_while0b_v163 : Ref sig .tc := ⟨.hbm, 324, rfl⟩
abbrev main_while0b_v164 : Ref sig .tc := ⟨.hbm, 325, rfl⟩
abbrev main_while0b_v165 : Ref sig .tc := ⟨.hbm, 326, rfl⟩
abbrev main_while0b_v166 : Ref sig .tc := ⟨.hbm, 327, rfl⟩
abbrev main_while0b_v167 : Ref sig .tc := ⟨.hbm, 328, rfl⟩
abbrev main_while0b_v168 : Ref sig .tc := ⟨.hbm, 329, rfl⟩
abbrev main_while0b_v169 : Ref sig .tc := ⟨.hbm, 330, rfl⟩
abbrev main_while0b_v170 : Ref sig .tc := ⟨.hbm, 331, rfl⟩
abbrev main_while0b_v171 : Ref sig .tc := ⟨.hbm, 332, rfl⟩
abbrev main_while0b_v172 : Ref sig .tc := ⟨.hbm, 333, rfl⟩
abbrev main_while0b_v173 : Ref sig .tc := ⟨.hbm, 334, rfl⟩
abbrev main_while0b_v174 : Ref sig .tc := ⟨.hbm, 335, rfl⟩
abbrev main_while0b_v175 : Ref sig .tc := ⟨.hbm, 336, rfl⟩
abbrev main_while0b_v176 : Ref sig .tc := ⟨.hbm, 337, rfl⟩
abbrev main_while0b_v177 : Ref sig .tc := ⟨.hbm, 338, rfl⟩
abbrev main_while0b_v178 : Ref sig .tc := ⟨.hbm, 339, rfl⟩
abbrev main_while0b_v179 : Ref sig .tc := ⟨.hbm, 340, rfl⟩
abbrev main_while0b_v180 : Ref sig .tc := ⟨.hbm, 341, rfl⟩
abbrev main_while0b_v181 : Ref sig .tc := ⟨.hbm, 342, rfl⟩
abbrev main_while0b_cst_41 : Ref sig .tc := ⟨.hbm, 343, rfl⟩
abbrev main_while0b_v182 : Ref sig .tc := ⟨.hbm, 344, rfl⟩
abbrev main_while0b_v183 : Ref sig .tc := ⟨.hbm, 345, rfl⟩
abbrev main_while0b_cst_42 : Ref sig .tc := ⟨.hbm, 346, rfl⟩
abbrev main_while0b_v184 : Ref sig .tc := ⟨.hbm, 347, rfl⟩
abbrev main_while0b_v185 : Ref sig .tc := ⟨.hbm, 348, rfl⟩
abbrev main_while0b_v186 : Ref sig .tc := ⟨.hbm, 349, rfl⟩
abbrev main_while0b_cst_43 : Ref sig .tc := ⟨.hbm, 350, rfl⟩
abbrev main_while0b_v187 : Ref sig .tc := ⟨.hbm, 351, rfl⟩
abbrev main_while0b_v188 : Ref sig .tc := ⟨.hbm, 352, rfl⟩
abbrev main_while0b_cst_44 : Ref sig .tc := ⟨.hbm, 353, rfl⟩
abbrev main_while0b_v189 : Ref sig .tc := ⟨.hbm, 354, rfl⟩
abbrev main_while0b_v190 : Ref sig .tc := ⟨.hbm, 355, rfl⟩
abbrev main_while0b_v191 : Ref sig .tc := ⟨.hbm, 356, rfl⟩
abbrev main_while0b_call15_c : Ref sig .tc := ⟨.hbm, 357, rfl⟩
abbrev main_while0b_call15_v0 : Ref sig .tc := ⟨.hbm, 358, rfl⟩
abbrev main_while0b_call15_v1 : Ref sig .tc := ⟨.hbm, 359, rfl⟩
abbrev main_while0b_call15_c_0 : Ref sig .tc := ⟨.hbm, 360, rfl⟩
abbrev main_while0b_call15_v2 : Ref sig .tc := ⟨.hbm, 361, rfl⟩
abbrev main_while0b_call15_v3 : Ref sig .tc := ⟨.hbm, 362, rfl⟩
abbrev main_while0b_call15_c_1 : Ref sig .tc := ⟨.hbm, 363, rfl⟩
abbrev main_while0b_v192 : Ref sig .tc := ⟨.hbm, 364, rfl⟩
abbrev main_while0b_v193 : Ref sig .tc := ⟨.hbm, 365, rfl⟩
abbrev main_while0b_v194 : Ref sig .tc := ⟨.hbm, 366, rfl⟩
abbrev main_while0b_v195 : Ref sig .tc := ⟨.hbm, 367, rfl⟩
abbrev main_while0b_v196 : Ref sig .tc := ⟨.hbm, 368, rfl⟩
abbrev main_while0b_cst_45 : Ref sig .tc := ⟨.hbm, 369, rfl⟩
abbrev main_while0b_v197 : Ref sig .tc := ⟨.hbm, 370, rfl⟩
abbrev main_while0b_v198 : Ref sig .tc := ⟨.hbm, 371, rfl⟩
abbrev main_while0b_v199 : Ref sig .tc := ⟨.hbm, 372, rfl⟩
abbrev main_while0b_v200 : Ref sig .tc := ⟨.hbm, 373, rfl⟩
abbrev main_while0b_v201 : Ref sig .tc := ⟨.hbm, 374, rfl⟩
abbrev main_while0b_v202 : Ref sig .tc := ⟨.hbm, 375, rfl⟩
abbrev main_while0b_v203 : Ref sig .tc := ⟨.hbm, 376, rfl⟩
abbrev main_while0b_v204 : Ref sig .tc := ⟨.hbm, 377, rfl⟩
abbrev main_while0b_call16_c : Ref sig .tc := ⟨.hbm, 378, rfl⟩
abbrev main_while0b_call16_v0 : Ref sig .tc := ⟨.hbm, 379, rfl⟩
abbrev main_while0b_call16_v1 : Ref sig .tc := ⟨.hbm, 380, rfl⟩
abbrev main_while0b_call16_c_0 : Ref sig .tc := ⟨.hbm, 381, rfl⟩
abbrev main_while0b_call16_v2 : Ref sig .tc := ⟨.hbm, 382, rfl⟩
abbrev main_while0b_call16_v3 : Ref sig .tc := ⟨.hbm, 383, rfl⟩
abbrev main_while0b_call16_c_1 : Ref sig .tc := ⟨.hbm, 384, rfl⟩
abbrev main_while0b_v205 : Ref sig .tc := ⟨.hbm, 385, rfl⟩
abbrev main_while0b_v206 : Ref sig .tc := ⟨.hbm, 386, rfl⟩
abbrev main_while0b_v207 : Ref sig .tc := ⟨.hbm, 387, rfl⟩
abbrev main_while0b_v208 : Ref sig .tc := ⟨.hbm, 388, rfl⟩
abbrev main_while0b_v209 : Ref sig .tc := ⟨.hbm, 389, rfl⟩
abbrev main_while0b_c_46 : Ref sig .tc := ⟨.hbm, 390, rfl⟩
abbrev main_while0b_v210 : Ref sig .tc := ⟨.hbm, 391, rfl⟩
abbrev main_c_27 : Ref sig .tc := ⟨.hbm, 392, rfl⟩
abbrev main_v131 : Ref sig .tc := ⟨.hbm, 393, rfl⟩
abbrev main_v132 : Ref sig .tc := ⟨.hbm, 394, rfl⟩
abbrev main_v133 : Ref sig .tc := ⟨.hbm, 395, rfl⟩
abbrev main_c_28 : Ref sig .tc := ⟨.hbm, 396, rfl⟩
abbrev main_v134 : Ref sig .tc := ⟨.hbm, 397, rfl⟩
abbrev main_v135 : Ref sig .tc := ⟨.hbm, 398, rfl⟩
abbrev main_c_29 : Ref sig .tc := ⟨.hbm, 399, rfl⟩
abbrev main_v136 : Ref sig .tc := ⟨.hbm, 400, rfl⟩
abbrev main_v137 : Ref sig .tc := ⟨.hbm, 401, rfl⟩
abbrev main_v138 : Ref sig .tc := ⟨.hbm, 402, rfl⟩
abbrev main_c_30 : Ref sig .tc := ⟨.hbm, 403, rfl⟩
abbrev main_v139 : Ref sig .tc := ⟨.hbm, 404, rfl⟩
abbrev main_v140 : Ref sig .tc := ⟨.hbm, 405, rfl⟩
abbrev main_c_31 : Ref sig .tc := ⟨.hbm, 406, rfl⟩
abbrev main_v141 : Ref sig .tc := ⟨.hbm, 407, rfl⟩
abbrev main_v142 : Ref sig .tc := ⟨.hbm, 408, rfl⟩
abbrev main_v143 : Ref sig .tc := ⟨.hbm, 409, rfl⟩
abbrev main_v144 : Ref sig .tc := ⟨.hbm, 410, rfl⟩
abbrev main_v145 : Ref sig .tc := ⟨.hbm, 411, rfl⟩
abbrev main_v146 : Ref sig .tc := ⟨.hbm, 412, rfl⟩
abbrev main_v147 : Ref sig .tc := ⟨.hbm, 413, rfl⟩
abbrev main_v148 : Ref sig .tc := ⟨.hbm, 414, rfl⟩
abbrev main_v149 : Ref sig .tc := ⟨.hbm, 415, rfl⟩
abbrev main_cst_32 : Ref sig .tc := ⟨.hbm, 416, rfl⟩
abbrev main_call17_v0 : Ref sig .tc := ⟨.hbm, 417, rfl⟩
abbrev main_call17_v1 : Ref sig .tc := ⟨.hbm, 418, rfl⟩
abbrev main_v150 : Ref sig .tc := ⟨.hbm, 419, rfl⟩
abbrev main_values_33 : Ref sig .tc := ⟨.hbm, 420, rfl⟩
abbrev main_indices_34 : Ref sig .tc := ⟨.hbm, 421, rfl⟩
abbrev main_v151 : Ref sig .tc := ⟨.hbm, 422, rfl⟩
abbrev main_call18_c : Ref sig .tc := ⟨.hbm, 423, rfl⟩
abbrev main_call18_v0 : Ref sig .tc := ⟨.hbm, 424, rfl⟩
abbrev main_call18_v1 : Ref sig .tc := ⟨.hbm, 425, rfl⟩
abbrev main_call18_c_0 : Ref sig .tc := ⟨.hbm, 426, rfl⟩
abbrev main_call18_v2 : Ref sig .tc := ⟨.hbm, 427, rfl⟩
abbrev main_call18_v3 : Ref sig .tc := ⟨.hbm, 428, rfl⟩
abbrev main_call18_v4 : Ref sig .tc := ⟨.hbm, 429, rfl⟩
abbrev main_call18_c_1 : Ref sig .tc := ⟨.hbm, 430, rfl⟩
abbrev main_call18_c_2 : Ref sig .tc := ⟨.hbm, 431, rfl⟩
abbrev main_call18_v5 : Ref sig .tc := ⟨.hbm, 432, rfl⟩
abbrev main_call18_v6 : Ref sig .tc := ⟨.hbm, 433, rfl⟩
abbrev main_call18_v7 : Ref sig .tc := ⟨.hbm, 434, rfl⟩
abbrev main_call18_v8 : Ref sig .tc := ⟨.hbm, 435, rfl⟩
abbrev main_call18_v9 : Ref sig .tc := ⟨.hbm, 436, rfl⟩
abbrev main_call18_v10 : Ref sig .tc := ⟨.hbm, 437, rfl⟩
abbrev main_call18_c_3 : Ref sig .tc := ⟨.hbm, 438, rfl⟩
abbrev main_call18_v11 : Ref sig .tc := ⟨.hbm, 439, rfl⟩
abbrev main_call18_v12 : Ref sig .tc := ⟨.hbm, 440, rfl⟩
abbrev main_call18_v13 : Ref sig .tc := ⟨.hbm, 441, rfl⟩
abbrev main_call18_cst : Ref sig .tc := ⟨.hbm, 442, rfl⟩
abbrev main_call18_v14 : Ref sig .tc := ⟨.hbm, 443, rfl⟩
abbrev main_v152 : Ref sig .tc := ⟨.hbm, 444, rfl⟩
abbrev main_call19_c : Ref sig .tc := ⟨.hbm, 445, rfl⟩
abbrev main_call19_v0 : Ref sig .tc := ⟨.hbm, 446, rfl⟩
abbrev main_call19_v1 : Ref sig .tc := ⟨.hbm, 447, rfl⟩
abbrev main_call19_c_0 : Ref sig .tc := ⟨.hbm, 448, rfl⟩
abbrev main_call19_v2 : Ref sig .tc := ⟨.hbm, 449, rfl⟩
abbrev main_call19_v3 : Ref sig .tc := ⟨.hbm, 450, rfl⟩
abbrev main_call19_v4 : Ref sig .tc := ⟨.hbm, 451, rfl⟩
abbrev main_call19_v5 : Ref sig .tc := ⟨.hbm, 452, rfl⟩
abbrev main_call19_c_1 : Ref sig .tc := ⟨.hbm, 453, rfl⟩
abbrev main_call19_c_2 : Ref sig .tc := ⟨.hbm, 454, rfl⟩
abbrev main_call19_v6 : Ref sig .tc := ⟨.hbm, 455, rfl⟩
abbrev main_call19_v7 : Ref sig .tc := ⟨.hbm, 456, rfl⟩
abbrev main_call19_v8 : Ref sig .tc := ⟨.hbm, 457, rfl⟩
abbrev main_call19_v9 : Ref sig .tc := ⟨.hbm, 458, rfl⟩
abbrev main_call19_v10 : Ref sig .tc := ⟨.hbm, 459, rfl⟩
abbrev main_call19_v11 : Ref sig .tc := ⟨.hbm, 460, rfl⟩
abbrev main_call19_c_3 : Ref sig .tc := ⟨.hbm, 461, rfl⟩
abbrev main_call19_v12 : Ref sig .tc := ⟨.hbm, 462, rfl⟩
abbrev main_call19_v13 : Ref sig .tc := ⟨.hbm, 463, rfl⟩
abbrev main_call19_c_4 : Ref sig .tc := ⟨.hbm, 464, rfl⟩
abbrev main_call19_v14 : Ref sig .tc := ⟨.hbm, 465, rfl⟩
abbrev main_v153 : Ref sig .tc := ⟨.hbm, 466, rfl⟩
abbrev main_call20_c : Ref sig .tc := ⟨.hbm, 467, rfl⟩
abbrev main_call20_v0 : Ref sig .tc := ⟨.hbm, 468, rfl⟩
abbrev main_call20_v1 : Ref sig .tc := ⟨.hbm, 469, rfl⟩
abbrev main_call20_c_0 : Ref sig .tc := ⟨.hbm, 470, rfl⟩
abbrev main_call20_v2 : Ref sig .tc := ⟨.hbm, 471, rfl⟩
abbrev main_call20_v3 : Ref sig .tc := ⟨.hbm, 472, rfl⟩
abbrev main_call20_v4 : Ref sig .tc := ⟨.hbm, 473, rfl⟩
abbrev main_call20_v5 : Ref sig .tc := ⟨.hbm, 474, rfl⟩
abbrev main_call20_c_1 : Ref sig .tc := ⟨.hbm, 475, rfl⟩
abbrev main_call20_c_2 : Ref sig .tc := ⟨.hbm, 476, rfl⟩
abbrev main_call20_v6 : Ref sig .tc := ⟨.hbm, 477, rfl⟩
abbrev main_call20_v7 : Ref sig .tc := ⟨.hbm, 478, rfl⟩
abbrev main_call20_v8 : Ref sig .tc := ⟨.hbm, 479, rfl⟩
abbrev main_call20_v9 : Ref sig .tc := ⟨.hbm, 480, rfl⟩
abbrev main_call20_v10 : Ref sig .tc := ⟨.hbm, 481, rfl⟩
abbrev main_call20_v11 : Ref sig .tc := ⟨.hbm, 482, rfl⟩
abbrev main_call20_c_3 : Ref sig .tc := ⟨.hbm, 483, rfl⟩
abbrev main_call20_v12 : Ref sig .tc := ⟨.hbm, 484, rfl⟩
abbrev main_call20_v13 : Ref sig .tc := ⟨.hbm, 485, rfl⟩
abbrev main_call20_c_4 : Ref sig .tc := ⟨.hbm, 486, rfl⟩
abbrev main_call20_v14 : Ref sig .tc := ⟨.hbm, 487, rfl⟩
abbrev main_v154 : Ref sig .tc := ⟨.hbm, 488, rfl⟩

abbrev nD : Nat := 1
abbrev τ : Topo := Topo.v7x

variable {F : FTy → Type} [FloatOps F]

abbrev main_while0_count : Scf.Loop 32 := ⟨0#32, 1000#32, 1#32⟩
-- ==== Proof.Body0Ideal.lean ====
/- The score kernel's body, and the region that launches it: what one run of the body leaves in its three output
   blocks, for any float values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.ValueKit.Basic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱₀ : Variants) (V : (c : Dev nD) → (b : Ref sig .tc) → Buf (Elt F) ((c : Thread nD τ).loc b))

/-- One run of the score body on whole blocks: the inputs stay, and the three outputs hold the masked score, the label
    and the rounded tag of the inputs. -/
theorem score_body (c : Dev nD) (i : grid0.Coords) (a1 : Memref sig .tc .vmem S1x80x20000 .f32) (h1 : a1.IsWhole)
    (a2 : Memref sig .tc .vmem S1x1x20000 .f32) (h2 : a2.IsWhole) (a3 : Memref sig .tc .vmem S1x1x20000 .f32) (h3 : a3.IsWhole)
    (a4 : Memref sig .tc .vmem S1x1x20000 .f32) (h4 : a4.IsWhole) (a5 : Memref sig .tc .vmem S1x1x20000 .i32) (h5 : a5.IsWhole)
    (a6 : Memref sig .tc .vmem S1x1x20000 .i32) (h6 : a6.IsWhole)
    (x0 : Vec F S1x80x20000 .f32) (x1 x2 : Vec F S1x1x20000 .f32) (E : Set ℕ) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (k0_pay4 x0 x1) ∗ owns (c : Thread nD τ) a5 fullShare (k0_pay5 x0)
            ∗ owns (c : Thread nD τ) a6 fullShare (k0_pay1 (k0_pay6 x2))) -∗ K ⟨⟩))
      ⊢ wp frame (wpE (defs₀ (F := F)) 𝒱₀ c none) E (cc0__score_body i a1 h1 a2 h2 a3 h3 a4 h4 a5 h5 a6 h6) K := by
  simp only [cc0__score_body_eq_skeleton]; unfold cc0__score_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := h1.eq_unread hf0; obtain rfl := h2.eq_unread hf1; obtain rfl := h3.eq_unread hf2
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  have z : ∀ a : Fin 3, (![0, 0, 0] : Fin 3 → ℕ) a = 0 := by decide
  isplitl [H3]
  · iexists _; isplitr; swap; · iexact H3
    · ipureintro
      refine (View.read_writes_eq_canon _ _ _ (View.cover_of_tiledL _ S1x1x20000.size (by sl_kernel_rfl))).trans ?_
      rw [View.canon_cons_unit_lit _ _ _ z, View.readAt_eq_ld, View.readAt_eq_ld, h1.read_unread, h2.read_unread]
      rw [View.ld_unit_lit _ _ z, View.ld_unit_lit _ _ z]
  isplitl [H4]
  · iexists _; isplitr; swap; · iexact H4
    · ipureintro
      refine (View.read_writes_eq_canon _ _ _ (View.cover_of_tiledL _ S1x1x20000.size (by sl_kernel_rfl))).trans ?_
      rw [View.canon_cons_unit_lit _ _ _ z, View.readAt_eq_ld, h1.read_unread, View.ld_unit_lit _ _ z]
  iexists _; isplitr; swap; · iexact H5
  · ipureintro
    refine (View.read_writes_eq_canon _ _ _ (View.cover_of_tiledL _ S1x1x20000.size (by sl_kernel_rfl))).trans ?_
    rw [View.canon_cons_unit_lit _ _ _ z]
    unfold score_body.sl.r
    rw [View.readAt_eq_ld, h3.read_unread, View.ld_unit_lit _ _ z]

/-! ## The region's proof data -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The score region: the arrays as found; after a point each input block still there and each output block what the
    body computes from the input blocks; nothing else kept, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay4 (blk0 V c 0 t) (blk0 V c 1 t)
    | ⟨4, _⟩ => k0_pay5 (blk0 V c 0 t)
    | ⟨5, _⟩ => k0_pay1 (k0_pay6 (blk0 V c 2 t))
  Φ _ := Pipeline.scopedRest spec0 c
  q _ := fullShare
  owed _ := 0

theorem before0_0 (c : Dev nD) (t : Fin cfg0.N) (d) : (dat0 V c).before 0 t d = blk0 V c 0 t :=
  (dat0 V c).before_in_eq_fetched 0 rfl (fun _ => rfl) (fun _ _ _ => rfl) (fun _ => rfl) t d
theorem before0_1 (c : Dev nD) (t : Fin cfg0.N) (d) : (dat0 V c).before 1 t d = blk0 V c 1 t :=
  (dat0 V c).before_in_eq_fetched 1 rfl (fun _ => rfl) (fun _ _ _ => rfl) (fun _ => rfl) t d
theorem before0_2 (c : Dev nD) (t : Fin cfg0.N) (d) : (dat0 V c).before 2 t d = blk0 V c 2 t :=
  (dat0 V c).before_in_eq_fetched 2 rfl (fun _ => rfl) (fun _ _ _ => rfl) (fun _ => rfl) t d

/-- The body at point `t`: from what the region holds there to what it must hold after. -/
theorem point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d)))
      ⊢ wp frame (wpE (defs₀ (F := F)) 𝒱₀ c none) Set.univ (bodyAt0 t) fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t)) := by
  unfold bodyAt0
  simp only [before0_0, before0_1, before0_2]
  rw [show (dat0 V c).Φ t.succ = (dat0 V c).Φ t.castSucc from rfl, show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (score_body 𝒱₀ c (grid0.coords t) _ _ _ _ _ _ _ _ _ _ _ _ (blk0 V c 0 t) (blk0 V c 1 t) (blk0 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point, in the shape the region asks for. -/
theorem obligation0 (c : Dev nD) : BodyObligation (dat0 V c) (defs₀ (F := F)) 𝒱₀ () Set.univ := fun t => by
  rw [bigSep_W0, bigSep_W0, show defs₀ (F := F) .tc cfg0.body (cfg0.bodyArgs t (cfg0.slots t)) = bodyAt0 t from by
    unfold defs₀; rw [Defs.onTc_tc]]
  exact triple_restated (point0 𝒱₀ V c t) rfl .rfl fun _ => .rfl

end Cert.KernelIdeal.Run

end
-- ==== Proof.ImageIdeal.lean ====
/- What the suppression kernel computes for one image, as one function of that image's eleven rows of values. -/
module

public import proofs.«01_k».proof.Proof.Gen.KernelIdeal.Skeleton
public import Idealize.ShloMosaic.Lib.Exec
public import Idealize.ShloMosaic.Lib.Pipeline.FrameBody

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- A constant over the image's tile. -/
def tile (w : BitVec 32) : FVec F S8x128 .f32 := broadcast S8x128 (Scalar.ofBits .f32 w)

/-- A corner coordinate on the near side: `min (max (l - r) 0) bound`; -/
def near (l r w : FVec F S8x128 .f32) : FVec F S8x128 .f32 := minimumf (maximumf (subf l r) (tile 0x00000000#32)) w
/-- and on the far side: `min (max (l + r) 0) bound`. -/
def far (l r w : FVec F S8x128 .f32) : FVec F S8x128 .f32 := minimumf (maximumf (addf l r) (tile 0x00000000#32)) w
/-- A side: `hi - lo + 1`. -/
def side (lo hi : FVec F S8x128 .f32) : FVec F S8x128 .f32 := addf (subf hi lo) (tile 0x3F800000#32)

/-- A candidate counts when its score is positive and its sides are not negative. -/
def good (tv ws hs : FVec F S8x128 .f32) : IVec S8x128 1 :=
  andi (andi (cmpf .ogt tv (tile 0x00000000#32)) (cmpf .oge ws (tile 0x00000000#32))) (cmpf .oge hs (tile 0x00000000#32))
/-- The same as a number, one or zero. -/
def goodf (b : IVec S8x128 1) : FVec F S8x128 .f32 := select b (tile 0x3F800000#32) (tile 0x00000000#32)

/-- The shift that separates classes and tags: `100000 label + 10000 tag`. -/
def shift (lab tag : FVec F S8x128 .f32) : FVec F S8x128 .f32 :=
  addf (mulf lab (tile 0x47C35000#32)) (mulf tag (tile 0x461C4000#32))

/-- The number of each cell of the tile, rows first. -/
def number : IVec S8x128 32 :=
  addi (muli (iota .tc S8x128 32 [0] iota_S8x128_d0_w32) (broadcast S8x128 128#32)) (iota .tc S8x128 32 [1] iota_S8x128_d1_w32)

/-- The entry of `a` at cell `i`, read out as a maximum against the fill elsewhere. -/
def pick (fill : BitVec 32) (i : BitVec 32) (a : FVec F S8x128 .f32) : F .f32 :=
  extractAt ![0, 0, 0] (shapeCast S1x1x1 (multiReduction .maximumf [1, 2] S1
    (shapeCast S1x8x128 (select (cmpi .eq number (broadcast S8x128 i)) a (tile fill)) shapeCasts_S8x128_S1x8x128)
    0xFF800000#32 reduces_S1x8x128_S1 (.inl rfl) rfl) shapeCasts_S1_S1x1x1) inpos_S1x1x1_p0_0_0

/-- The overlap of a picked box's span with every box's, in one direction. -/
def overlap (i : BitVec 32) (lo hi : FVec F S8x128 .f32) : FVec F S8x128 .f32 :=
  maximumf (addf (subf (minimumf (broadcast S8x128 (pick 0xFF61B1E6#32 i hi)) hi)
    (maximumf (broadcast S8x128 (pick 0xFF61B1E6#32 i lo)) lo)) (tile 0x3F800000#32)) (tile 0x00000000#32)

/-- The intersection over the union of box `i` with every box. -/
def ratio (i : BitVec 32) (x1 y1 x2 y2 ar : FVec F S8x128 .f32) : FVec F S8x128 .f32 :=
  divf (mulf (overlap i x1 x2) (overlap i y1 y2))
    (subf (addf (broadcast S8x128 (pick 0xFF61B1E6#32 i ar)) ar) (mulf (overlap i x1 x2) (overlap i y1 y2)))

/-- One trip of the suppression: box `i`, if still kept and good, removes the later boxes that overlap it by more than
    one half. -/
def trip (gf x1 y1 x2 y2 ar : FVec F S8x128 .f32) (i : BitVec 32) (keep : FVec F S8x128 .f32) : FVec F S8x128 .f32 :=
  mulf keep (subf (tile 0x3F800000#32) (mulf
    (select (andi (cmpf .ogt (ratio i x1 y1 x2 y2 ar) (tile 0x3F000000#32)) (cmpi .sgt number (broadcast S8x128 i)))
      (tile 0x3F800000#32) (tile 0x00000000#32))
    (broadcast S8x128 (pick 0x00000000#32 i (mulf keep gf)))))

/-- The thousand trips from everything kept. -/
def kept (gf x1 y1 x2 y2 ar : FVec F S8x128 .f32) : FVec F S8x128 .f32 :=
  Scf.fold (n := k1_t1_loop.trips) (fun t keep => trip gf x1 y1 x2 y2 ar (Scf.iv 0#32 1#32 t) keep) (tile 0x3F800000#32)

/-- The score of a candidate that is kept and good, `-1` otherwise. -/
def final (tv keep : FVec F S8x128 .f32) (b : IVec S8x128 1) : FVec F S8x128 .f32 :=
  select (andi (cmpf .ogt keep (tile 0x00000000#32)) b) tv (tile 0xBF800000#32)

/-- One image's eleven rows of values. -/
structure Rows (F : FTy → Type) where
  tv : FVec F S8x128 .f32
  lx : FVec F S8x128 .f32
  ly : FVec F S8x128 .f32
  r0 : FVec F S8x128 .f32
  r1 : FVec F S8x128 .f32
  r2 : FVec F S8x128 .f32
  r3 : FVec F S8x128 .f32
  lab : FVec F S8x128 .f32
  tag : FVec F S8x128 .f32
  wm : FVec F S8x128 .f32
  hm : FVec F S8x128 .f32

namespace Rows
variable (r : Rows F)
/-- The four corner coordinates; -/
def x1 : FVec F S8x128 .f32 := near r.lx r.r0 r.wm
def y1 : FVec F S8x128 .f32 := near r.ly r.r1 r.hm
def x2 : FVec F S8x128 .f32 := far r.lx r.r2 r.wm
def y2 : FVec F S8x128 .f32 := far r.ly r.r3 r.hm
/-- which candidates count; -/
def ok : IVec S8x128 1 := good r.tv (side r.x1 r.x2) (side r.y1 r.y2)
/-- the shift; -/
def off : FVec F S8x128 .f32 := shift r.lab r.tag
/-- the shifted boxes' areas; -/
def area : FVec F S8x128 .f32 := mulf (side (addf r.x1 r.off) (addf r.x2 r.off)) (side (addf r.y1 r.off) (addf r.y2 r.off))
/-- what the trips keep; -/
def keep : FVec F S8x128 .f32 :=
  kept (goodf r.ok) (addf r.x1 r.off) (addf r.y1 r.off) (addf r.x2 r.off) (addf r.y2 r.off) r.area
/-- and the final score. -/
def fin : FVec F S8x128 .f32 := final r.tv r.keep r.ok
end Rows

/-- A block of one image as a tile; -/
abbrev flat (x : FVec F S1x8x128 .f32) : FVec F S8x128 .f32 := shapeCast S8x128 x shapeCasts_S1x8x128_S8x128
/-- and back. -/
abbrev slab (x : FVec F S8x128 .f32) : FVec F S1x8x128 .f32 := shapeCast S1x8x128 x shapeCasts_S8x128_S1x8x128

/-- An eleven-fold of one-image blocks as rows. -/
def rows (b0 b1 b2 b3 b4 b5 b6 b7 b8 b9 b10 : FVec F S1x8x128 .f32) : Rows F :=
  ⟨flat b0, flat b1, flat b2, flat b3, flat b4, flat b5, flat b6, flat b7, flat b8, flat b9, flat b10⟩

/-- Image `n`'s block of a two-image array, as a load of it reads: image 0's, -/
abbrev block0 (x : FVec F S2x8x128 .f32) : FVec F S1x8x128 .f32 := View.ld (Val := Elt F) (e' := .f32) x (Rect.unit (s := S2x8x128) ![0, 0, 0] S1x8x128.size inb_S2x8x128_S1x8x128_0_0_0)
/-- and image 1's. -/
abbrev block1 (x : FVec F S2x8x128 .f32) : FVec F S1x8x128 .f32 := View.ld (Val := Elt F) (e' := .f32) x (Rect.unit (s := S2x8x128) ![1, 0, 0] S1x8x128.size inb_S2x8x128_S1x8x128_1_0_0)

/-- The two images' stores into one output block, the later first. -/
def both (p q : FVec F S8x128 .f32) : List (View.Piece (Elt F) S2x8x128 .f32) :=
  [⟨Rect.unit (s := S2x8x128) ![1, 0, 0] S1x8x128.size inb_S2x8x128_S1x8x128_1_0_0, slab q⟩,
    ⟨Rect.unit (s := S2x8x128) ![0, 0, 0] S1x8x128.size inb_S2x8x128_S1x8x128_0_0_0, slab p⟩]

end Cert.KernelIdeal.Run

end
-- ==== Proof.ChainIdeal.lean ====
/- The suppression kernel's stored values, statement group by statement group, in the words of Image.lean. The kernel
   runs its two images one after the other; each theorem speaks of the same step of both. -/
module

public import proofs.«01_k».proof.Proof.ImageIdeal

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- A loaded block as a tile. -/
theorem flat_steps (v : FVec F S1x8x128 .f32) :
    k1_pay21 v = flat v ∧ k1_pay22 v = flat v ∧ k1_pay23 v = flat v ∧ k1_pay24 v = flat v ∧ k1_pay25 v = flat v ∧ k1_pay29 v = flat v
    ∧ k1_pay47 v = flat v ∧ k1_pay48 v = flat v ∧ k1_pay49 v = flat v ∧ k1_pay50 v = flat v ∧ k1_pay51 v = flat v :=
  ⟨rfl, rfl, rfl, rfl, rfl, rfl, rfl, rfl, rfl, rfl, rfl⟩

/-- The corner coordinates. -/
theorem corner_steps (l w r : FVec F S1x8x128 .f32) :
    k1_pay26 l w r = near (flat l) (flat r) (flat w) ∧ k1_pay27 l w r = near (flat l) (flat r) (flat w)
    ∧ k1_pay28 l w r = far (flat l) (flat r) (flat w) ∧ k1_pay52 l w r = near (flat l) (flat r) (flat w)
    ∧ k1_pay53 l w r = near (flat l) (flat r) (flat w) ∧ k1_pay54 l w r = far (flat l) (flat r) (flat w) :=
  ⟨rfl, rfl, rfl, rfl, rfl, rfl⟩

/-- The last one, which the kernel cuts in two for its second image. -/
theorem last_steps (l w r : FVec F S8x128 .f32) : k1_pay30 l w r = far l r w ∧ k1_pay56 w (maximumf (addf l r) (tile 0x00000000#32)) = far l r w := ⟨rfl, rfl⟩
theorem sum_step (l r : FVec F S1x8x128 .f32) : k1_pay55 l r = maximumf (addf (flat l) (flat r)) (tile 0x00000000#32) := rfl

/-- Which candidates count, as a truth value and as a number. -/
theorem good_steps (tv l w x1 y1 x2 r : FVec F S8x128 .f32) :
    k1_pay31 tv l w x1 y1 x2 r = good tv (side x1 x2) (side y1 (far l r w))
    ∧ k1_pay57 tv w x1 y1 x2 (maximumf (addf l r) (tile 0x00000000#32)) = good tv (side x1 x2) (side y1 (far l r w))
    ∧ k1_pay32 tv l w x1 y1 x2 r = goodf (good tv (side x1 x2) (side y1 (far l r w)))
    ∧ k1_pay58 tv w x1 y1 x2 (maximumf (addf l r) (tile 0x00000000#32)) = goodf (good tv (side x1 x2) (side y1 (far l r w))) :=
  ⟨rfl, rfl, rfl, rfl⟩

/-- The shifted corners. -/
theorem shifted_steps (x : FVec F S8x128 .f32) (lab tag : FVec F S1x8x128 .f32) :
    k1_pay34 x lab tag = addf x (shift (flat lab) (flat tag)) ∧ k1_pay35 x lab tag = addf x (shift (flat lab) (flat tag))
    ∧ k1_pay36 x lab tag = addf x (shift (flat lab) (flat tag)) ∧ k1_pay60 x lab tag = addf x (shift (flat lab) (flat tag))
    ∧ k1_pay61 x lab tag = addf x (shift (flat lab) (flat tag)) ∧ k1_pay62 x lab tag = addf x (shift (flat lab) (flat tag)) :=
  ⟨rfl, rfl, rfl, rfl, rfl, rfl⟩
theorem shifted_last (l w r : FVec F S8x128 .f32) (lab tag : FVec F S1x8x128 .f32) :
    k1_pay37 l w r lab tag = addf (far l r w) (shift (flat lab) (flat tag))
    ∧ k1_pay63 w (maximumf (addf l r) (tile 0x00000000#32)) lab tag = addf (far l r w) (shift (flat lab) (flat tag)) := ⟨rfl, rfl⟩

/-- The areas of the shifted boxes. -/
theorem area_steps (l w x1 y1 x2 r : FVec F S8x128 .f32) (lab tag : FVec F S1x8x128 .f32) :
    k1_pay38 l w x1 y1 x2 r lab tag
        = mulf (side (addf x1 (shift (flat lab) (flat tag))) (addf x2 (shift (flat lab) (flat tag))))
          (side (addf y1 (shift (flat lab) (flat tag))) (addf (far l r w) (shift (flat lab) (flat tag))))
    ∧ k1_pay64 w x1 y1 x2 (maximumf (addf l r) (tile 0x00000000#32)) lab tag
        = mulf (side (addf x1 (shift (flat lab) (flat tag))) (addf x2 (shift (flat lab) (flat tag))))
          (side (addf y1 (shift (flat lab) (flat tag))) (addf (far l r w) (shift (flat lab) (flat tag)))) :=
  ⟨rfl, rfl⟩

/-- The thousand trips: image 0's, -/
theorem loop0 (gf x1 y1 x2 y2 ar : FVec F S8x128 .f32) :
    Scf.fold (n := k1_t1_loop.trips) (fun t keep =>
      k1_pay41 y1 ar (iota .tc S8x128 32 [0] iota_S8x128_d0_w32) keep (Scf.iv 0#32 1#32 t)
        (k1_pay10 y1 (k1_pay39 (iota .tc S8x128 32 [0] iota_S8x128_d0_w32)) (FloatOps.ofBits .f32 0xFF61B1E6#32) 0#32 1#32 t)
        (k1_pay11 ar (k1_pay39 (iota .tc S8x128 32 [0] iota_S8x128_d0_w32)) (FloatOps.ofBits .f32 0xFF61B1E6#32) 0#32 1#32 t)
        (k1_pay12 gf (k1_pay39 (iota .tc S8x128 32 [0] iota_S8x128_d0_w32)) 0#32 1#32 t keep)
        (k1_pay13 x1 x2 (k1_pay39 (iota .tc S8x128 32 [0] iota_S8x128_d0_w32)) (FloatOps.ofBits .f32 0xFF61B1E6#32) 0#32 1#32 t)
        (k1_pay14 y2 (k1_pay39 (iota .tc S8x128 32 [0] iota_S8x128_d0_w32)) (FloatOps.ofBits .f32 0xFF61B1E6#32) 0#32 1#32 t)) k1_pay40
      = kept gf x1 y1 x2 y2 ar := rfl

/-- and image 1's. -/
theorem loop1 (gf x1 y1 x2 y2 ar : FVec F S8x128 .f32) :
    Scf.fold (n := k1_t2_loop.trips) (fun t keep =>
      k1_pay3 y1 ar (iota .tc S8x128 32 [1] iota_S8x128_d1_w32) k1_pay65 keep (Scf.iv 0#32 1#32 t)
        (k1_pay16 y1 (k1_pay1 (iota .tc S8x128 32 [1] iota_S8x128_d1_w32) k1_pay65) (FloatOps.ofBits .f32 0xFF61B1E6#32) 0#32 1#32 t)
        (k1_pay17 ar (k1_pay1 (iota .tc S8x128 32 [1] iota_S8x128_d1_w32) k1_pay65) (FloatOps.ofBits .f32 0xFF61B1E6#32) 0#32 1#32 t)
        (k1_pay18 gf (k1_pay1 (iota .tc S8x128 32 [1] iota_S8x128_d1_w32) k1_pay65) 0#32 1#32 t keep)
        (k1_pay19 x1 x2 (k1_pay1 (iota .tc S8x128 32 [1] iota_S8x128_d1_w32) k1_pay65) (FloatOps.ofBits .f32 0xFF61B1E6#32) 0#32 1#32 t)
        (k1_pay20 y2 (k1_pay1 (iota .tc S8x128 32 [1] iota_S8x128_d1_w32) k1_pay65) (FloatOps.ofBits .f32 0xFF61B1E6#32) 0#32 1#32 t)) k1_pay2
      = kept gf x1 y1 x2 y2 ar := rfl

/-- What is stored of the final scores. -/
theorem final_steps (tv keep : FVec F S8x128 .f32) (b : IVec S8x128 1) :
    k1_pay42 tv b keep = slab (final tv keep b) ∧ k1_pay4 tv b keep = slab (final tv keep b) := ⟨rfl, rfl⟩

end Cert.KernelIdeal.Run

end
-- ==== Proof.Body1Ideal.lean ====
/- The suppression kernel's body, and the region that launches it: what its run leaves in its five output blocks, for
   any float values. -/
module

public import proofs.«01_k».proof.Proof.ChainIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.ValueKit.Basic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱₀ : Variants) (V : (c : Dev nD) → (b : Ref sig .tc) → Buf (Elt F) ((c : Thread nD τ).loc b))

/-- Image 0's rows of the eleven input blocks, -/
def image0 (b0 b1 b2 b3 b4 b5 b6 b7 b8 b9 b10 : FVec F S2x8x128 .f32) : Rows F :=
  rows (block0 b0) (block0 b1) (block0 b2) (block0 b3) (block0 b4) (block0 b5) (block0 b6) (block0 b7) (block0 b8) (block0 b9) (block0 b10)
/-- and image 1's. -/
def image1 (b0 b1 b2 b3 b4 b5 b6 b7 b8 b9 b10 : FVec F S2x8x128 .f32) : Rows F :=
  rows (block1 b0) (block1 b1) (block1 b2) (block1 b3) (block1 b4) (block1 b5) (block1 b6) (block1 b7) (block1 b8) (block1 b9) (block1 b10)

/-- What the two images' stores leave, read back, does not depend on what was there before. -/
theorem left_both {a : Memref sig .tc .vmem S2x8x128 .f32} (f : a.view.ty.Contents (Elt F)) {p q : FVec F S8x128 .f32}
    (L : List (View.Piece (Elt F) S2x8x128 .f32)) (h : L = both p q) :
    a.view.read (Elt F) (a.view.writes (Elt F) f L) = View.canon (both p q) := by
  subst h
  exact View.read_writes_eq_canon _ _ _ (View.cover_of_tiledL _ S1x8x128.size (by sl_kernel_rfl))

/-- A load of a whole input block holding `b` reads `b` there. -/
theorem rd {a : Memref sig .tc .vmem S2x8x128 .f32} (h : a.IsWhole) (b : FVec F S2x8x128 .f32) (r : Rect S2x8x128) :
    a.view.readAt (Elt F) r.toLoadRect (h.unread b) = View.ld (Val := Elt F) (e' := .f32) b r := by
  rw [View.readAt_eq_ld, h.read_unread]

/-- Two stores of whole images, one per image. -/
theorem both_eq {P Q : FVec F S1x8x128 .f32} {p q : FVec F S8x128 .f32} (hp : P = slab p) (hq : Q = slab q) :
    ([⟨Rect.unit (s := S2x8x128) ![1, 0, 0] S1x8x128.size inb_S2x8x128_S1x8x128_1_0_0, Q⟩,
      ⟨Rect.unit (s := S2x8x128) ![0, 0, 0] S1x8x128.size inb_S2x8x128_S1x8x128_0_0_0, P⟩] : List (View.Piece (Elt F) S2x8x128 .f32)) = both p q := by
  subst hp hq; rfl

section
variable (a0 : Memref sig .tc .vmem S2x8x128 .f32) (h0 : a0.IsWhole) (a1 : Memref sig .tc .vmem S2x8x128 .f32) (h1 : a1.IsWhole) (a2 : Memref sig .tc .vmem S2x8x128 .f32) (h2 : a2.IsWhole) (a3 : Memref sig .tc .vmem S2x8x128 .f32) (h3 : a3.IsWhole) (a4 : Memref sig .tc .vmem S2x8x128 .f32) (h4 : a4.IsWhole) (a5 : Memref sig .tc .vmem S2x8x128 .f32) (h5 : a5.IsWhole) (a6 : Memref sig .tc .vmem S2x8x128 .f32) (h6 : a6.IsWhole) (a7 : Memref sig .tc .vmem S2x8x128 .f32) (h7 : a7.IsWhole)
    (a8 : Memref sig .tc .vmem S2x8x128 .f32) (h8 : a8.IsWhole) (a9 : Memref sig .tc .vmem S2x8x128 .f32) (h9 : a9.IsWhole) (a10 : Memref sig .tc .vmem S2x8x128 .f32) (h10 : a10.IsWhole) (a11 : Memref sig .tc .vmem S2x8x128 .f32) (h11 : a11.IsWhole) (a12 : Memref sig .tc .vmem S2x8x128 .f32) (h12 : a12.IsWhole) (a13 : Memref sig .tc .vmem S2x8x128 .f32) (h13 : a13.IsWhole) (a14 : Memref sig .tc .vmem S2x8x128 .f32) (h14 : a14.IsWhole) (a15 : Memref sig .tc .vmem S2x8x128 .f32) (h15 : a15.IsWhole)

/-- A trip of image 0's loop reads and writes no memory: it returns a value, -/
theorem t1_body (v1 v15 v21 v27 v33 : FVec F S8x128 .f32) (v47 : IVec S8x128 1) (gf x1 y1 x2 y2 ar : FVec F S8x128 .f32)
    (n : IVec S8x128 32) (z : F .f32) :
    k1_t1_body (F := F) a0 h0 a1 h1 a2 h2 a3 h3 a4 h4 a5 h5 a6 h6 a7 h7 a8 h8 a9 h9 a10 h10 a11 h11 a12 h12 a13 h13 a14 h14 a15 h15 v1 v15 v21 v27 v33 v47 gf x1 y1 x2 y2 ar n z = fun t keep =>
      .ret (k1_pay41 y1 ar n keep (Scf.iv 0#32 1#32 t) (k1_pay10 y1 (k1_pay39 n) z 0#32 1#32 t) (k1_pay11 ar (k1_pay39 n) z 0#32 1#32 t)
        (k1_pay12 gf (k1_pay39 n) 0#32 1#32 t keep) (k1_pay13 x1 x2 (k1_pay39 n) z 0#32 1#32 t) (k1_pay14 y2 (k1_pay39 n) z 0#32 1#32 t)) := by
  unfold k1_t1_body
  simp only [k1_part1_eq_skeleton]
  rfl

/-- and so does one of image 1's. -/
theorem t2_body (gf x1 y1 x2 y2 ar : FVec F S8x128 .f32) (n k : IVec S8x128 32) (z : F .f32) :
    k1_t2_body (F := F) a0 h0 a1 h1 a2 h2 a3 h3 a4 h4 a5 h5 a6 h6 a7 h7 a8 h8 a9 h9 a10 h10 a11 h11 a12 h12 a13 h13 a14 h14 a15 h15 gf x1 y1 x2 y2 ar n k z = fun t keep =>
      .ret (k1_pay3 y1 ar n k keep (Scf.iv 0#32 1#32 t) (k1_pay16 y1 (k1_pay1 n k) z 0#32 1#32 t) (k1_pay17 ar (k1_pay1 n k) z 0#32 1#32 t)
        (k1_pay18 gf (k1_pay1 n k) 0#32 1#32 t keep) (k1_pay19 x1 x2 (k1_pay1 n k) z 0#32 1#32 t) (k1_pay20 y2 (k1_pay1 n k) z 0#32 1#32 t)) := by
  unfold k1_t2_body
  simp only [k1_part2_eq_skeleton]
  rfl
end

set_option maxHeartbeats 4000000 in
/-- One run of the suppression body: the inputs stay, and each output holds its row of the two images' functions. -/
theorem nms_body (c : Dev nD)
    (a0 : Memref sig .tc .vmem S2x8x128 .f32) (h0 : a0.IsWhole)
    (a1 : Memref sig .tc .vmem S2x8x128 .f32) (h1 : a1.IsWhole)
    (a2 : Memref sig .tc .vmem S2x8x128 .f32) (h2 : a2.IsWhole)
    (a3 : Memref sig .tc .vmem S2x8x128 .f32) (h3 : a3.IsWhole)
    (a4 : Memref sig .tc .vmem S2x8x128 .f32) (h4 : a4.IsWhole)
    (a5 : Memref sig .tc .vmem S2x8x128 .f32) (h5 : a5.IsWhole)
    (a6 : Memref sig .tc .vmem S2x8x128 .f32) (h6 : a6.IsWhole)
    (a7 : Memref sig .tc .vmem S2x8x128 .f32) (h7 : a7.IsWhole)
    (a8 : Memref sig .tc .vmem S2x8x128 .f32) (h8 : a8.IsWhole)
    (a9 : Memref sig .tc .vmem S2x8x128 .f32) (h9 : a9.IsWhole)
    (a10 : Memref sig .tc .vmem S2x8x128 .f32) (h10 : a10.IsWhole)
    (a11 : Memref sig .tc .vmem S2x8x128 .f32) (h11 : a11.IsWhole)
    (a12 : Memref sig .tc .vmem S2x8x128 .f32) (h12 : a12.IsWhole)
    (a13 : Memref sig .tc .vmem S2x8x128 .f32) (h13 : a13.IsWhole)
    (a14 : Memref sig .tc .vmem S2x8x128 .f32) (h14 : a14.IsWhole)
    (a15 : Memref sig .tc .vmem S2x8x128 .f32) (h15 : a15.IsWhole)
    (b0 b1 b2 b3 b4 b5 b6 b7 b8 b9 b10 : FVec F S2x8x128 .f32) (E : Set ℕ) (K : PUnit → sProp 𝕄) :
    iprop(owns (c : Thread nD τ) a0 fullShare b0 ∗ owns (c : Thread nD τ) a1 fullShare b1 ∗ owns (c : Thread nD τ) a2 fullShare b2 ∗ owns (c : Thread nD τ) a3 fullShare b3 ∗ owns (c : Thread nD τ) a4 fullShare b4 ∗ owns (c : Thread nD τ) a5 fullShare b5 ∗ owns (c : Thread nD τ) a6 fullShare b6 ∗ owns (c : Thread nD τ) a7 fullShare b7 ∗ owns (c : Thread nD τ) a8 fullShare b8 ∗ owns (c : Thread nD τ) a9 fullShare b9 ∗ owns (c : Thread nD τ) a10 fullShare b10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
        ∗ (iprop(owns (c : Thread nD τ) a0 fullShare b0 ∗ owns (c : Thread nD τ) a1 fullShare b1 ∗ owns (c : Thread nD τ) a2 fullShare b2 ∗ owns (c : Thread nD τ) a3 fullShare b3 ∗ owns (c : Thread nD τ) a4 fullShare b4 ∗ owns (c : Thread nD τ) a5 fullShare b5 ∗ owns (c : Thread nD τ) a6 fullShare b6 ∗ owns (c : Thread nD τ) a7 fullShare b7 ∗ owns (c : Thread nD τ) a8 fullShare b8 ∗ owns (c : Thread nD τ) a9 fullShare b9 ∗ owns (c : Thread nD τ) a10 fullShare b10
            ∗ owns (c : Thread nD τ) a11 fullShare (View.canon (both (image0 b0 b1 b2 b3 b4 b5 b6 b7 b8 b9 b10).fin (image1 b0 b1 b2 b3 b4 b5 b6 b7 b8 b9 b10).fin))
            ∗ owns (c : Thread nD τ) a12 fullShare (View.canon (both (image0 b0 b1 b2 b3 b4 b5 b6 b7 b8 b9 b10).x1 (image1 b0 b1 b2 b3 b4 b5 b6 b7 b8 b9 b10).x1))
            ∗ owns (c : Thread nD τ) a13 fullShare (View.canon (both (image0 b0 b1 b2 b3 b4 b5 b6 b7 b8 b9 b10).y1 (image1 b0 b1 b2 b3 b4 b5 b6 b7 b8 b9 b10).y1))
            ∗ owns (c : Thread nD τ) a14 fullShare (View.canon (both (image0 b0 b1 b2 b3 b4 b5 b6 b7 b8 b9 b10).x2 (image1 b0 b1 b2 b3 b4 b5 b6 b7 b8 b9 b10).x2))
            ∗ owns (c : Thread nD τ) a15 fullShare (View.canon (both (image0 b0 b1 b2 b3 b4 b5 b6 b7 b8 b9 b10).y2 (image1 b0 b1 b2 b3 b4 b5 b6 b7 b8 b9 b10).y2))) -∗ K ⟨⟩))
      ⊢ wp frame (wpE (defs₀ (F := F)) 𝒱₀ c none) E (cc1__nms_body a0 h0 a1 h1 a2 h2 a3 h3 a4 h4 a5 h5 a6 h6 a7 h7 a8 h8 a9 h9 a10 h10 a11 h11 a12 h12 a13 h13 a14 h14 a15 h15) K := by
  simp only [cc1__nms_body_eq_skeleton]; unfold cc1__nms_body_skel
  simp only [k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
  sl_exec
  simp only [t1_body]
  sl_exec
  simp only [t2_body]
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr; swap; · iexact H11
    · ipureintro
      refine left_both _ _ ?_
      delta nms_body.sl.r_31 nms_body.sl.r_24 nms_body.sl.r_15 nms_body.sl.r_8
      delta nms_body.sl.r_25 nms_body.sl.r_26 nms_body.sl.r_27 nms_body.sl.r_28 nms_body.sl.r_29 nms_body.sl.r_30
      delta nms_body.sl.r_9 nms_body.sl.r_10 nms_body.sl.r_11 nms_body.sl.r_12 nms_body.sl.r_13 nms_body.sl.r_14
      delta nms_body.sl.r_17 nms_body.sl.r_18 nms_body.sl.r_19 nms_body.sl.r_20 nms_body.sl.r_21 nms_body.sl.r_22
      delta nms_body.sl.r nms_body.sl.r_16 nms_body.sl.r_1 nms_body.sl.r_2 nms_body.sl.r_3 nms_body.sl.r_4 nms_body.sl.r_5 nms_body.sl.r_6
      delta nms_body.sl.v71 nms_body.sl.v171
      have hz : (nms_body.sl.cst_47 : F .f32) = FloatOps.ofBits .f32 0xFF61B1E6#32 := rfl
      simp only [rd, hz]
      simp only [flat_steps, corner_steps, last_steps, sum_step, good_steps, shifted_steps, shifted_last, area_steps, loop0, loop1, final_steps]
      refine both_eq ?_ ?_
      · simp only [image0, rows, Rows.fin, Rows.keep, Rows.ok, Rows.area, Rows.off, Rows.x1, Rows.y1, Rows.x2, Rows.y2]
      · simp only [image1, rows, Rows.fin, Rows.keep, Rows.ok, Rows.area, Rows.off, Rows.x1, Rows.y1, Rows.x2, Rows.y2]
  isplitl [H12]
  · iexists _; isplitr; swap; · iexact H12
    · ipureintro
      refine left_both _ _ ?_
      delta nms_body.sl.r_19 nms_body.sl.r_3; rw [rd, rd, rd, rd, rd, rd]; rfl
  isplitl [H13]
  · iexists _; isplitr; swap; · iexact H13
    · ipureintro
      refine left_both _ _ ?_
      delta nms_body.sl.r_20 nms_body.sl.r_4; rw [rd, rd, rd, rd, rd, rd]; rfl
  isplitl [H14]
  · iexists _; isplitr; swap; · iexact H14
    · ipureintro
      refine left_both _ _ ?_
      delta nms_body.sl.r_21 nms_body.sl.r_5; rw [rd, rd, rd, rd, rd, rd]; rfl
  iexists _; isplitr; swap; · iexact H15
  · ipureintro
    refine left_both _ _ ?_
    delta nms_body.sl.r_23 nms_body.sl.r_7
    delta nms_body.sl.r_18 nms_body.sl.r_22 nms_body.sl.r_1 nms_body.sl.r_2 nms_body.sl.r_6
    rw [rd, rd, rd, rd, rd, rd]; rfl

end Cert.KernelIdeal.Run

end
-- ==== Proof.Point1Ideal.lean ====
/- The suppression region's proof data, and the body at its one point. -/
module

public import proofs.«01_k».proof.Proof.Body1Ideal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱₀ : Variants) (V : (c : Dev nD) → (b : Ref sig .tc) → Buf (Elt F) ((c : Thread nD τ).loc b))

/-- Window `w`'s block at the one point, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Image 0's rows as the region finds them, -/
def first (c : Dev nD) (t : Fin cfg1.N) : Rows F := image0 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t)
/-- and image 1's. -/
def second (c : Dev nD) (t : Fin cfg1.N) : Rows F := image1 (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t)

/-- What the body leaves in output block 0: the two images' `fin`. -/
@[irreducible] def left_fin (c : Dev nD) (t : Fin cfg1.N) : S2x8x128.Idx → Elt F .f32 :=
  View.canon (both (first V c t).fin (second V c t).fin)

/-- What the body leaves in output block 1: the two images' `x1`. -/
@[irreducible] def left_x1 (c : Dev nD) (t : Fin cfg1.N) : S2x8x128.Idx → Elt F .f32 :=
  View.canon (both (first V c t).x1 (second V c t).x1)

/-- What the body leaves in output block 2: the two images' `y1`. -/
@[irreducible] def left_y1 (c : Dev nD) (t : Fin cfg1.N) : S2x8x128.Idx → Elt F .f32 :=
  View.canon (both (first V c t).y1 (second V c t).y1)

/-- What the body leaves in output block 3: the two images' `x2`. -/
@[irreducible] def left_x2 (c : Dev nD) (t : Fin cfg1.N) : S2x8x128.Idx → Elt F .f32 :=
  View.canon (both (first V c t).x2 (second V c t).x2)

/-- What the body leaves in output block 4: the two images' `y2`. -/
@[irreducible] def left_y2 (c : Dev nD) (t : Fin cfg1.N) : S2x8x128.Idx → Elt F .f32 :=
  View.canon (both (first V c t).y2 (second V c t).y2)

/-- The suppression region: the arrays as found; after the point each input block still there and each output block
    what the body computes for the two images; nothing else kept, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => left_fin V c t
    | ⟨12, _⟩ => left_x1 V c t
    | ⟨13, _⟩ => left_y1 V c t
    | ⟨14, _⟩ => left_x2 V c t
    | ⟨15, _⟩ => left_y2 V c t
    | ⟨_ + 16, h⟩ => (Nat.not_lt.mpr (Nat.le_add_left 16 _) h).elim
  Φ _ := Pipeline.scopedRest spec1 c
  q _ := fullShare
  owed _ := 0

theorem before1_0 (c : Dev nD) (t : Fin cfg1.N) (d) : (dat1 V c).before 0 t d = blk1 V c 0 t :=
  (dat1 V c).before_in_eq_fetched 0 rfl (fun _ => rfl) (fun _ _ _ => rfl) (fun _ => rfl) t d
theorem before1_1 (c : Dev nD) (t : Fin cfg1.N) (d) : (dat1 V c).before 1 t d = blk1 V c 1 t :=
  (dat1 V c).before_in_eq_fetched 1 rfl (fun _ => rfl) (fun _ _ _ => rfl) (fun _ => rfl) t d
theorem before1_2 (c : Dev nD) (t : Fin cfg1.N) (d) : (dat1 V c).before 2 t d = blk1 V c 2 t :=
  (dat1 V c).before_in_eq_fetched 2 rfl (fun _ => rfl) (fun _ _ _ => rfl) (fun _ => rfl) t d
theorem before1_3 (c : Dev nD) (t : Fin cfg1.N) (d) : (dat1 V c).before 3 t d = blk1 V c 3 t :=
  (dat1 V c).before_in_eq_fetched 3 rfl (fun _ => rfl) (fun _ _ _ => rfl) (fun _ => rfl) t d
theorem before1_4 (c : Dev nD) (t : Fin cfg1.N) (d) : (dat1 V c).before 4 t d = blk1 V c 4 t :=
  (dat1 V c).before_in_eq_fetched 4 rfl (fun _ => rfl) (fun _ _ _ => rfl) (fun _ => rfl) t d
theorem before1_5 (c : Dev nD) (t : Fin cfg1.N) (d) : (dat1 V c).before 5 t d = blk1 V c 5 t :=
  (dat1 V c).before_in_eq_fetched 5 rfl (fun _ => rfl) (fun _ _ _ => rfl) (fun _ => rfl) t d
theorem before1_6 (c : Dev nD) (t : Fin cfg1.N) (d) : (dat1 V c).before 6 t d = blk1 V c 6 t :=
  (dat1 V c).before_in_eq_fetched 6 rfl (fun _ => rfl) (fun _ _ _ => rfl) (fun _ => rfl) t d
theorem before1_7 (c : Dev nD) (t : Fin cfg1.N) (d) : (dat1 V c).before 7 t d = blk1 V c 7 t :=
  (dat1 V c).before_in_eq_fetched 7 rfl (fun _ => rfl) (fun _ _ _ => rfl) (fun _ => rfl) t d
theorem before1_8 (c : Dev nD) (t : Fin cfg1.N) (d) : (dat1 V c).before 8 t d = blk1 V c 8 t :=
  (dat1 V c).before_in_eq_fetched 8 rfl (fun _ => rfl) (fun _ _ _ => rfl) (fun _ => rfl) t d
theorem before1_9 (c : Dev nD) (t : Fin cfg1.N) (d) : (dat1 V c).before 9 t d = blk1 V c 9 t :=
  (dat1 V c).before_in_eq_fetched 9 rfl (fun _ => rfl) (fun _ _ _ => rfl) (fun _ => rfl) t d
theorem before1_10 (c : Dev nD) (t : Fin cfg1.N) (d) : (dat1 V c).before 10 t d = blk1 V c 10 t :=
  (dat1 V c).before_in_eq_fetched 10 rfl (fun _ => rfl) (fun _ _ _ => rfl) (fun _ => rfl) t d
theorem after1_0 (c : Dev nD) (t : Fin cfg1.N) : (dat1 V c).after 0 t = blk1 V c 0 t := rfl
theorem after1_1 (c : Dev nD) (t : Fin cfg1.N) : (dat1 V c).after 1 t = blk1 V c 1 t := rfl
theorem after1_2 (c : Dev nD) (t : Fin cfg1.N) : (dat1 V c).after 2 t = blk1 V c 2 t := rfl
theorem after1_3 (c : Dev nD) (t : Fin cfg1.N) : (dat1 V c).after 3 t = blk1 V c 3 t := rfl
theorem after1_4 (c : Dev nD) (t : Fin cfg1.N) : (dat1 V c).after 4 t = blk1 V c 4 t := rfl
theorem after1_5 (c : Dev nD) (t : Fin cfg1.N) : (dat1 V c).after 5 t = blk1 V c 5 t := rfl
theorem after1_6 (c : Dev nD) (t : Fin cfg1.N) : (dat1 V c).after 6 t = blk1 V c 6 t := rfl
theorem after1_7 (c : Dev nD) (t : Fin cfg1.N) : (dat1 V c).after 7 t = blk1 V c 7 t := rfl
theorem after1_8 (c : Dev nD) (t : Fin cfg1.N) : (dat1 V c).after 8 t = blk1 V c 8 t := rfl
theorem after1_9 (c : Dev nD) (t : Fin cfg1.N) : (dat1 V c).after 9 t = blk1 V c 9 t := rfl
theorem after1_10 (c : Dev nD) (t : Fin cfg1.N) : (dat1 V c).after 10 t = blk1 V c 10 t := rfl
theorem after1_11 (c : Dev nD) (t : Fin cfg1.N) : (dat1 V c).after 11 t = left_fin V c t := rfl
theorem after1_12 (c : Dev nD) (t : Fin cfg1.N) : (dat1 V c).after 12 t = left_x1 V c t := rfl
theorem after1_13 (c : Dev nD) (t : Fin cfg1.N) : (dat1 V c).after 13 t = left_y1 V c t := rfl
theorem after1_14 (c : Dev nD) (t : Fin cfg1.N) : (dat1 V c).after 14 t = left_x2 V c t := rfl
theorem after1_15 (c : Dev nD) (t : Fin cfg1.N) : (dat1 V c).after 15 t = left_y2 V c t := rfl

/-- The body at its point: from what the region holds there to what it must hold after. -/
theorem point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d))
        ∗ (∃ d, owns (c : Thread nD τ) (st1_7 t) fullShare ((dat1 V c).before 7 t d))
        ∗ (∃ d, owns (c : Thread nD τ) (st1_8 t) fullShare ((dat1 V c).before 8 t d))
        ∗ (∃ d, owns (c : Thread nD τ) (st1_9 t) fullShare ((dat1 V c).before 9 t d))
        ∗ (∃ d, owns (c : Thread nD τ) (st1_10 t) fullShare ((dat1 V c).before 10 t d))
        ∗ (∃ d, owns (c : Thread nD τ) (st1_11 t) fullShare ((dat1 V c).before 11 t d))
        ∗ (∃ d, owns (c : Thread nD τ) (st1_12 t) fullShare ((dat1 V c).before 12 t d))
        ∗ (∃ d, owns (c : Thread nD τ) (st1_13 t) fullShare ((dat1 V c).before 13 t d))
        ∗ (∃ d, owns (c : Thread nD τ) (st1_14 t) fullShare ((dat1 V c).before 14 t d))
        ∗ (∃ d, owns (c : Thread nD τ) (st1_15 t) fullShare ((dat1 V c).before 15 t d)))
      ⊢ wp frame (wpE (defs₀ (F := F)) 𝒱₀ c none) Set.univ (bodyAt1 t) fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t)
          ∗ owns (c : Thread nD τ) (st1_5 t) fullShare ((dat1 V c).after 5 t)
          ∗ owns (c : Thread nD τ) (st1_6 t) fullShare ((dat1 V c).after 6 t)
          ∗ owns (c : Thread nD τ) (st1_7 t) fullShare ((dat1 V c).after 7 t)
          ∗ owns (c : Thread nD τ) (st1_8 t) fullShare ((dat1 V c).after 8 t)
          ∗ owns (c : Thread nD τ) (st1_9 t) fullShare ((dat1 V c).after 9 t)
          ∗ owns (c : Thread nD τ) (st1_10 t) fullShare ((dat1 V c).after 10 t)
          ∗ owns (c : Thread nD τ) (st1_11 t) fullShare ((dat1 V c).after 11 t)
          ∗ owns (c : Thread nD τ) (st1_12 t) fullShare ((dat1 V c).after 12 t)
          ∗ owns (c : Thread nD τ) (st1_13 t) fullShare ((dat1 V c).after 13 t)
          ∗ owns (c : Thread nD τ) (st1_14 t) fullShare ((dat1 V c).after 14 t)
          ∗ owns (c : Thread nD τ) (st1_15 t) fullShare ((dat1 V c).after 15 t)) := by
  unfold bodyAt1
  simp only [before1_0, before1_1, before1_2, before1_3, before1_4, before1_5, before1_6, before1_7, before1_8, before1_9, before1_10, after1_0, after1_1, after1_2, after1_3, after1_4, after1_5, after1_6, after1_7, after1_8, after1_9, after1_10, after1_11, after1_12, after1_13, after1_14, after1_15]
  rw [show (dat1 V c).Φ t.succ = (dat1 V c).Φ t.castSucc from rfl, show (dat1 V c).owesAt () t.succ = (dat1 V c).owesAt () t.castSucc from rfl]
  unfold left_fin left_x1 left_y1 left_x2 left_y2 first second
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (nms_body 𝒱₀ c _ _ _ _ _ _ _ _ _ _ _ _ _ _ _ _ _ _ _ _ _ _ _ _ _ _ _ _ _ _ _ _  (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at every point, in the shape the region asks for. -/
theorem obligation1 (c : Dev nD) : BodyObligation (dat1 V c) (defs₀ (F := F)) 𝒱₀ () Set.univ := fun t => by
  rw [bigSep_W1, bigSep_W1, show defs₀ (F := F) .tc cfg1.body (cfg1.bodyArgs t (cfg1.slots t)) = bodyAt1 t from by
    unfold defs₀; rw [Defs.onTc_tc]]
  exact triple_restated (point1 𝒱₀ V c t) rfl .rfl fun _ => .rfl

end Cert.KernelIdeal.Run

end
-- ==== Proof.WholeIdeal.lean ====
/- The whole program's run: the two regions between their host stretches, from any memory, ending with every unscoped
   buffer at the contents the stretches and the regions' data give it. -/
module

public import proofs.«01_k».proof.Proof.Body0Ideal
public import proofs.«01_k».proof.Proof.Point1Ideal
public import proofs.«01_k».proof.Proof.Gen.KernelIdeal.Regions
public import Idealize.ShloMosaic.Lib.Pipeline.RegionArraysS

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-- The pipelines' own algebra is the whole user component. -/
abbrev EP : Emb (UR sig nD τ) (MT nD τ sig Unit (Elt F) ℕ (UR sig nD τ) ℕ) := emb₁

/-- Nothing beside it. -/
def 𝒱₀ : Variants := Variants.none

variable (m : (ℓ : Loc nD τ sig) → Buf (Elt F) ℓ)

/-- The score region's data, from the memory the first stretch leaves. -/
abbrev D0 (c : Dev nD) := dat0 (fun c b => V1 m c (Proc.devRef .tc b)) c

/-- What the score region leaves, on every core (read only at its three results). -/
def o0 : Outs (F := F) := fun _ r c => Pipeline.afterRegion (D0 m c) (V1 m c) (Proc.devRef .tc r)

/-- The suppression region's data, from the memory the stretches after the score region leave. -/
abbrev D1 (c : Dev nD) := dat1 (fun c b => V27 m (o0 m) c (Proc.devRef .tc b)) c

/-- What the two regions leave. -/
def o : Outs (F := F) := fun J r c =>
  if J = 2 then o0 m J r c else Pipeline.afterRegion (D1 m c) (V27 m (o0 m) c) (Proc.devRef .tc r)

theorem V27_o (c : Dev nD) : V27 m (o m) c = V27 m (o0 m) c := rfl

/-- The two regions' data. -/
abbrev dats : (p : Fin 2) → (c : Dev nD) → Dat τ (Elt F) Unit ℕ (UR sig nD τ) ℕ (cfgs p) c
  | 0 => D0 m
  | 1 => D1 m

/-- A valuation set at a buffer, there, -/
theorem set_at (W : Valuation τ sig (Elt F)) (b : DevRef τ sig) (x : b.ty.Contents (Elt F)) : Function.update W b x b = x :=
  Function.update_self ..
/-- and elsewhere. -/
theorem set_off (W : Valuation τ sig (Elt F)) {b b' : DevRef τ sig} (x : b.ty.Contents (Elt F)) (h : b' ≠ b) :
    Function.update W b x b' = W b' := Function.update_of_ne h ..

/-- What the score region leaves is the valuation after it. -/
theorem left0 (c : Dev nD) : Pipeline.afterRegion (D0 m c) (V1 m c) = V2 m (o m) c := by
  funext b
  by_cases h2 : b = Proc.devRef .tc main_v3_2
  · subst h2; exact (set_at _ _ _).symm
  by_cases h1 : b = Proc.devRef .tc main_v3_1
  · subst h1; exact ((set_off _ _ h2).trans (set_at _ _ _)).symm
  by_cases h0 : b = Proc.devRef .tc main_v3_0
  · subst h0; exact ((set_off _ _ h2).trans ((set_off _ _ h1).trans (set_at _ _ _))).symm
  refine Eq.trans ?_ ((set_off _ _ h2).trans ((set_off _ _ h1).trans (set_off _ _ h0))).symm
  by_cases hw : ∃ w, b = Proc.devRef .tc (Pipeline.arrRef spec0 w)
  · obtain ⟨w, rfl⟩ := hw
    refine Pipeline.afterRegion_keeps (D0 m c) (V1 m c) launch0.win.arr_inj (fun _ => rfl) _ fun w' e => ?_
    by_contra ho
    have key : ∀ v : Fin cfg0.W, ¬ (cfg0.win v).isOut = false →
        Pipeline.arrRef spec0 v = main_v3_0 ∨ Pipeline.arrRef spec0 v = main_v3_1 ∨ Pipeline.arrRef spec0 v = main_v3_2 := by decide
    rcases key w' ho with k | k | k
    · exact h0 (congrArg _ (e.symm.trans k))
    · exact h1 (congrArg _ (e.symm.trans k))
    · exact h2 (congrArg _ (e.symm.trans k))
  · unfold Pipeline.afterRegion
    rw [dif_neg]
    rintro ⟨w, rfl⟩
    exact hw ⟨w, rfl⟩

/-- What the suppression region leaves is the valuation after it. -/
theorem left1 (c : Dev nD) : Pipeline.afterRegion (D1 m c) (V27 m (o0 m) c) = V28 m (o m) c := by
  funext b
  by_cases h4 : b = Proc.devRef .tc main_v60_4
  · subst h4; exact (set_at _ _ _).symm
  refine Eq.trans ?_ (set_off _ _ h4).symm
  by_cases h3 : b = Proc.devRef .tc main_v60_3
  · subst h3; exact (set_at _ _ _).symm
  refine Eq.trans ?_ (set_off _ _ h3).symm
  by_cases h2 : b = Proc.devRef .tc main_v60_2
  · subst h2; exact (set_at _ _ _).symm
  refine Eq.trans ?_ (set_off _ _ h2).symm
  by_cases h1 : b = Proc.devRef .tc main_v60_1
  · subst h1; exact (set_at _ _ _).symm
  refine Eq.trans ?_ (set_off _ _ h1).symm
  by_cases h0 : b = Proc.devRef .tc main_v60_0
  · subst h0; exact (set_at _ _ _).symm
  refine Eq.trans ?_ (set_off _ _ h0).symm
  rw [V27_o]
  by_cases hw : ∃ w, b = Proc.devRef .tc (Pipeline.arrRef spec1 w)
  · obtain ⟨w, rfl⟩ := hw
    refine Pipeline.afterRegion_keeps (D1 m c) (V27 m (o0 m) c) launch1.win.arr_inj (fun _ => rfl) _ fun w' e => ?_
    by_contra ho
    have key : ∀ v : Fin cfg1.W, ¬ (cfg1.win v).isOut = false →
        Pipeline.arrRef spec1 v = main_v60_0 ∨ Pipeline.arrRef spec1 v = main_v60_1 ∨ Pipeline.arrRef spec1 v = main_v60_2
          ∨ Pipeline.arrRef spec1 v = main_v60_3 ∨ Pipeline.arrRef spec1 v = main_v60_4 := by decide
    rcases key w' ho with k | k | k | k | k
    · exact h0 (congrArg _ (e.symm.trans k))
    · exact h1 (congrArg _ (e.symm.trans k))
    · exact h2 (congrArg _ (e.symm.trans k))
    · exact h3 (congrArg _ (e.symm.trans k))
    · exact h4 (congrArg _ (e.symm.trans k))
  · unfold Pipeline.afterRegion
    rw [dif_neg]
    rintro ⟨w, rfl⟩
    exact hw ⟨w, rfl⟩

/-- The one level index, on the TensorCores' semaphores. -/
def L (g : GSem nD τ sig) : Finset Unit := if g.1.2 = .tc then {()} else ∅
/-- Every level is the bottom one. -/
def lv (_ : GSem nD τ sig) (_ : Unit) : ℕ := 0

/-- No core owes anything, so no level is needed. -/
theorem cut (p : Fin 2) : Pipeline.LevelCut (pcfgs (F := F)) adm () L lv p (fun _ : Dev nD => 0) (fun _ => 0) where
  hι c w s := by unfold L; rw [if_pos rfl]; exact Finset.mem_singleton_self _
  hιb _ _ _ := le_rfl
  hD _ _ _ h := absurd h (Nat.lt_irrefl _)

/-- The score region's record. -/
def reg0 : RegionSeg (pcfgs (F := F)) adm (dats m) () defs₀ 𝒱₀ L lv 0 :=
  RegionSeg.ofHeldIn (pcfgs (F := F)) adm (dats m) () defs₀ 𝒱₀ L lv 0 (fun _ => 0) (Pipeline.ucRefs τ sig)
    (fun _ => iprop(emp)) (fun _ => iprop(emp)) launch0.toP rfl (fun c => (obligation0 𝒱₀ _ c).loose)
    (fun _ _ => rfl) (fun _ => rfl) (fun c => (D0 m c).share_full fun _ => rfl)
    (fun c => by
      show iprop(Pipeline.scopedRest spec0 c ∗ emp) ⊢ (Pipeline.scopedRest spec0 c : sProp 𝕄)
      iintro ⟨H, -⟩; iexact H)
    (fun c => by
      show (Pipeline.scopedRest spec0 c : sProp 𝕄) ⊢ iprop(Pipeline.scopedRest spec0 c ∗ emp)
      iintro H; isplitl [H]; · iexact H
      iempintro)
    (fun _ => 0) (cut 0) (fun _ => iprop(emp)) (fun c => V1 m c) (fun _ _ => rfl)

/-- The suppression region's record. -/
def reg1 : RegionSeg (pcfgs (F := F)) adm (dats m) () defs₀ 𝒱₀ L lv 1 :=
  RegionSeg.ofHeldIn (pcfgs (F := F)) adm (dats m) () defs₀ 𝒱₀ L lv 1 (fun _ => 0) (Pipeline.ucRefs τ sig)
    (fun _ => iprop(emp)) (fun _ => iprop(emp)) launch1.toP rfl (fun c => (obligation1 𝒱₀ _ c).loose)
    (fun _ _ => rfl) (fun _ => rfl) (fun c => (D1 m c).share_full fun _ => rfl)
    (fun c => by
      show iprop(Pipeline.scopedRest spec1 c ∗ emp) ⊢ (Pipeline.scopedRest spec1 c : sProp 𝕄)
      iintro ⟨H, -⟩; iexact H)
    (fun c => by
      show (Pipeline.scopedRest spec1 c : sProp 𝕄) ⊢ iprop(Pipeline.scopedRest spec1 c ∗ emp)
      iintro H; isplitl [H]; · iexact H
      iempintro)
    (fun _ => 0) (cut 1) (fun _ => iprop(emp)) (fun c => V27 m (o0 m) c) (fun _ _ => rfl)

/-- What a core carries between the items beside its buffers: that it owes nothing. -/
def E (_ : Fin 3) (c : Dev nD) : sProp 𝕄 := iprop(∃ W, owes (c : Thread nD τ) (0 : CellTallies nD τ sig Unit) W)

theorem sub0 : Pipeline.arrRefs (τ := τ) (pcfgs (F := F) 0).spec ⊆ Pipeline.ucRefs τ sig :=
  Pipeline.arrRefs_sub_ucRefs spec0 (by decide)

theorem sub1 : Pipeline.arrRefs (τ := τ) (pcfgs (F := F) 1).spec ⊆ Pipeline.ucRefs τ sig :=
  Pipeline.arrRefs_sub_ucRefs spec1 (by decide)

theorem pre0 (c : Dev nD) : iprop(StableHlo.held (c : Thread nD τ) (Pipeline.ucRefs τ sig) (V1 m c) ∗ E 0 c) ⊢ (reg0 m).pre c := by
  unfold reg0
  refine BIBase.Entails.trans ?_ (RegionSeg.ofHeldIn_pre sub0 c)
  unfold E
  iintro ⟨H, HE⟩
  isplitl [H]; · iexact H
  isplitl [HE]; · iexact HE
  isplitl [] <;> iempintro

theorem post0 (c : Dev nD) : (reg0 m).post c ⊢ iprop(StableHlo.held (c : Thread nD τ) (Pipeline.ucRefs τ sig) (V2 m (o m) c) ∗ E 1 c) := by
  unfold reg0
  refine BIBase.Entails.trans (RegionSeg.ofHeldIn_post sub0 c) ?_
  rw [show Pipeline.afterRegion (dats m 0 c) (V1 m c) = V2 m (o m) c from left0 m c]
  unfold E
  iintro ⟨H, HE, -, -⟩
  isplitl [H]; · iexact H
  iexact HE

theorem pre1 (c : Dev nD) : iprop(StableHlo.held (c : Thread nD τ) (Pipeline.ucRefs τ sig) (V27 m (o m) c) ∗ E 1 c) ⊢ (reg1 m).pre c := by
  unfold reg1
  refine BIBase.Entails.trans ?_ (RegionSeg.ofHeldIn_pre sub1 c)
  unfold E
  iintro ⟨H, HE⟩
  isplitl [H]; · iexact H
  isplitl [HE]; · iexact HE
  isplitl [] <;> iempintro

theorem post1 (c : Dev nD) : (reg1 m).post c ⊢ iprop(StableHlo.held (c : Thread nD τ) (Pipeline.ucRefs τ sig) (V28 m (o m) c) ∗ E 2 c) := by
  unfold reg1
  refine BIBase.Entails.trans (RegionSeg.ofHeldIn_post sub1 c) ?_
  rw [show Pipeline.afterRegion (dats m 1 c) (V27 m (o0 m) c) = V28 m (o m) c from left1 m c]
  unfold E
  iintro ⟨H, HE, -, -⟩
  isplitl [H]; · iexact H
  iexact HE

/-- The launch state of the two pipelines' cells. -/
def u₀ : UR sig nD τ := initOf (Pipeline.cells cfgs cellOf_inj) (Pipeline.launchToks cfgs cellOf_inj)

variable (ρ : Dev nD → PrngReg)

/-- What a final memory holds on core `c`: every unscoped buffer at the last valuation. -/
def Ends (s : (ℓ : Loc nD τ sig) → Buf (Elt F) ℓ) (c : Dev nD) : Prop :=
  ∀ b ∈ Pipeline.ucRefs τ sig, s (c, b) = V32 m (o m) c b

set_option backward.isDefEq.respectTransparency.types false in
/-- Every weakly fair execution from a memory with zero counters terminates, with every unscoped buffer at the last
    valuation and every counter at zero. -/
theorem run_whole : θ_run defs (onTc (τ := τ) (main (F := F))) ⟨m, fun _ => 0, ρ⟩
    (fun r => (∀ c : Dev nD, Ends m r.2.mem c) ∧ r.2.sem = fun _ => 0) := by
  refine Pipeline.θ_run_regions_kit_dev_sems (pcfgs (F := F)) adm (dats m) () cellOf_inj EP defs₀ 𝒱₀ L lv m ρ main
    (segs m (o m) 𝒱₀ L lv E () (dats m) (reg0 m) (reg1 m))
    (fun c Q => by
      rewrite [main_chain c, Seg.run_eq_chain, show (segs m (o m) 𝒱₀ L lv E () (dats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          StableHlo.seq hostOps1_20,
          StableHlo.seq hostOps1_21,
          StableHlo.seq hostOps1_22,
          StableHlo.seq hostOps1_23,
          StableHlo.seq hostOps1_24,
          Prog.lift (.customCall (Pipeline.entry 1) ()),
          StableHlo.seq hostOps2,
          StableHlo.seq hostOps2_1,
          StableHlo.seq hostOps2_2,
          StableHlo.seq hostOps2_3] from rfl]
      dsimp (config := { failIfUnchanged := false }) only
      exact .rfl)
    (fun c => by simp only [segs, Seg.pipes_host, Seg.pipes_region, Seg.pipes_nil]; decide) (fun _ => 0)
    (fun g h => if_neg h) (fun _ => iprop(emp)) u₀ ?_
    (T₀ := fun c => iprop(StableHlo.held (c : Thread nD τ) (Pipeline.ucRefs τ sig) (V0 m c) ∗ E 0 c))
    (Tₙ := fun c => StableHlo.held (c : Thread nD τ) (Pipeline.ucRefs τ sig) (V32 m (o m) c))
    (hch := fun c => ⟨.rfl, pre0 m c, post0 m c, .rfl, .rfl, .rfl, .rfl, .rfl, .rfl, .rfl, .rfl, .rfl, .rfl, .rfl, .rfl,
      .rfl, .rfl, .rfl, .rfl, .rfl, .rfl, .rfl, .rfl, .rfl, .rfl, .rfl, .rfl, pre1 m c, post1 m c, .rfl, .rfl, .rfl,
      sep_mono .rfl .rfl⟩)
    (hinit := ?_) (QY := fun c s => Ends m s.mem c) (hfin := fun c s' => ?_)
    (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c)
      from (Pipeline.unscopedBufs_held c (V0 m c))]
    unfold E
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V32 m (o m) c) s') $$ [Hh HSI]
    · isplitl [Hh] <;> iassumption
    icases Hr with ⟨%h, HSI⟩
    imodintro
    isplitr
    · ipureintro; exact h
    iexact HSI

/-- An unscoped buffer of a final memory, at the last valuation. -/
theorem Ends.at {s : (ℓ : Loc nD τ sig) → Buf (Elt F) ℓ} {c : Dev nD} (h : Ends m s c) (r : Ref sig .tc) (hr : r.isScoped = false) :
    s ((c : Thread nD τ).loc r) = V32 m (o m) c (Proc.devRef .tc r) :=
  h _ (Finset.mem_filter.mpr ⟨StableHlo.devRef_mem_tcRefs r, by
    show ¬ ((Proc.devRef (τ := τ) .tc r).isScoped = true)
    exact fun e => Bool.false_ne_true (hr.symm.trans e)⟩)

end Cert.KernelIdeal.Run

end
-- ==== Proof.RefRun.lean ====
/- The reference's run: every unscoped buffer at the fold of its stretches, the arguments as launched, no semaphore left
   counting. -/
module

public import proofs.«01_k».proof.Proof.Gen.ReferenceIdeal.Run

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe
open Idealize.SL.Sem
open Idealize.ShloMosaic.StableHlo

variable {F : FTy → Type} [FloatOps F]
variable (m : (ℓ : Loc nD τ sig) → Buf (Elt F) ℓ) (ρ : Dev nD → PrngReg)

/-- Core `c`'s buffers when the program ends. -/
abbrev last (c : Dev nD) : Valuation τ sig (Elt F) := finalContents condOps preI bodyI postI 1000 m c

/-- No operation of the stretches writes `r`. -/
def Off (r : Ref sig .tc) (items : List (List (HloOp τ sig (Elt F)))) : Prop :=
  ∀ ops ∈ items, ∀ op ∈ ops, Proc.devRef (τ := τ) .tc r ∉ op.writes

theorem Off.nil (r : Ref sig .tc) : Off (F := F) r [] := fun _ h => nomatch h

/-- One stretch more, by the references it writes. -/
theorem Off.cons {r : Ref sig .tc} {ops : List (HloOp τ sig (Elt F))} {rest} (W : List (Ref sig .tc))
    (hW : ops.Forall fun op => op.writes ⊆ (W.map (Proc.devRef (τ := τ) .tc)).toFinset) (hr : r ∉ W) (h : Off r rest) :
    Off r (ops :: rest) := by
  intro o ho op hop hm
  rcases List.mem_cons.mp ho with rfl | ho
  · obtain ⟨w, hw, e⟩ := List.mem_map.mp (List.mem_toFinset.mp (List.forall_iff_forall_mem.mp hW op hop hm))
    exact absurd e.symm (devRef_ne_of_ne fun e' => hr (by rw [e']; exact hw))
  · exact h o ho op hop hm

/-- Stretches that do not write `r` keep it. -/
theorem Off.keeps {r : Ref sig .tc} : ∀ {items : List (List (HloOp τ sig (Elt F)))}, Off r items →
    ∀ V : Valuation τ sig (Elt F), afterL items V (Proc.devRef .tc r) = V (Proc.devRef .tc r)
  | [], _, _ => rfl
  | ops :: rest, h, V => by
    rw [afterL_cons, Off.keeps (items := rest) fun o ho => h o (List.mem_cons_of_mem _ ho)]
    exact after_of_forall_not_mem ops V (h ops List.mem_cons_self)

/-- The program's arguments. -/
abbrev args : List (Ref sig .tc) := [main_arg0, main_arg1, main_arg2, main_arg3, main_arg4, main_arg5]

theorem off_cond {r : Ref sig .tc} (hr : r ∈ args) : Off (F := F) r [condOps] :=
  .cons condOps_W condOps_writes (by revert r; decide) (.nil r)

theorem off_body {r : Ref sig .tc} (hr : r ∈ args) : Off (F := F) r bodyI :=
  .cons while0Ops0_W while0Ops0_writes (by revert r; decide) <|
  .cons while0Ops0_1_W while0Ops0_1_writes (by revert r; decide) <|
  .cons while0Ops0_2_W while0Ops0_2_writes (by revert r; decide) <|
  .cons while0Ops0_3_W while0Ops0_3_writes (by revert r; decide) <|
  .cons while0Ops0_4_W while0Ops0_4_writes (by revert r; decide) <|
  .cons while0Ops0_5_W while0Ops0_5_writes (by revert r; decide) <|
  .cons while0Ops0_6_W while0Ops0_6_writes (by revert r; decide) <| .nil r

theorem off_pre {r : Ref sig .tc} (hr : r ∈ args) : Off (F := F) r preI :=
  .cons hostOps0_W hostOps0_writes (by revert r; decide) <|
  .cons hostOps0_1_W hostOps0_1_writes (by revert r; decide) <|
  .cons hostOps0_2_W hostOps0_2_writes (by revert r; decide) <|
  .cons hostOps0_3_W hostOps0_3_writes (by revert r; decide) <|
  .cons hostOps0_4_W hostOps0_4_writes (by revert r; decide) <|
  .cons hostOps0_5_W hostOps0_5_writes (by revert r; decide) <|
  .cons hostOps0_6_W hostOps0_6_writes (by revert r; decide) <|
  .cons hostOps0_7_W hostOps0_7_writes (by revert r; decide) <|
  .cons hostOps0_8_W hostOps0_8_writes (by revert r; decide) <|
  .cons hostOps0_9_W hostOps0_9_writes (by revert r; decide) <|
  .cons hostOps0_10_W hostOps0_10_writes (by revert r; decide) <|
  .cons hostOps0_11_W hostOps0_11_writes (by revert r; decide) <|
  .cons hostOps0_12_W hostOps0_12_writes (by revert r; decide) <|
  .cons hostOps0_13_W hostOps0_13_writes (by revert r; decide) <|
  .cons hostOps0_14_W hostOps0_14_writes (by revert r; decide) <|
  .cons hostOps0_15_W hostOps0_15_writes (by revert r; decide) <|
  .cons hostOps0_16_W hostOps0_16_writes (by revert r; decide) <|
  .cons hostOps0_17_W hostOps0_17_writes (by revert r; decide) <|
  .cons hostOps0_18_W hostOps0_18_writes (by revert r; decide) <|
  .cons hostOps0_19_W hostOps0_19_writes (by revert r; decide) <|
  .cons hostOps0_20_W hostOps0_20_writes (by revert r; decide) <|
  .cons hostOps0_21_W hostOps0_21_writes (by revert r; decide) <|
  .cons hostOps0_22_W hostOps0_22_writes (by revert r; decide) <|
  .cons hostOps0_23_W hostOps0_23_writes (by revert r; decide) <|
  .cons hostOps0_24_W hostOps0_24_writes (by revert r; decide) <|
  .cons hostOps0_25_W hostOps0_25_writes (by revert r; decide) <|
  .cons hostOps0_26_W hostOps0_26_writes (by revert r; decide) <| .nil r

set_option maxHeartbeats 1000000 in
theorem off_post {r : Ref sig .tc} (hr : r ∈ args) : Off (F := F) r postI := by
  intro ops ho op hop
  fin_cases ho <;> fin_cases hop <;> fin_cases hr <;> exact fun h => devRef_ne_of_ne (by decide) (Finset.mem_singleton.mp h)

/-- An argument before any trip is as at the loop's entry. -/
theorem trips_keep {r : Ref sig .tc} (hr : r ∈ args) (W : Dev nD → Valuation τ sig (Elt F)) (c : Dev nD) :
    ∀ k, atTrip condOps bodyI W k c (Proc.devRef .tc r) = W c (Proc.devRef .tc r)
  | 0 => rfl
  | k + 1 => by
    rw [atTrip_succ, (off_body hr).keeps]
    exact ((off_cond hr).keeps _).trans (trips_keep hr W c k)

/-- An argument ends as launched. -/
theorem last_keeps {r : Ref sig .tc} (hr : r ∈ args) (c : Dev nD) :
    last m c (Proc.devRef .tc r) = m ((c.tc : Thread nD τ).loc r) :=
  ((off_post hr).keeps _).trans (((off_cond hr).keeps _).trans ((trips_keep hr _ c 1000).trans ((off_pre hr).keeps _)))

/-- The signature has no semaphore. -/
theorem no_counter (s : SemLoc sig) : False := by
  cases s with
  | reg s => exact Fin.elim0 s
  | dma s => exact Fin.elim0 s

/-- Every weakly fair execution from a memory with zero counters terminates, with every unscoped buffer at the fold and
    every counter at zero. -/
theorem run_whole : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = last m c (Proc.devRef .tc b)) ∧ r.2.sem = fun _ => 0) :=
  (θ_run _ _ _).2 (fun _ h => ⟨h, funext fun g => (no_counter g.2).elim⟩) (run_fold m ρ)

end Cert.ReferenceIdeal.Run

end
-- ==== Proof.Cand.lean ====
/- A candidate box and what both programs compute of it, over the extended reals. -/
module

public import Idealize.ShloMosaic.Lib.IdealHost
public import Idealize.ShloMosaic.PureOps.Ideal.Laws

@[expose] public section

noncomputable section

namespace Cert

open Idealize.ShloMosaic

/-- The real number an f32 pattern stands for. -/
abbrev lit (w : BitVec 32) : EReal := Ideal.ofBits .f32 w

/-- The real number a signed word stands for. -/
abbrev num (b : BitVec 32) : EReal := ((b.toInt : ℝ) : EReal)

/-- A candidate: its score, its location, its four regressed distances, its label and tag, and the image's size. -/
@[ext] structure Cand where
  tv : EReal
  lx : EReal
  ly : EReal
  r0 : EReal
  r1 : EReal
  r2 : EReal
  r3 : EReal
  lab : BitVec 32
  tag : BitVec 32
  w : BitVec 32
  h : BitVec 32

namespace Cand
variable (c d : Cand)

/-- The clipped corners; -/
def x1 : EReal := min (max (c.lx - c.r0) (lit 0x00000000#32)) (num c.w - lit 0x3F800000#32)
def y1 : EReal := min (max (c.ly - c.r1) (lit 0x00000000#32)) (num c.h - lit 0x3F800000#32)
def x2 : EReal := min (max (c.lx + c.r2) (lit 0x00000000#32)) (num c.w - lit 0x3F800000#32)
def y2 : EReal := min (max (c.ly + c.r3) (lit 0x00000000#32)) (num c.h - lit 0x3F800000#32)
/-- the shift that separates classes and tags; -/
def off : EReal := num c.lab * lit 0x47C35000#32 + num c.tag * lit 0x461C4000#32
/-- the shifted corners; -/
def bx1 : EReal := c.x1 + c.off
def by1 : EReal := c.y1 + c.off
def bx2 : EReal := c.x2 + c.off
def by2 : EReal := c.y2 + c.off
/-- the shifted box's area; -/
def area : EReal := (c.bx2 - c.bx1 + lit 0x3F800000#32) * (c.by2 - c.by1 + lit 0x3F800000#32)
/-- and whether it counts: a positive score and sides that are not negative. -/
def valid : Prop :=
  lit 0x00000000#32 < c.tv ∧ lit 0x00000000#32 ≤ c.x2 - c.x1 + lit 0x3F800000#32 ∧ lit 0x00000000#32 ≤ c.y2 - c.y1 + lit 0x3F800000#32

/-- How far two spans overlap. -/
def span (lo hi lo' hi' : EReal) : EReal := max (min hi hi' - max lo lo' + lit 0x3F800000#32) (lit 0x00000000#32)
/-- The area two shifted boxes share. -/
def inter : EReal := span c.bx1 c.bx2 d.bx1 d.bx2 * span c.by1 c.by2 d.by1 d.by2
/-- The first box hits the second when they share more than half of their union. -/
def hits : Prop := lit 0x3F000000#32 < Ideal.div (inter c d) (c.area + d.area - inter c d)

/-! ## Every coordinate and area is a moderate real number -/

/-- A real number of size at most `B`. -/
def Near (B : ℝ) (x : EReal) : Prop := ∃ r : ℝ, x = r ∧ |r| ≤ B

theorem lit_one : lit 0x3F800000#32 = ((1 : ℝ) : EReal) := Ideal.ofBits_one_f32
theorem lit_zero : lit 0x00000000#32 = ((0 : ℝ) : EReal) := Ideal.ofBits_zero_f32
theorem lit_big : lit 0x47C35000#32 = ((100000 : ℝ) : EReal) := by
  simp [lit, Ideal.ofBits, Ideal.ieee, -EReal.coe_mul]; norm_num
theorem lit_mid : lit 0x461C4000#32 = ((10000 : ℝ) : EReal) := by
  simp [lit, Ideal.ofBits, Ideal.ieee, -EReal.coe_mul]; norm_num
theorem lit_neg_one : lit 0xBF800000#32 = ((-1 : ℝ) : EReal) := by
  simp [lit, Ideal.ofBits, Ideal.ieee, -EReal.coe_mul, -EReal.coe_neg]; norm_num
theorem lit_fill : lit 0xFF61B1E6#32 ≤ ((-1000000000000000000000000000000000 : ℝ) : EReal) := by
  simp [lit, Ideal.ofBits, Ideal.ieee, -EReal.coe_mul, -EReal.coe_neg]; norm_num

theorem Near.num (b : BitVec 32) : Near 2147483648 (num b) := by
  refine ⟨_, rfl, abs_le.mpr ⟨?_, ?_⟩⟩
  · have := @BitVec.le_toInt 32 b; exact_mod_cast this
  · have := @BitVec.toInt_le 32 b; norm_num at this; exact_mod_cast (by omega)

theorem Near.add {A B : ℝ} {x y : EReal} : Near A x → Near B y → Near (A + B) (x + y) := by
  rintro ⟨r, rfl, hr⟩ ⟨s, rfl, hs⟩
  exact ⟨r + s, by norm_cast, (abs_add_le r s).trans (add_le_add hr hs)⟩

theorem Near.sub {A B : ℝ} {x y : EReal} : Near A x → Near B y → Near (A + B) (x - y) := by
  rintro ⟨r, rfl, hr⟩ ⟨s, rfl, hs⟩
  exact ⟨r - s, by norm_cast, (abs_sub r s).trans (add_le_add hr hs)⟩

theorem Near.mul {A B : ℝ} {x y : EReal} : Near A x → Near B y → Near (A * B) (x * y) := by
  rintro ⟨r, rfl, hr⟩ ⟨s, rfl, hs⟩
  refine ⟨r * s, by norm_cast, ?_⟩
  rw [abs_mul]
  exact mul_le_mul hr hs (abs_nonneg s) ((abs_nonneg r).trans hr)

theorem Near.one : Near 1 (lit 0x3F800000#32) := ⟨1, lit_one, by simp⟩
theorem Near.big : Near 100000 (lit 0x47C35000#32) := ⟨_, lit_big, by norm_num⟩
theorem Near.mid : Near 10000 (lit 0x461C4000#32) := ⟨_, lit_mid, by norm_num⟩

/-- Clipping from below at zero and from above at a moderate number leaves a moderate number. -/
theorem Near.clip {B : ℝ} (x : EReal) {w : EReal} : Near B w → Near B (min (max x (lit 0x00000000#32)) w) := by
  rintro ⟨r, rfl, hr⟩
  have hB := (abs_nonneg r).trans hr
  rw [lit_zero]
  induction x with
  | bot => exact ⟨min 0 r, by simp [EReal.coe_strictMono.monotone.map_min], abs_le.mpr ⟨le_min (by linarith) (abs_le.mp hr).1, (min_le_left _ _).trans hB⟩⟩
  | top => exact ⟨r, by simp, hr⟩
  | coe x =>
    refine ⟨min (max x 0) r, by rw [EReal.coe_strictMono.monotone.map_min, EReal.coe_strictMono.monotone.map_max], abs_le.mpr ⟨le_min ((by linarith : -B ≤ 0).trans (le_max_right _ _)) (abs_le.mp hr).1, (min_le_right _ _).trans (abs_le.mp hr).2⟩⟩

theorem near_off : Near (2147483648 * 100000 + 2147483648 * 10000) c.off := ((Near.num _).mul .big).add ((Near.num _).mul .mid)
theorem near_bx1 : Near (2147483648 + 1 + (2147483648 * 100000 + 2147483648 * 10000)) c.bx1 := (Near.clip _ ((Near.num _).sub .one)).add c.near_off
theorem near_by1 : Near (2147483648 + 1 + (2147483648 * 100000 + 2147483648 * 10000)) c.by1 := (Near.clip _ ((Near.num _).sub .one)).add c.near_off
theorem near_bx2 : Near (2147483648 + 1 + (2147483648 * 100000 + 2147483648 * 10000)) c.bx2 := (Near.clip _ ((Near.num _).sub .one)).add c.near_off
theorem near_by2 : Near (2147483648 + 1 + (2147483648 * 100000 + 2147483648 * 10000)) c.by2 := (Near.clip _ ((Near.num _).sub .one)).add c.near_off

/-- A moderate number is above the fill of the kernel's maxima. -/
theorem Near.above {B : ℝ} {x : EReal} (hB : B ≤ 1000000000000000000000000000000000) : Near B x → lit 0xFF61B1E6#32 ≤ x := by
  rintro ⟨r, rfl, hr⟩
  refine lit_fill.trans (EReal.coe_le_coe_iff.mpr ?_)
  have := (abs_le.mp hr).1
  linarith

theorem fill_bx1 : lit 0xFF61B1E6#32 ≤ c.bx1 := c.near_bx1.above (by norm_num)
theorem fill_by1 : lit 0xFF61B1E6#32 ≤ c.by1 := c.near_by1.above (by norm_num)
theorem fill_bx2 : lit 0xFF61B1E6#32 ≤ c.bx2 := c.near_bx2.above (by norm_num)
theorem fill_by2 : lit 0xFF61B1E6#32 ≤ c.by2 := c.near_by2.above (by norm_num)
theorem fill_area : lit 0xFF61B1E6#32 ≤ c.area :=
  (((c.near_bx2.sub c.near_bx1).add .one).mul ((c.near_by2.sub c.near_by1).add .one)).above (by norm_num)

end Cand

end Cert

end
-- ==== Proof.Best.lean ====
/- Where a row is greatest: the first of its greatest entries, found by a fold over pairs and found by a fold over
   numbers. -/
module

public import proofs.«01_k».proof.Proof.Cand
public import proofs.«01_k».proof.Proof.Gen.ReferenceIdeal.Run

@[expose] public section

set_option maxRecDepth 16384

noncomputable section

namespace Cert.Best

open Idealize.ShloMosaic

/-- `r` is at least as good as `e`: greater, or as great and not later. -/
def Under (e r : EReal × BitVec 32) : Prop := e.1 < r.1 ∨ e.1 = r.1 ∧ r.2.toInt ≤ e.2.toInt

theorem Under.refl (e : EReal × BitVec 32) : Under e e := .inr ⟨rfl, le_refl _⟩

theorem Under.trans {a b c : EReal × BitVec 32} (h : Under a b) (k : Under b c) : Under a c := by
  rcases h with h | ⟨h, h'⟩ <;> rcases k with k | ⟨k, k'⟩
  · exact .inl (h.trans k)
  · exact .inl (h.trans_eq k)
  · exact .inl (h.trans_lt k)
  · exact .inr ⟨h.trans k, k'.trans h'⟩

/-- The reference's pick of two pairs. -/
abbrev pick (a b : EReal × BitVec 32) : EReal × BitVec 32 := Cert.ReferenceIdeal.reducer_argmax_f32_i32 (F := Ideal) a b

theorem pick_eq (a b : EReal × BitVec 32) : pick a b =
    (Scalar.select (IntOp.ori (BitVec.ofBool (decide (b.1 < a.1))) (BitVec.ofBool (decide (a.1 ≠ a.1)))) a.1 b.1,
      Scalar.select (IntOp.ori (IntOp.ori (BitVec.ofBool (decide (b.1 < a.1))) (BitVec.ofBool (decide (a.1 ≠ a.1))))
        (IntOp.andi (BitVec.ofBool (decide (a.1 = b.1))) (BitVec.ofBool (decide (a.2.toInt < b.2.toInt))))) a.2 b.2) := by
  unfold pick Cert.ReferenceIdeal.reducer_argmax_f32_i32
  simp only [Ideal.cmpf_def, Ideal.cmp]
  rfl

theorem pick_spec (a b : EReal × BitVec 32) : (pick a b = a ∨ pick a b = b) ∧ Under a (pick a b) ∧ Under b (pick a b) := by
  have h0 : decide (a.1 ≠ a.1) = false := by simp
  rw [pick_eq, h0]
  rcases lt_trichotomy a.1 b.1 with h | h | h
  · rw [decide_eq_false (not_lt_of_gt h), decide_eq_false (ne_of_lt h)]
    have e : (Scalar.select (IntOp.ori (BitVec.ofBool false) (BitVec.ofBool false)) a.1 b.1,
      Scalar.select (IntOp.ori (IntOp.ori (BitVec.ofBool false) (BitVec.ofBool false))
        (IntOp.andi (BitVec.ofBool false) (BitVec.ofBool (decide (a.2.toInt < b.2.toInt))))) a.2 b.2) = b := by
      cases decide (a.2.toInt < b.2.toInt) <;> rfl
    rw [e]
    exact ⟨.inr rfl, .inl h, .refl b⟩
  · rw [decide_eq_false (by rw [h]; exact lt_irrefl _), decide_eq_true h]
    by_cases k : a.2.toInt < b.2.toInt
    · rw [decide_eq_true k]
      have e : (Scalar.select (IntOp.ori (BitVec.ofBool false) (BitVec.ofBool false)) a.1 b.1,
        Scalar.select (IntOp.ori (IntOp.ori (BitVec.ofBool false) (BitVec.ofBool false))
          (IntOp.andi (BitVec.ofBool true) (BitVec.ofBool true))) a.2 b.2) = a := by
        show (b.1, a.2) = a
        rw [← h]
      rw [e]
      exact ⟨.inl rfl, .refl a, .inr ⟨h.symm, le_of_lt k⟩⟩
    · rw [decide_eq_false k]
      have e : (Scalar.select (IntOp.ori (BitVec.ofBool false) (BitVec.ofBool false)) a.1 b.1,
        Scalar.select (IntOp.ori (IntOp.ori (BitVec.ofBool false) (BitVec.ofBool false))
          (IntOp.andi (BitVec.ofBool true) (BitVec.ofBool false))) a.2 b.2) = b := rfl
      rw [e]
      exact ⟨.inr rfl, .inr ⟨h, not_lt.mp k⟩, .refl b⟩
  · rw [decide_eq_true h, decide_eq_false (ne_of_gt h)]
    have e : (Scalar.select (IntOp.ori (BitVec.ofBool true) (BitVec.ofBool false)) a.1 b.1,
      Scalar.select (IntOp.ori (IntOp.ori (BitVec.ofBool true) (BitVec.ofBool false))
        (IntOp.andi (BitVec.ofBool false) (BitVec.ofBool (decide (a.2.toInt < b.2.toInt))))) a.2 b.2) = a := by
      cases decide (a.2.toInt < b.2.toInt) <;> rfl
    rw [e]
    exact ⟨.inl rfl, .refl a, .inl h⟩

/-- Folding the pick over a list leaves one of the pairs, and none is better. -/
theorem fold_spec (l : List (EReal × BitVec 32)) : ∀ a, (l.foldl pick a = a ∨ l.foldl pick a ∈ l) ∧ Under a (l.foldl pick a) ∧ ∀ e ∈ l, Under e (l.foldl pick a) := by
  induction l with
  | nil => exact fun a => ⟨.inl rfl, .refl a, fun e he => absurd he List.not_mem_nil⟩
  | cons b l ih =>
    intro a
    obtain ⟨h1, h2, h3⟩ := ih (pick a b)
    obtain ⟨p1, p2, p3⟩ := pick_spec a b
    rw [List.foldl_cons]
    refine ⟨?_, p2.trans h2, fun e he => ?_⟩
    · rcases h1 with h1 | h1
      · rw [h1]
        rcases p1 with p1 | p1
        · exact .inl p1
        · exact .inr (by rw [p1]; exact List.mem_cons_self)
      · exact .inr (List.mem_cons_of_mem _ h1)
    · rcases List.mem_cons.mp he with rfl | he
      · exact p3.trans h2
      · exact h3 e he

/-! ## The first greatest entry -/

/-- The greatest of eighty numbers. -/
def peak (f : Fin 80 → EReal) : EReal := Finset.univ.fold max (lit 0xFF800000#32) f

theorem lit_bot : lit 0xFF800000#32 = ⊥ := by
  simp [lit, Ideal.ofBits, Ideal.ieee]

theorem le_peak (f : Fin 80 → EReal) (k : Fin 80) : f k ≤ peak f := (Finset.le_fold_max (f k)).mpr (.inr ⟨k, Finset.mem_univ k, le_refl _⟩)

theorem peak_mem (f : Fin 80 → EReal) : ∃ k, f k = peak f := by
  obtain ⟨k, -, hk⟩ := Finset.exists_max_image (Finset.univ : Finset (Fin 80)) f ⟨0, Finset.mem_univ 0⟩
  exact ⟨k, le_antisymm (le_peak f k) ((Finset.fold_max_le (f k)).mpr ⟨by rw [lit_bot]; exact bot_le, fun i hi => hk i hi⟩)⟩

/-- `w` is the word of the first place where `f` is greatest. -/
def First (f : Fin 80 → EReal) (w : BitVec 32) : Prop := ∃ k : Fin 80, w = BitVec.ofNat 32 k.val ∧ f k = peak f ∧ ∀ q, f q = peak f → k ≤ q

theorem First.unique {f : Fin 80 → EReal} {v w : BitVec 32} (hv : First f v) (hw : First f w) : v = w := by
  obtain ⟨k, rfl, hk, mk⟩ := hv
  obtain ⟨q, rfl, hq, mq⟩ := hw
  rw [le_antisymm (mk q hq) (mq k hk)]

theorem toInt_lt (k : Fin 80) : (BitVec.ofNat 32 k.val).toInt = (k.val : ℤ) := by
  have := k.isLt
  rw [BitVec.toInt_eq_toNat_of_lt] <;> simp only [BitVec.toNat_ofNat] <;> omega

/-- A pair that is one of the row's (or the fold's start) and which no pair of the row betters holds the first place. -/
theorem first_of_pairs (f : Fin 80 → EReal) (r : EReal × BitVec 32) (hr : r = (lit 0xFF800000#32, 0#32) ∨ ∃ k : Fin 80, r = (f k, BitVec.ofNat 32 k.val))
    (hu : ∀ k : Fin 80, Under (f k, BitVec.ofNat 32 k.val) r) : First f r.2 := by
  have h' : ∃ k : Fin 80, r = (f k, BitVec.ofNat 32 k.val) := by
    rcases hr with rfl | h
    · refine ⟨0, ?_⟩
      rcases hu 0 with h | ⟨h, -⟩
      · rw [lit_bot] at h; exact absurd h not_lt_bot
      · exact Prod.ext h.symm rfl
    · exact h
  obtain ⟨k, rfl⟩ := h'
  have top : ∀ q, f q ≤ f k := fun q => by
    rcases hu q with h | ⟨h, -⟩
    · exact le_of_lt h
    · exact le_of_eq h
  obtain ⟨q, hq⟩ := peak_mem f
  have hk : f k = peak f := le_antisymm (le_peak f k) (hq ▸ top q)
  refine ⟨k, rfl, hk, fun q hq => ?_⟩
  rcases hu q with h | ⟨-, h⟩
  · exact absurd (hq.trans hk.symm) (ne_of_lt h)
  · simp only [toInt_lt] at h
    exact Fin.le_def.mpr (by omega)

/-- A word that is one of the marked places (or the fold's start) and below all of them is the first place. -/
theorem first_of_words (f : Fin 80 → EReal) (w : BitVec 32)
    (hw : w = 2147483647#32 ∨ ∃ k : Fin 80, w = Scalar.select (BitVec.ofBool (decide (f k = peak f))) (BitVec.ofNat 32 k.val) 80#32)
    (hu : ∀ k : Fin 80, w.toInt ≤ (Scalar.select (BitVec.ofBool (decide (f k = peak f))) (BitVec.ofNat 32 k.val) 80#32).toInt) : First f w := by
  have hit : ∀ q, f q = peak f → w.toInt ≤ (q.val : ℤ) := fun q hq => by
    have h := hu q
    rw [decide_eq_true hq] at h
    exact h.trans_eq (toInt_lt q)
  obtain ⟨q, hq⟩ := peak_mem f
  have small := hit q hq
  have q80 := q.isLt
  rcases hw with rfl | ⟨k, rfl⟩
  · rw [show (2147483647#32).toInt = 2147483647 from rfl] at small; omega
  · by_cases hk : f k = peak f
    · rw [decide_eq_true hk] at hit ⊢
      refine ⟨k, rfl, hk, fun q hq => ?_⟩
      have := hit q hq
      rw [show (Scalar.select (BitVec.ofBool true) (BitVec.ofNat 32 k.val) 80#32) = BitVec.ofNat 32 k.val from rfl, toInt_lt] at this
      exact Fin.le_def.mpr (by omega)
    · rw [decide_eq_false hk, show (Scalar.select (BitVec.ofBool false) (BitVec.ofNat 32 k.val) 80#32).toInt = 80 from rfl] at small
      omega

/-- Folding the signed minimum over a set leaves one of the words (or the start), and none is smaller. -/
theorem least_spec {ι : Type} (s : Finset ι) (a : BitVec 32) (g : ι → BitVec 32) [Std.Commutative (IntOp.minsi (w := 32))] [Std.Associative (IntOp.minsi (w := 32))] :
    (s.fold IntOp.minsi a g = a ∨ ∃ i ∈ s, s.fold IntOp.minsi a g = g i) ∧ ∀ i ∈ s, (s.fold IntOp.minsi a g).toInt ≤ (g i).toInt := by
  classical
  have two : ∀ x y : BitVec 32, (IntOp.minsi x y = x ∨ IntOp.minsi x y = y) ∧ (IntOp.minsi x y).toInt ≤ x.toInt ∧ (IntOp.minsi x y).toInt ≤ y.toInt := by
    intro x y
    unfold IntOp.minsi
    by_cases h : x.slt y = true
    · rw [if_pos h]
      exact ⟨.inl rfl, le_refl _, le_of_lt (BitVec.slt_iff_toInt_lt.mp h)⟩
    · rw [if_neg h]
      exact ⟨.inr rfl, not_lt.mp fun k => h (BitVec.slt_iff_toInt_lt.mpr k), le_refl _⟩
  induction s using Finset.induction_on with
  | empty => exact ⟨.inl (Finset.fold_empty), fun i hi => absurd hi (Finset.notMem_empty i)⟩
  | insert j s hj ih =>
    rw [Finset.fold_insert hj]
    obtain ⟨t1, t2, t3⟩ := two (g j) (s.fold IntOp.minsi a g)
    refine ⟨?_, fun i hi => ?_⟩
    · rcases t1 with t1 | t1
      · exact .inr ⟨j, Finset.mem_insert_self j s, t1⟩
      · rcases ih.1 with h | ⟨i, hi, h⟩
        · exact .inl (t1.trans h)
        · exact .inr ⟨i, Finset.mem_insert_of_mem hi, t1.trans h⟩
    · rcases Finset.mem_insert.mp hi with rfl | hi
      · exact t2
      · exact t3.trans (ih.2 i hi)

end Cert.Best

end
-- ==== Proof.ScoreKernel.lean ====
/- The score kernel's three stored values at an index. -/
module

public import proofs.«01_k».proof.Proof.Best
public import proofs.«01_k».proof.Proof.Gen.KernelIdeal.Skeleton
public import proofs.«01_k».proof.Proof.Gen.KernelIdeal.Regions
public import Idealize.ShloMosaic.Lib.Pointwise
public import Idealize.ShloMosaic.Lib.StableHlo.ReadAt

@[expose] public section

set_option maxRecDepth 16384

noncomputable section

namespace Cert.Best

open Cert.KernelIdeal Cert.KernelIdeal.Gen
open Idealize.ShloMosaic Idealize.ShloMosaic.TcCoe

/-- A place's masked score, from its class scores and its centre score. -/
def masked (f : Fin 80 → EReal) (c : EReal) : EReal :=
  Scalar.select (BitVec.ofBool (decide (lit 0x3D4CCCCD#32 < peak f))) (peak f * c) (lit 0xBF800000#32)

/-- The rounded tag. -/
def tagOf (t : EReal) : BitVec 32 := FloatOps.fptosi (F := Ideal) (φ := .f32) 32 (Ideal.liftRound Ideal.roundHalfEven t)

variable (v : FVec Ideal S1x80x20000 .f32) (u : FVec Ideal S1x1x20000 .f32)

/-- A place's class scores. -/
def classes (p : Fin 20000) : Fin 80 → EReal := fun k => Ideal.logistic (v (ix3 0 k p))

theorem pay2_at (k : Fin 80) (p : Fin 20000) : k0_pay2 (F := Ideal) v (ix2 k p) = classes v p k := by
  have e : shapeCast S80x20000 v shapeCasts_S1x80x20000_S80x20000 (ix2 k p) = v (ix3 0 k p) := by pointwise
  exact congrArg Ideal.logistic e

theorem lift_at (h : S80x20000.Reduces [0] S20000) (p : Fin 20000) (k : Fin 80) : h.lift (ix1 p) k = ix2 k p := by
  funext d
  refine Fin.ext ((h.lift_val _ _ _).trans ?_)
  match d with
  | ⟨0, _⟩ => rfl
  | ⟨1, _⟩ => rfl

theorem pay3_at (p : Fin 20000) : k0_pay3 (F := Ideal) v (ix2 0 p) = peak (classes v p) := by
  have e : ∀ x : FVec Ideal S20000 .f32, shapeCast S1x20000 x shapeCasts_S20000_S1x20000 (ix2 0 p) = x (ix1 p) := fun x => by pointwise
  rw [k0_pay3, e]
  refine (Ideal.multiReduction_maximumf_single _ _ _ _ _ _).trans ?_
  exact congrArg (Finset.univ.fold max (lit 0xFF800000#32)) (funext fun k => (congrArg (k0_pay2 (F := Ideal) v) (lift_at _ p k)).trans (pay2_at v k p))

/-- The masked scores. -/
theorem pay4_at (p : Fin 20000) : k0_pay4 (F := Ideal) v u (ix3 0 0 p) = masked (classes v p) (Ideal.logistic (u (ix3 0 0 p))) := by
  have e : ∀ x : FVec Ideal S1x20000 .f32, shapeCast S1x1x20000 x shapeCasts_S1x20000_S1x1x20000 (ix3 0 0 p) = x (ix2 0 p) := fun x => by pointwise
  have g : shapeCast S1x20000 u shapeCasts_S1x1x20000_S1x20000 (ix2 0 p) = u (ix3 0 0 p) := by pointwise
  have q := pay3_at v p
  rw [k0_pay4, e]
  generalize k0_pay3 (F := Ideal) v = P at q ⊢
  show Scalar.select (Ideal.cmp .ogt (P (ix2 0 p)) (lit 0x3D4CCCCD#32)) (P (ix2 0 p) * Ideal.logistic (shapeCast S1x20000 u shapeCasts_S1x1x20000_S1x20000 (ix2 0 p))) (lit 0xBF800000#32) = _
  rw [g, q]
  rfl

/-- The labels, less one. -/
theorem pay5_at (p : Fin 20000) : ∃ w, First (classes v p) w ∧ k0_pay5 (F := Ideal) v (ix3 0 0 p) = IntOp.addi w 1#32 := by
  have e : ∀ x : IVec S1x20000 32, shapeCast S1x1x20000 x shapeCasts_S1x20000_S1x1x20000 (ix3 0 0 p) = x (ix2 0 p) := fun x => by pointwise
  have e' : ∀ x : IVec S20000 32, shapeCast S1x20000 x shapeCasts_S20000_S1x20000 (ix2 0 p) = x (ix1 p) := fun x => by pointwise
  set sel : IVec S80x20000 32 := select (cmpf .oeq (k0_pay2 (F := Ideal) v) (broadcastTo S80x20000 (k0_pay3 (F := Ideal) v) broadcasts_S1x20000_S80x20000)) (iota .tc S80x20000 32 [0] iota_S80x20000_d0_w32) (broadcast S80x20000 80#32) with hs
  have at_ : ∀ k : Fin 80, sel (ix2 k p) = Scalar.select (BitVec.ofBool (decide (classes v p k = peak (classes v p)))) (BitVec.ofNat 32 k.val) 80#32 := fun k => by
    have b : broadcastTo S80x20000 (k0_pay3 (F := Ideal) v) broadcasts_S1x20000_S80x20000 (ix2 k p) = k0_pay3 (F := Ideal) v (ix2 0 p) := by pointwise
    have i : iota .tc S80x20000 32 [0] iota_S80x20000_d0_w32 (ix2 k p) = BitVec.ofNat 32 k.val := by pointwise
    show Scalar.select (Ideal.cmp .oeq (k0_pay2 (F := Ideal) v (ix2 k p)) (broadcastTo S80x20000 (k0_pay3 (F := Ideal) v) broadcasts_S1x20000_S80x20000 (ix2 k p))) (iota .tc S80x20000 32 [0] iota_S80x20000_d0_w32 (ix2 k p)) 80#32 = _
    rw [b, i, pay2_at, pay3_at]
    rfl
  have m := multiReductionI_eq_fold .minsi sel 2147483647#32 reduces_S80x20000_S20000 rfl (ix1 p)
  refine ⟨multiReductionI .minsi [0] S20000 sel 2147483647#32 reduces_S80x20000_S20000 rfl (ix1 p), ?_, ?_⟩
  · have ls := least_spec (Finset.univ.filter fun i => reduces_S80x20000_S20000.drop i = ix1 p) 2147483647#32 sel
    have m' := m.trans (show _ = (Finset.univ.filter fun i => reduces_S80x20000_S20000.drop i = ix1 p).fold IntOp.minsi 2147483647#32 sel from rfl)
    rw [← m'] at ls
    refine first_of_words _ _ ?_ fun k => ?_
    · rcases ls.1 with h | ⟨i, hi, h⟩
      · exact .inl h
      · refine .inr ⟨i 0, h.trans ?_⟩
        rw [← at_ (i 0), ← lift_at reduces_S80x20000_S20000 p (i 0)]
        rw [← (Finset.mem_filter.mp hi).2, reduces_S80x20000_S20000.lift_drop]
    · rw [← at_ k]
      exact ls.2 _ (Finset.mem_filter.mpr ⟨Finset.mem_univ _, by rw [← lift_at reduces_S80x20000_S20000 p k]; exact reduces_S80x20000_S20000.drop_lift _ _⟩)
  · rw [k0_pay5, e]
    show IntOp.addi (shapeCast S1x20000 _ shapeCasts_S20000_S1x20000 (ix2 0 p)) 1#32 = _
    rw [e']

/-- The tags. -/
theorem pay6_at (p : Fin 20000) : k0_pay1 (k0_pay6 (F := Ideal) u) (ix3 0 0 p) = tagOf (u (ix3 0 0 p)) := by
  have e : ∀ x : IVec S1x20000 32, shapeCast S1x1x20000 x shapeCasts_S1x20000_S1x1x20000 (ix3 0 0 p) = x (ix2 0 p) := fun x => by pointwise
  have g : shapeCast S1x20000 u shapeCasts_S1x1x20000_S1x20000 (ix2 0 p) = u (ix3 0 0 p) := by pointwise
  rw [k0_pay1, e]
  show tagOf (shapeCast S1x20000 u shapeCasts_S1x1x20000_S1x20000 (ix2 0 p)) = _
  rw [g]

end Cert.Best

end
-- ==== Proof.RScore.lean ====
/- The reference's scores, labels and tags, read entry by entry. -/
module

public import proofs.«01_k».proof.Proof.ScoreKernel
public import proofs.«01_k».proof.Proof.Gen.ReferenceIdeal.Run
public import Idealize.ShloMosaic.Lib.StableHlo
public import Idealize.ShloMosaic.Lib.StableHlo.RunClose
public import Idealize.ShloMosaic.Lib.StableHlo.ReadAt

@[expose] public section

set_option maxRecDepth 16384

noncomputable section

namespace Cert.ReferenceIdeal.Run

open Cert.ReferenceIdeal Cert.ReferenceIdeal.Gen
open Idealize.ShloMosaic Idealize.ShloMosaic.TcCoe
open Cert.Best (peak First Under masked tagOf)

variable (W : Valuation τ sig (Elt Ideal))

/-! ## The scores -/

/-- The valuation after the sigmoids and the roundings. -/
abbrev early : Valuation τ sig (Elt Ideal) := StableHlo.after hostOps0_1 (StableHlo.after hostOps0 W)

/-- A place's class scores. -/
def classes (n : Fin 2) (p : Fin 20000) : Fin 80 → EReal := fun k =>
  Ideal.logistic ((W main_arg1 : FVec Ideal S2x80x100x200 .f32) (ix4 n k ⟨p.val / 200, by omega⟩ ⟨p.val % 200, by omega⟩))

/-- The two one-bit spellings of the sigmoid. -/
theorem one_div (x : EReal) : Ideal.div 1 (1 + Ideal.exp (-x)) = Ideal.logistic x := rfl

theorem v7_at (n : Fin 2) (p : Fin 20000) (k : Fin 80) : (early W (Proc.devRef .tc main_v7) : FVec Ideal S2x20000x80 .f32) (ix3 n p k) = classes W n p k := by
  simp only [early, hostOps0, hostOps0_1]
  after_reads_at
  rfl

theorem v17_at (n : Fin 2) (p : Fin 20000) : (early W (Proc.devRef .tc main_v17) : FVec Ideal S2x20000 .f32) (ix2 n p)
    = Ideal.logistic ((W main_arg3 : FVec Ideal S2x1x100x200 .f32) (ix4 n 0 ⟨p.val / 200, by omega⟩ ⟨p.val % 200, by omega⟩)) := by
  simp only [early, hostOps0, hostOps0_1]
  after_reads_at
  rfl

theorem v20_at (n : Fin 2) (p : Fin 20000) : (early W (Proc.devRef .tc main_v20) : FVec Ideal S2x20000 .f32) (ix2 n p)
    = Ideal.liftRound Ideal.roundHalfEven ((W main_arg4 : FVec Ideal S2x1x100x200 .f32) (ix4 n 0 ⟨p.val / 200, by omega⟩ ⟨p.val % 200, by omega⟩)) := by
  simp only [early, hostOps0, hostOps0_1]
  after_reads_at

/-- The valuation after the two reductions. -/
abbrev middle : Valuation τ sig (Elt Ideal) := StableHlo.after hostOps0_3 (StableHlo.after hostOps0_2 W)

theorem v22_eq : middle W (Proc.devRef .tc main_v22) = (Host.reduce (FloatOps.maximumf (F := Ideal) (φ := .f32)) (W main_v7 : FVec Ideal S2x20000x80 .f32) (constant (F := Ideal) S_ .f32 0xFF800000#32) reducesTo_S2x20000x80_S2x20000_d2 h_S_ : FVec Ideal S2x20000 .f32) := by
  simp only [middle, hostOps0_2, hostOps0_3]
  after_results_entrywise [cast_eq]

theorem v23_eq : middle W (Proc.devRef .tc main_v23) = fun j => (Host.argReduce (F := Ideal) (φ := .f32) reducer_argmax_f32_i32 (W main_v7 : FVec Ideal S2x20000x80 .f32) (iotaInDim S2x20000x80 32 2) (constant (F := Ideal) S_ .f32 0xFF800000#32) (constantI S_ 32 0#32) reducesTo_S2x20000x80_S2x20000_d2 h_S_ j).2 := by
  simp only [middle, hostOps0_2, hostOps0_3]
  after_results_entrywise [cast_eq]

theorem v21_eq : middle W (Proc.devRef .tc main_v21) = (fptosi (F := Ideal) (φ := .f32) 32 (W main_v20 : FVec Ideal S2x20000 .f32) : IVec S2x20000 32) := by
  simp only [middle, hostOps0_2, hostOps0_3]
  after_results_entrywise [cast_eq]

theorem v17_keep : middle W (Proc.devRef .tc main_v17) = W main_v17 := by
  simp only [middle, hostOps0_2, hostOps0_3]
  after_results_entrywise [cast_eq]

/-- The valuation after the masking. -/
abbrev late : Valuation τ sig (Elt Ideal) := StableHlo.after hostOps0_5 (StableHlo.after hostOps0_4 W)

/-- The mask, from the greatest class score and the centre score. -/
def mask (x c : EReal) : EReal := Scalar.select (BitVec.ofBool (decide (lit 0x3D4CCCCD#32 < x))) (x * c) (lit 0xBF800000#32)

theorem v29_late (n : Fin 2) (p : Fin 20000) : (late W (Proc.devRef .tc main_v29) : FVec Ideal S2x20000 .f32) (ix2 n p)
    = mask ((W main_v22 : FVec Ideal S2x20000 .f32) (ix2 n p)) ((W main_v17 : FVec Ideal S2x20000 .f32) (ix2 n p)) := by
  have e : late W (Proc.devRef .tc main_v29) = (select (cmpf (F := Ideal) (φ := .f32) .ogt (W main_v22 : FVec Ideal S2x20000 .f32) (broadcastInDim S2x20000 ![] bcast_S_S2x20000 (constant (F := Ideal) S_ .f32 0x3D4CCCCD#32)))
      (mulf (F := Ideal) (φ := .f32) (W main_v22 : FVec Ideal S2x20000 .f32) (W main_v17 : FVec Ideal S2x20000 .f32)) (broadcastInDim S2x20000 ![] bcast_S_S2x20000 (id (constant (F := Ideal) S_ .f32 0xBF800000#32))) : FVec Ideal S2x20000 .f32) := by
    simp only [late, hostOps0_4, hostOps0_5]
    after_results_entrywise [cast_eq]
  rw [e]
  rfl

theorem v25_late (n : Fin 2) (p : Fin 20000) : (late W (Proc.devRef .tc main_v25) : IVec S2x20000 32) (ix2 n p) = IntOp.addi ((W main_v23 : IVec S2x20000 32) (ix2 n p)) 1#32 := by
  have e : late W (Proc.devRef .tc main_v25) = addi (W main_v23 : IVec S2x20000 32) (broadcastInDim S2x20000 ![] bcast_S_S2x20000 (constantI S_ 32 1#32)) := by
    simp only [late, hostOps0_4, hostOps0_5]
    after_results_entrywise [cast_eq]
  rw [e]
  rfl

theorem v21_late : late W (Proc.devRef .tc main_v21) = W main_v21 := by
  simp only [late, hostOps0_4, hostOps0_5]
  after_results_entrywise [cast_eq]

/-! ## The two reductions at an index -/

theorem reduces2 : S2x20000x80.Reduces [2] S2x20000 := by decide

theorem lift2 (n : Fin 2) (p : Fin 20000) (k : Fin 80) : reduces2.lift (ix2 n p) k = ix3 n p k := by
  funext d
  refine Fin.ext ((reduces2.lift_val _ _ _).trans ?_)
  match d with
  | ⟨0, _⟩ => rfl
  | ⟨1, _⟩ => rfl
  | ⟨2, _⟩ => rfl

theorem max_at (x : FVec Ideal S2x20000x80 .f32) (n : Fin 2) (p : Fin 20000) :
    Host.reduce FloatOps.maximumf x (constant S_ .f32 0xFF800000#32) reducesTo_S2x20000x80_S2x20000_d2 h_S_ (ix2 n p) = peak fun k => x (ix3 n p k) := by
  refine (Host.reduce_eq_fold_single _ x _ reducesTo_S2x20000x80_S2x20000_d2 reduces2 h_S_ (ix2 n p)).trans ?_
  exact congrArg (Finset.univ.fold max (lit 0xFF800000#32)) (funext fun k => congrArg x (lift2 n p k))

theorem argmax_at (x : FVec Ideal S2x20000x80 .f32) (n : Fin 2) (p : Fin 20000) :
    First (fun k => x (ix3 n p k)) (Host.argReduce reducer_argmax_f32_i32 x (iotaInDim S2x20000x80 32 2) (constant S_ .f32 0xFF800000#32) (constantI S_ 32 0#32) reducesTo_S2x20000x80_S2x20000_d2 h_S_ (ix2 n p)).2 := by
  rw [Ideal.argReduce_eq_reduce2, Host.reduce2_eq_foldl_fiber]
  obtain ⟨h1, -, h3⟩ := Cert.Best.fold_spec (Host.argReduceFiber x (iotaInDim S2x20000x80 32 2) reducesTo_S2x20000x80_S2x20000_d2 (ix2 n p)) (lit 0xFF800000#32, 0#32)
  have mem : ∀ e, e ∈ Host.argReduceFiber x (iotaInDim S2x20000x80 32 2) reducesTo_S2x20000x80_S2x20000_d2 (ix2 n p) ↔ ∃ k : Fin 80, e = (x (ix3 n p k), BitVec.ofNat 32 k.val) := by
    intro e
    unfold Host.argReduceFiber
    simp only [List.mem_map, List.mem_filter, List.mem_finRange, true_and, decide_eq_true_eq]
    constructor
    · rintro ⟨q, hq, rfl⟩
      rw [Shape.ReducesTo.drop_eq_drop _ reduces2] at hq
      refine ⟨(S2x20000x80.rowMajor.symm q) 2, ?_⟩
      have e := lift2 n p ((S2x20000x80.rowMajor.symm q) 2)
      have e : S2x20000x80.rowMajor.symm q = ix3 n p ((S2x20000x80.rowMajor.symm q) 2) := by
        refine Eq.trans ?_ e
        rw [← hq, reduces2.lift_drop]
      refine Prod.ext (congrArg x e) ?_
      rfl
    · rintro ⟨k, rfl⟩
      refine ⟨S2x20000x80.rowMajor (ix3 n p k), ?_, ?_⟩
      · rw [Equiv.symm_apply_apply, Shape.ReducesTo.drop_eq_drop _ reduces2, ← lift2 n p k]
        exact reduces2.drop_lift _ _
      · rw [Equiv.symm_apply_apply]
        rfl
  refine Cert.Best.first_of_pairs _ _ ?_ fun k => h3 _ ((mem _).mpr ⟨k, rfl⟩)
  rcases h1 with h1 | h1
  · exact .inl h1
  · exact .inr ((mem _).mp h1)

/-! ## Together -/

/-- The valuation after the score operations. -/
abbrev scored : Valuation τ sig (Elt Ideal) := late (middle (early W))

theorem score_at (n : Fin 2) (p : Fin 20000) : (scored W (Proc.devRef .tc main_v29) : FVec Ideal S2x20000 .f32) (ix2 n p)
    = masked (classes W n p) (Ideal.logistic ((W main_arg3 : FVec Ideal S2x1x100x200 .f32) (ix4 n 0 ⟨p.val / 200, by omega⟩ ⟨p.val % 200, by omega⟩))) := by
  refine (v29_late _ n p).trans ?_
  rw [v17_keep, v22_eq, max_at, v17_at]
  rw [show (fun k => (early W (Proc.devRef .tc main_v7) : FVec Ideal S2x20000x80 .f32) (ix3 n p k)) = classes W n p from funext (v7_at W n p)]
  rfl

theorem label_at (n : Fin 2) (p : Fin 20000) : ∃ w, First (classes W n p) w ∧ (scored W (Proc.devRef .tc main_v25) : IVec S2x20000 32) (ix2 n p) = IntOp.addi w 1#32 := by
  refine ⟨_, ?_, v25_late _ n p⟩
  rw [v23_eq]
  have := argmax_at (early W (Proc.devRef .tc main_v7)) n p
  rwa [show (fun k => (early W (Proc.devRef .tc main_v7) : FVec Ideal S2x20000x80 .f32) (ix3 n p k)) = classes W n p from funext (v7_at W n p)] at this

theorem tag_at (n : Fin 2) (p : Fin 20000) : (scored W (Proc.devRef .tc main_v21) : IVec S2x20000 32) (ix2 n p)
    = tagOf ((W main_arg4 : FVec Ideal S2x1x100x200 .f32) (ix4 n 0 ⟨p.val / 200, by omega⟩ ⟨p.val % 200, by omega⟩)) := by
  refine (congrFun ((v21_late _).trans (v21_eq _)) _).trans ?_
  exact congrArg (FloatOps.fptosi (F := Ideal) (φ := .f32) 32) (v20_at W n p)

end Cert.ReferenceIdeal.Run

end
-- ==== Proof.KScore.lean ====
/- What the score region leaves: its three arrays, entry by entry, are the reference's scores, labels and tags. -/
module

public import proofs.«01_k».proof.Proof.RScore
public import proofs.«01_k».proof.Proof.WholeIdeal
public import Idealize.ShloMosaic.Lib.StableHlo
public import Idealize.ShloMosaic.Lib.StableHlo.ReadAt
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)
open Cert.Best (peak First Under masked tagOf)

section

variable (V : (c : Dev nD) → (b : Ref sig .tc) → Buf (Elt Ideal) ((c : Thread nD τ).loc b)) (c : Dev nD)

/-- The point an image is at. -/
def at0 (n : Fin 2) : Fin cfg0.N := ⟨n.val, n.isLt⟩

theorem blk0_0 (n : Fin 2) (k : Fin 80) (p : Fin 20000) :
    (blk0 V c 0 (at0 n) : FVec Ideal S1x80x20000 .f32) (ix3 0 k p) = (V c main_v0 : FVec Ideal S2x80x20000 .f32) (ix3 n k p) := by
  show (V c main_v0 : FVec Ideal S2x80x20000 .f32) (((cfg0.win 0).blk (at0 n)).view.emb (ix3 0 k p)) = _
  refine congrArg (V c main_v0 : FVec Ideal S2x80x20000 .f32) ?_
  blk_ext [(by decide +kernel : ∀ t : Fin cfg0.N, win0_0.index t = ![t.val, 0, 0])]
  rfl

theorem blk0_1 (n : Fin 2) (p : Fin 20000) :
    (blk0 V c 1 (at0 n) : FVec Ideal S1x1x20000 .f32) (ix3 0 0 p) = (V c main_v1 : FVec Ideal S2x1x20000 .f32) (ix3 n 0 p) := by
  show (V c main_v1 : FVec Ideal S2x1x20000 .f32) (((cfg0.win 1).blk (at0 n)).view.emb (ix3 0 0 p)) = _
  refine congrArg (V c main_v1 : FVec Ideal S2x1x20000 .f32) ?_
  blk_ext [(by decide +kernel : ∀ t : Fin cfg0.N, win0_1.index t = ![t.val, 0, 0])]
  rfl

theorem blk0_2 (n : Fin 2) (p : Fin 20000) :
    (blk0 V c 2 (at0 n) : FVec Ideal S1x1x20000 .f32) (ix3 0 0 p) = (V c main_v2 : FVec Ideal S2x1x20000 .f32) (ix3 n 0 p) := by
  show (V c main_v2 : FVec Ideal S2x1x20000 .f32) (((cfg0.win 2).blk (at0 n)).view.emb (ix3 0 0 p)) = _
  refine congrArg (V c main_v2 : FVec Ideal S2x1x20000 .f32) ?_
  blk_ext [(by decide +kernel : ∀ t : Fin cfg0.N, win0_2.index t = ![t.val, 0, 0])]
  rfl

/-- One row per image, each from its own point. -/
def laid {α : Type} (g : Fin cfg0.N → S1x1x20000.Idx → α) : S2x1x20000.Idx → α := fun i => g (at0 (i 0)) (ix3 0 0 (i 2))

theorem slab_ix (y : S1x1x20000.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

/-- Moving an entry to where an array of its slabs holds it. -/
theorem laid_at {α : Type} (g : Fin cfg0.N → S1x1x20000.Idx → α) (t : Fin cfg0.N) (y : S1x1x20000.Idx) (e : S1x1x20000.Idx → α) (h : e = g t) :
    e y = laid g (ix3 t 0 (y 2)) := by
  subst h
  exact congrArg (g t) (slab_ix y)

theorem after0_3 (t : Fin cfg0.N) : (dat0 V c).after 3 t = k0_pay4 (F := Ideal) (blk0 V c 0 t) (blk0 V c 1 t) := by
  delta dat0
  dsimp only

theorem final0_3 : (dat0 V c).arrAt 3 cfg0.N = laid fun t => k0_pay4 (F := Ideal) (blk0 V c 0 t) (blk0 V c 1 t) := by
  refine (dat0 V c).arrAt_eq_of_covers 3 _ (by decide +kernel) fun t hf y => ?_
  have ht : ((cfg0.win 3).blk t).view.emb y = (ix3 t 0 (y 2) : S2x1x20000.Idx) := by
    blk_ext [(by decide +kernel : ∀ t : Fin cfg0.N, win0_3.index t = ![t.val, 0, 0])]
  rw [ht]
  exact laid_at (fun t => k0_pay4 (F := Ideal) (blk0 V c 0 t) (blk0 V c 1 t)) t y ((dat0 V c).after 3 t) (after0_3 V c t)

theorem final0_4 : (dat0 V c).arrAt 4 cfg0.N = laid fun t => k0_pay5 (F := Ideal) (blk0 V c 0 t) := by
  refine (dat0 V c).arrAt_eq_of_covers 4 _ (by decide +kernel) fun t hf y => ?_
  have ht : ((cfg0.win 4).blk t).view.emb y = (ix3 t 0 (y 2) : S2x1x20000.Idx) := by
    blk_ext [(by decide +kernel : ∀ t : Fin cfg0.N, win0_4.index t = ![t.val, 0, 0])]
  rw [ht]
  exact laid_at (fun t => k0_pay5 (F := Ideal) (blk0 V c 0 t)) t y ((dat0 V c).after 4 t) rfl

theorem final0_5 : (dat0 V c).arrAt 5 cfg0.N = laid fun t => k0_pay1 (k0_pay6 (F := Ideal) (blk0 V c 2 t)) := by
  refine (dat0 V c).arrAt_eq_of_covers 5 _ (by decide +kernel) fun t hf y => ?_
  have ht : ((cfg0.win 5).blk t).view.emb y = (ix3 t 0 (y 2) : S2x1x20000.Idx) := by
    blk_ext [(by decide +kernel : ∀ t : Fin cfg0.N, win0_5.index t = ![t.val, 0, 0])]
  rw [ht]
  exact laid_at (fun t => k0_pay1 (k0_pay6 (F := Ideal) (blk0 V c 2 t))) t y ((dat0 V c).after 5 t) rfl

end

section

variable (m : (ℓ : Loc nD τ sig) → Buf (Elt Ideal) ℓ) (c : Dev nD)

theorem v0_at (n : Fin 2) (k : Fin 80) (p : Fin 20000) : (V1 m c (Proc.devRef .tc main_v0) : FVec Ideal S2x80x20000 .f32) (ix3 n k p)
    = (V0 m c main_arg1 : FVec Ideal S2x80x100x200 .f32) (ix4 n k ⟨p.val / 200, by omega⟩ ⟨p.val % 200, by omega⟩) := by
  simp only [V1, hostOps0]
  after_reads_at

theorem v1_at (n : Fin 2) (p : Fin 20000) : (V1 m c (Proc.devRef .tc main_v1) : FVec Ideal S2x1x20000 .f32) (ix3 n 0 p)
    = (V0 m c main_arg3 : FVec Ideal S2x1x100x200 .f32) (ix4 n 0 ⟨p.val / 200, by omega⟩ ⟨p.val % 200, by omega⟩) := by
  simp only [V1, hostOps0]
  after_reads_at

theorem v2_at (n : Fin 2) (p : Fin 20000) : (V1 m c (Proc.devRef .tc main_v2) : FVec Ideal S2x1x20000 .f32) (ix3 n 0 p)
    = (V0 m c main_arg4 : FVec Ideal S2x1x100x200 .f32) (ix4 n 0 ⟨p.val / 200, by omega⟩ ⟨p.val % 200, by omega⟩) := by
  simp only [V1, hostOps0]
  after_reads_at

/-- The arrays the score region leaves. -/
theorem v3_0_eq : V2 m (o m) c (Proc.devRef .tc main_v3_0) = (D0 m c).arrAt 3 cfg0.N := by
  rw [← left0]
  exact Pipeline.afterRegion_arr (D0 m c) (V1 m c) launch0.win.arr_inj 3
theorem v3_1_eq : V2 m (o m) c (Proc.devRef .tc main_v3_1) = (D0 m c).arrAt 4 cfg0.N := by
  rw [← left0]
  exact Pipeline.afterRegion_arr (D0 m c) (V1 m c) launch0.win.arr_inj 4
theorem v3_2_eq : V2 m (o m) c (Proc.devRef .tc main_v3_2) = (D0 m c).arrAt 5 cfg0.N := by
  rw [← left0]
  exact Pipeline.afterRegion_arr (D0 m c) (V1 m c) launch0.win.arr_inj 5

end

end Cert.KernelIdeal.Run

end
-- ==== Proof.KSame.lean ====
/- The three arrays the score region leaves are the reference's scores, labels and tags. -/
module

public import proofs.«01_k».proof.Proof.KScore
public import proofs.«01_k».proof.Proof.RScore
public import proofs.«01_k».proof.Proof.WholeIdeal
public import Idealize.ShloMosaic.Lib.StableHlo
public import Idealize.ShloMosaic.Lib.StableHlo.ReadAt
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)
open Cert.Best (peak First Under masked tagOf)

section

variable (B0 : Fin cfg0.N → FVec Ideal S1x80x20000 .f32) (B1 B2 : Fin cfg0.N → FVec Ideal S1x1x20000 .f32) (n : Fin 2) (p : Fin 20000)

theorem laid4 : laid (fun t => k0_pay4 (F := Ideal) (B0 t) (B1 t)) (ix3 n 0 p) = masked (Cert.Best.classes (B0 (at0 n)) p) (Ideal.logistic (B1 (at0 n) (ix3 0 0 p))) :=
  Cert.Best.pay4_at (B0 (at0 n)) (B1 (at0 n)) p

theorem laid5 : ∃ w, First (Cert.Best.classes (B0 (at0 n)) p) w ∧ laid (fun t => k0_pay5 (F := Ideal) (B0 t)) (ix3 n 0 p) = IntOp.addi w 1#32 :=
  Cert.Best.pay5_at (B0 (at0 n)) p

theorem laid6 : laid (fun t => k0_pay1 (k0_pay6 (F := Ideal) (B2 t))) (ix3 n 0 p) = tagOf (B2 (at0 n) (ix3 0 0 p)) :=
  Cert.Best.pay6_at (B2 (at0 n)) p

end

section

variable (m : (ℓ : Loc nD τ sig) → Buf (Elt Ideal) ℓ) (c : Dev nD) (S : Valuation Cert.ReferenceIdeal.τ Cert.ReferenceIdeal.sig (Elt Ideal))

/-- An index of two axes by its coordinates. -/
theorem ix2_of {a b : Nat} (i : (⟨2, ![a, b]⟩ : Shape).Idx) : i = ix2 (i 0) (i 1) := by
  funext k
  match k with
  | ⟨0, _⟩ => rfl
  | ⟨1, _⟩ => rfl

/-- Two arrays of one row per image are equal when their entries are. -/
theorem flat_ext {α : Type} (x : S2x1x20000.Idx → α) (y : S2x20000.Idx → α) (h : ∀ n p, x (ix3 n 0 p) = y (ix2 n p)) :
    shapeCast S2x20000 x shapeCasts_S2x1x20000_S2x20000 = y := by
  funext i
  obtain ⟨n, p, rfl⟩ : ∃ (n : Fin 2) (p : Fin 20000), i = ix2 n p := ⟨i 0, i 1, ix2_of i⟩
  refine Eq.trans ?_ (h n p)
  pointwise

/-- A place's class scores are the same on both sides. -/
theorem classes_same (h1 : (V0 m c main_arg1 : FVec Ideal S2x80x100x200 .f32) = S Cert.ReferenceIdeal.main_arg1) (n : Fin 2) (p : Fin 20000) :
    Cert.Best.classes (blk0 (fun c b => V1 m c (Proc.devRef .tc b)) c 0 (at0 n)) p = Cert.ReferenceIdeal.Run.classes S n p := by
  funext k
  unfold Cert.Best.classes Cert.ReferenceIdeal.Run.classes
  rw [blk0_0, v0_at, h1]

/-- The scores. -/
theorem scores_same (h1 : (V0 m c main_arg1 : FVec Ideal S2x80x100x200 .f32) = S Cert.ReferenceIdeal.main_arg1)
    (h3 : (V0 m c main_arg3 : FVec Ideal S2x1x100x200 .f32) = S Cert.ReferenceIdeal.main_arg3) :
    (shapeCast S2x20000 (V2 m (o m) c (Proc.devRef .tc main_v3_0) : FVec Ideal S2x1x20000 .f32) shapeCasts_S2x1x20000_S2x20000 : FVec Ideal S2x20000 .f32)
      = Cert.ReferenceIdeal.Run.scored S (Proc.devRef .tc Cert.ReferenceIdeal.main_v29) := by
  rw [v3_0_eq, final0_3]
  refine flat_ext _ _ fun n p => ?_
  rw [Cert.ReferenceIdeal.Run.score_at S n p, laid4, classes_same m c S h1, blk0_1, v1_at, h3]

/-- The labels. -/
theorem labels_same (h1 : (V0 m c main_arg1 : FVec Ideal S2x80x100x200 .f32) = S Cert.ReferenceIdeal.main_arg1) :
    (shapeCast S2x20000 (V2 m (o m) c (Proc.devRef .tc main_v3_1) : IVec S2x1x20000 32) shapeCasts_S2x1x20000_S2x20000 : IVec S2x20000 32)
      = Cert.ReferenceIdeal.Run.scored S (Proc.devRef .tc Cert.ReferenceIdeal.main_v25) := by
  rw [v3_1_eq, final0_4]
  refine flat_ext _ _ fun n p => ?_
  obtain ⟨w, hw, e⟩ := Cert.ReferenceIdeal.Run.label_at S n p
  obtain ⟨w', hw', e'⟩ := laid5 (fun t => blk0 (fun c b => V1 m c (Proc.devRef .tc b)) c 0 t) n p
  rw [classes_same m c S h1] at hw'
  rw [e, e', hw.unique hw']

/-- The tags. -/
theorem tags_same (h4 : (V0 m c main_arg4 : FVec Ideal S2x1x100x200 .f32) = S Cert.ReferenceIdeal.main_arg4) :
    (shapeCast S2x20000 (V2 m (o m) c (Proc.devRef .tc main_v3_2) : IVec S2x1x20000 32) shapeCasts_S2x1x20000_S2x20000 : IVec S2x20000 32)
      = Cert.ReferenceIdeal.Run.scored S (Proc.devRef .tc Cert.ReferenceIdeal.main_v21) := by
  rw [v3_2_eq, final0_5]
  refine flat_ext _ _ fun n p => ?_
  rw [Cert.ReferenceIdeal.Run.tag_at S n p, laid6, blk0_2, v2_at, h4]

end

end Cert.KernelIdeal.Run

end
-- ==== Proof.Takes.lean ====
/- Reading a row of a table at an index that is in range: the guard holds, so the entry is read. -/
module

public import proofs.«01_k».proof.Proof.Gen.KernelIdeal.Regions
public import proofs.«01_k».proof.Proof.Gen.ReferenceIdeal.Run
public import Idealize.ShloMosaic.Lib.ValueIdxCore
public import Idealize.ShloMosaic.Lib.Pointwise
public import Idealize.ShloMosaic.Lib.Pipeline.Value

@[expose] public section

set_option maxRecDepth 16384

noncomputable section

namespace Cert.Take

open Idealize.ShloMosaic Cert.KernelIdeal Cert.KernelIdeal.Gen

variable {α : Type}

/-! ## The entry a gather reads, its index clamped -/

/-- Of a table of two columns. -/
theorem gather_loc (x : S20000x2.Idx → α) (i : IVec S2x1000x1 32) (n : Fin 2) (j : Fin 1000) (k : Fin 2) :
    Host.gather gather_S20000x2_S2x1000x1_S2x1000x2_2_0_n_n_0_2_12 x i (ix3 n j k) = x (ix2 ⟨min (i (ix3 n j 0)).toInt.toNat 19999, by omega⟩ k) := by
  unfold Host.gather
  congr 1
  funext a
  refine Fin.ext ?_
  show (gather_S20000x2_S2x1000x1_S2x1000x2_2_0_n_n_0_2_12).start (ix3 n j k) i a + (gather_S20000x2_S2x1000x1_S2x1000x2_2_0_n_n_0_2_12).batchCoord (ix3 n j k) a + (gather_S20000x2_S2x1000x1_S2x1000x2_2_0_n_n_0_2_12).offCoord (ix3 n j k) a = _
  match a with
  | ⟨0, _⟩ =>
    have hsi : (gather_S20000x2_S2x1000x1_S2x1000x2_2_0_n_n_0_2_12).siIdx (ix3 n j k) ⟨0, by decide⟩ = ix3 n j 0 := by
      funext b
      match b with
      | ⟨0, _⟩ => rfl
      | ⟨1, _⟩ => rfl
      | ⟨2, _⟩ => rfl
    show min (i ((gather_S20000x2_S2x1000x1_S2x1000x2_2_0_n_n_0_2_12).siIdx (ix3 n j k) ⟨0, by decide⟩)).toInt.toNat _ + 0 + 0 = _
    rw [hsi]
    rfl
  | ⟨1, _⟩ =>
    show 0 + 0 + k.val = k.val
    omega

/-- Of each image's table, its columns second. -/
theorem gather_cols (x : S2x4x20000.Idx → α) (i : IVec S2x1000x1 32) (n : Fin 2) (k : Fin 4) (j : Fin 1000) :
    Host.gather gather_S2x4x20000_S2x1000x1_S2x4x1000_1_2_0_0_2_2_141 x i (ix3 n k j) = x (ix3 n k ⟨min (i (ix3 n j 0)).toInt.toNat 19999, by omega⟩) := by
  unfold Host.gather
  congr 1
  funext a
  refine Fin.ext ?_
  show (gather_S2x4x20000_S2x1000x1_S2x4x1000_1_2_0_0_2_2_141).start (ix3 n k j) i a + (gather_S2x4x20000_S2x1000x1_S2x4x1000_1_2_0_0_2_2_141).batchCoord (ix3 n k j) a + (gather_S2x4x20000_S2x1000x1_S2x4x1000_1_2_0_0_2_2_141).offCoord (ix3 n k j) a = _
  match a with
  | ⟨0, _⟩ =>
    show 0 + n.val + 0 = n.val
    omega
  | ⟨1, _⟩ =>
    show 0 + 0 + k.val = k.val
    omega
  | ⟨2, _⟩ =>
    have hsi : (gather_S2x4x20000_S2x1000x1_S2x4x1000_1_2_0_0_2_2_141).siIdx (ix3 n k j) ⟨0, by decide⟩ = ix3 n j 0 := by
      funext b
      match b with
      | ⟨0, _⟩ => rfl
      | ⟨1, _⟩ => rfl
      | ⟨2, _⟩ => rfl
    show min (i ((gather_S2x4x20000_S2x1000x1_S2x4x1000_1_2_0_0_2_2_141).siIdx (ix3 n k j) ⟨0, by decide⟩)).toInt.toNat _ + 0 + 0 = _
    rw [hsi]
    rfl

/-- Of each image's list. -/
theorem gather_one (x : S2x20000.Idx → α) (i : IVec S2x1000x1 32) (n : Fin 2) (j : Fin 1000) :
    Host.gather gather_S2x20000_S2x1000x1_S2x1000_n_1_0_0_1_2_11 x i (ix2 n j) = x (ix2 n ⟨min (i (ix3 n j 0)).toInt.toNat 19999, by omega⟩) := by
  unfold Host.gather
  congr 1
  funext a
  refine Fin.ext ?_
  show (gather_S2x20000_S2x1000x1_S2x1000_n_1_0_0_1_2_11).start (ix2 n j) i a + (gather_S2x20000_S2x1000x1_S2x1000_n_1_0_0_1_2_11).batchCoord (ix2 n j) a + (gather_S2x20000_S2x1000x1_S2x1000_n_1_0_0_1_2_11).offCoord (ix2 n j) a = _
  match a with
  | ⟨0, _⟩ =>
    show 0 + n.val + 0 = n.val
    omega
  | ⟨1, _⟩ =>
    have hsi : (gather_S2x20000_S2x1000x1_S2x1000_n_1_0_0_1_2_11).siIdx (ix2 n j) ⟨0, by decide⟩ = ix3 n j 0 := by
      funext b
      match b with
      | ⟨0, _⟩ => rfl
      | ⟨1, _⟩ => rfl
      | ⟨2, _⟩ => rfl
    show min (i ((gather_S2x20000_S2x1000x1_S2x1000_n_1_0_0_1_2_11).siIdx (ix2 n j) ⟨0, by decide⟩)).toInt.toNat _ + 0 + 0 = _
    rw [hsi]
    rfl

/-- Of each image's table, its columns last. -/
theorem gather_rows (x : Cert.ReferenceIdeal.S2x20000x4.Idx → α) (i : IVec S2x1000x1 32) (n : Fin 2) (j : Fin 1000) (k : Fin 4) :
    Host.gather Cert.ReferenceIdeal.gather_S2x20000x4_S2x1000x1_S2x1000x4_2_1_0_0_1_2_114 x i (ix3 n j k) = x (ix3 n ⟨min (i (ix3 n j 0)).toInt.toNat 19999, by omega⟩ k) := by
  unfold Host.gather
  congr 1
  funext a
  refine Fin.ext ?_
  show (Cert.ReferenceIdeal.gather_S2x20000x4_S2x1000x1_S2x1000x4_2_1_0_0_1_2_114).start (ix3 n j k) i a + (Cert.ReferenceIdeal.gather_S2x20000x4_S2x1000x1_S2x1000x4_2_1_0_0_1_2_114).batchCoord (ix3 n j k) a + (Cert.ReferenceIdeal.gather_S2x20000x4_S2x1000x1_S2x1000x4_2_1_0_0_1_2_114).offCoord (ix3 n j k) a = _
  match a with
  | ⟨0, _⟩ =>
    show 0 + n.val + 0 = n.val
    omega
  | ⟨1, _⟩ =>
    have hsi : (Cert.ReferenceIdeal.gather_S2x20000x4_S2x1000x1_S2x1000x4_2_1_0_0_1_2_114).siIdx (ix3 n j k) ⟨0, by decide⟩ = ix3 n j 0 := by
      funext b
      match b with
      | ⟨0, _⟩ => rfl
      | ⟨1, _⟩ => rfl
      | ⟨2, _⟩ => rfl
    show min (i ((Cert.ReferenceIdeal.gather_S2x20000x4_S2x1000x1_S2x1000x4_2_1_0_0_1_2_114).siIdx (ix3 n j k) ⟨0, by decide⟩)).toInt.toNat _ + 0 + 0 = _
    rw [hsi]
    rfl
  | ⟨2, _⟩ =>
    show 0 + 0 + k.val = k.val
    omega

/-- Of each image's thousand rows. -/
theorem gather_perm (x : Cert.ReferenceIdeal.S2x1000x4.Idx → α) (i : IVec S2x1000x1 32) (n : Fin 2) (j : Fin 1000) (k : Fin 4) :
    Host.gather Cert.ReferenceIdeal.gather_S2x1000x4_S2x1000x1_S2x1000x4_2_1_0_0_1_2_114 x i (ix3 n j k) = x (ix3 n ⟨min (i (ix3 n j 0)).toInt.toNat 999, by omega⟩ k) := by
  unfold Host.gather
  congr 1
  funext a
  refine Fin.ext ?_
  show (Cert.ReferenceIdeal.gather_S2x1000x4_S2x1000x1_S2x1000x4_2_1_0_0_1_2_114).start (ix3 n j k) i a + (Cert.ReferenceIdeal.gather_S2x1000x4_S2x1000x1_S2x1000x4_2_1_0_0_1_2_114).batchCoord (ix3 n j k) a + (Cert.ReferenceIdeal.gather_S2x1000x4_S2x1000x1_S2x1000x4_2_1_0_0_1_2_114).offCoord (ix3 n j k) a = _
  match a with
  | ⟨0, _⟩ =>
    show 0 + n.val + 0 = n.val
    omega
  | ⟨1, _⟩ =>
    have hsi : (Cert.ReferenceIdeal.gather_S2x1000x4_S2x1000x1_S2x1000x4_2_1_0_0_1_2_114).siIdx (ix3 n j k) ⟨0, by decide⟩ = ix3 n j 0 := by
      funext b
      match b with
      | ⟨0, _⟩ => rfl
      | ⟨1, _⟩ => rfl
      | ⟨2, _⟩ => rfl
    show min (i ((Cert.ReferenceIdeal.gather_S2x1000x4_S2x1000x1_S2x1000x4_2_1_0_0_1_2_114).siIdx (ix3 n j k) ⟨0, by decide⟩)).toInt.toNat _ + 0 + 0 = _
    rw [hsi]
    rfl
  | ⟨2, _⟩ =>
    show 0 + 0 + k.val = k.val
    omega

/-! ## The guard -/

/-- A small number's word, read signed. -/
theorem toInt_small (p : ℕ) (h : p < 20000) : (BitVec.ofNat 32 p).toInt = p := by
  have e : (BitVec.ofNat 32 p).toNat = p := by rw [BitVec.toNat_ofNat]; omega
  rw [BitVec.toInt_eq_toNat_of_lt (by omega), e]

/-- An index that is not negative is not moved. -/
theorem wrap_small (p : ℕ) (h : p < 20000) (y : BitVec 32) :
    Scalar.select (IntOp.cmpi .slt (BitVec.ofNat 32 p) 0#32) y (BitVec.ofNat 32 p) = BitVec.ofNat 32 p := by
  have e := toInt_small p h
  have : (BitVec.ofNat 32 p).slt 0#32 = false := by
    rw [BitVec.slt, e]; exact decide_eq_false (by simp)
  simp only [IntOp.cmpi, this]
  rfl

/-- The guard over the index vector's single component. -/
theorem guard_one (x : IVec S2x1000x1 1) (init : IVec S_ 1) (hi : init (Shape.Idx.first h_S_) = 1#1) (n : Fin 2) (j : Fin 1000)
    (hx : x (ix3 n j 0) = 1#1) :
    Host.reduce IntOp.andi x init reducesTo_S2x1000x1_S2x1000_d2 h_S_ (ix2 n j) = 1#1 := by
  have hr : S2x1000x1.Reduces [2] S2x1000 := by decide
  rw [Host.reduce_eq_fold_single IntOp.andi x init _ hr]
  have hl : ∀ k : Fin (S2x1000x1.size 2), hr.lift (ix2 n j) k = ix3 n j 0 := by
    intro k
    obtain rfl : k = (0 : Fin 1) := Subsingleton.elim (α := Fin 1) _ _
    funext b
    match b with
    | ⟨0, _⟩ => rfl
    | ⟨1, _⟩ => rfl
    | ⟨2, _⟩ => rfl
  have hc : x ∘ hr.lift (ix2 n j) = fun _ => 1#1 := funext fun k => (congrArg x (hl k)).trans hx
  rw [hc, hi]
  rfl

/-- Both bounds hold of an index in range. -/
theorem bounds (p b : ℕ) (h : p ≤ b) (hb : b < 20000) :
    IntOp.andi (IntOp.cmpi .sge (BitVec.ofNat 32 p) 0#32) (IntOp.cmpi .sle (BitVec.ofNat 32 p) (BitVec.ofNat 32 b)) = 1#1 := by
  have e := toInt_small p (by omega)
  have e' := toInt_small b hb
  have h1 : (0#32).sle (BitVec.ofNat 32 p) = true := by rw [BitVec.sle, e]; exact decide_eq_true (by simp)
  have h2 : (BitVec.ofNat 32 p).sle (BitVec.ofNat 32 b) = true := by rw [BitVec.sle, e, e']; exact decide_eq_true (by omega)
  simp only [IntOp.cmpi, h1, h2]
  rfl

/-- The guard as the programs compute it. -/
def inside (b : BitVec 32) (i : IVec S2x1000x1 32) : IVec S2x1000 1 :=
  Host.reduce IntOp.andi (andi (cmpi .sge i (broadcastInDim S2x1000x1 ![] bcast_S_S2x1000x1 (constantI S_ 32 0#32)))
    (cmpi .sle i (broadcastInDim S2x1000x1 ![0, 1, 2] bcast_S1x1x1_S2x1000x1_0_1_2 (broadcastInDim S1x1x1 ![2] bcast_S1_S1x1x1_2 (constantI S1 32 b)))))
    (constantI S_ 1 1#1) reducesTo_S2x1000x1_S2x1000_d2 h_S_

theorem inside_one (i : IVec S2x1000x1 32) (b p : ℕ) (h : p ≤ b) (hb : b < 20000) (n : Fin 2) (j : Fin 1000)
    (hi : i (ix3 n j 0) = BitVec.ofNat 32 p) : inside (BitVec.ofNat 32 b) i (ix2 n j) = 1#1 := by
  refine guard_one _ _ rfl n j ?_
  show IntOp.andi (IntOp.cmpi .sge (i (ix3 n j 0)) 0#32) (IntOp.cmpi .sle (i (ix3 n j 0)) (BitVec.ofNat 32 b)) = 1#1
  rw [hi]
  exact bounds p b h hb

/-- A negative index counts from the end. -/
def wrap (N : BitVec 32) (i : IVec S2x1000 32) : IVec S2x1000 32 :=
  select (cmpi .slt i (broadcastInDim S2x1000 ![] bcast_S_S2x1000 (constantI S_ 32 0#32)))
    (addi i (broadcastInDim S2x1000 ![] bcast_S_S2x1000 (constantI S_ 32 N))) i
/-- An index list as a list of index vectors. -/
def vec (i : IVec S2x1000 32) : IVec S2x1000x1 32 := broadcastInDim S2x1000x1 ![0, 1] bcast_S2x1000_S2x1000x1_0_1 i
def wrapv (N : BitVec 32) (i : IVec S2x1000x1 32) : IVec S2x1000x1 32 :=
  select (cmpi .slt i (broadcastInDim S2x1000x1 ![] bcast_S_S2x1000x1 (constantI S_ 32 0#32)))
    (addi i (broadcastInDim S2x1000x1 ![] bcast_S_S2x1000x1 (constantI S_ 32 N))) i

theorem vec_at (i : IVec S2x1000 32) (n : Fin 2) (j : Fin 1000) : vec i (ix3 n j 0) = i (ix2 n j) := by
  unfold vec
  pointwise

theorem wrap_at (N : BitVec 32) (i : IVec S2x1000 32) (p : ℕ) (h : p < 20000) (n : Fin 2) (j : Fin 1000) (hi : i (ix2 n j) = BitVec.ofNat 32 p) :
    wrap N i (ix2 n j) = BitVec.ofNat 32 p := by
  show Scalar.select (IntOp.cmpi .slt (i (ix2 n j)) 0#32) (IntOp.addi (i (ix2 n j)) N) (i (ix2 n j)) = _
  rw [hi]
  exact wrap_small p h _

theorem wrapv_at (N : BitVec 32) (i : IVec S2x1000x1 32) (p : ℕ) (h : p < 20000) (n : Fin 2) (j : Fin 1000) (hi : i (ix3 n j 0) = BitVec.ofNat 32 p) :
    wrapv N i (ix3 n j 0) = BitVec.ofNat 32 p := by
  show Scalar.select (IntOp.cmpi .slt (i (ix3 n j 0)) 0#32) (IntOp.addi (i (ix3 n j 0)) N) (i (ix3 n j 0)) = _
  rw [hi]
  exact wrap_small p h _

theorem clamp (p b : ℕ) (h : p ≤ b) (hb : b < 20000) (w : BitVec 32) (hw : w = BitVec.ofNat 32 p) : min w.toInt.toNat b = p := by
  subst hw
  rw [toInt_small p (by omega)]
  omega

variable {F : FTy → Type} [FloatOps F]

/-- The guarded read of the location table. -/
def loc (x : FVec F S20000x2 .f32) (i : IVec S2x1000x1 32) : FVec F S2x1000x2 .f32 :=
  select (broadcastInDim S2x1000x2 ![0, 1] bcast_S2x1000_S2x1000x2_0_1 (inside 19999#32 i))
    (Host.gather gather_S20000x2_S2x1000x1_S2x1000x2_2_0_n_n_0_2_12 x i)
    (broadcastInDim S2x1000x2 ![] bcast_S_S2x1000x2 (constant (F := F) S_ .f32 0x7FC00000#32))
/-- The guarded read of the distances, columns second; -/
def cols (x : FVec F S2x4x20000 .f32) (i : IVec S2x1000x1 32) : FVec F S2x4x1000 .f32 :=
  select (broadcastInDim S2x4x1000 ![0, 2] bcast_S2x1000_S2x4x1000_0_2 (inside 19999#32 i))
    (Host.gather gather_S2x4x20000_S2x1000x1_S2x4x1000_1_2_0_0_2_2_141 x i)
    (broadcastInDim S2x4x1000 ![] bcast_S_S2x4x1000 (constant (F := F) S_ .f32 0x7FC00000#32))
/-- columns last; -/
def rows (x : FVec F Cert.ReferenceIdeal.S2x20000x4 .f32) (i : IVec S2x1000x1 32) : FVec F S2x1000x4 .f32 :=
  select (broadcastInDim S2x1000x4 ![0, 1] Cert.ReferenceIdeal.Facts₀.bcast_S2x1000_S2x1000x4_0_1 (inside 19999#32 i))
    (Host.gather Cert.ReferenceIdeal.gather_S2x20000x4_S2x1000x1_S2x1000x4_2_1_0_0_1_2_114 x i)
    (broadcastInDim S2x1000x4 ![] Cert.ReferenceIdeal.Facts₀.bcast_S_S2x1000x4 (constant (F := F) S_ .f32 0x7FC00000#32))
/-- of the boxes, put in another order; -/
def perm (x : FVec F S2x1000x4 .f32) (i : IVec S2x1000x1 32) : FVec F S2x1000x4 .f32 :=
  select (broadcastInDim S2x1000x4 ![0, 1] Cert.ReferenceIdeal.Facts₀.bcast_S2x1000_S2x1000x4_0_1 (inside 999#32 i))
    (Host.gather Cert.ReferenceIdeal.gather_S2x1000x4_S2x1000x1_S2x1000x4_2_1_0_0_1_2_114 x i)
    (broadcastInDim S2x1000x4 ![] Cert.ReferenceIdeal.Facts₀.bcast_S_S2x1000x4 (constant (F := F) S_ .f32 0x7FC00000#32))
/-- and of a list of words. -/
def one (x : IVec S2x20000 32) (i : IVec S2x1000x1 32) : IVec S2x1000 32 :=
  select (inside 19999#32 i) (Host.gather gather_S2x20000_S2x1000x1_S2x1000_n_1_0_0_1_2_11 x i)
    (broadcastInDim S2x1000 ![] bcast_S_S2x1000 (constantI S_ 32 2147483648#32))

theorem loc_at (x : FVec F S20000x2 .f32) (i : IVec S2x1000x1 32) (p : ℕ) (h : p < 20000) (n : Fin 2) (j : Fin 1000) (k : Fin 2)
    (hi : i (ix3 n j 0) = BitVec.ofNat 32 p) : loc x i (ix3 n j k) = x (ix2 ⟨p, h⟩ k) := by
  have hb : broadcastInDim S2x1000x2 ![0, 1] bcast_S2x1000_S2x1000x2_0_1 (inside 19999#32 i) (ix3 n j k) = inside 19999#32 i (ix2 n j) := by pointwise
  show Scalar.select (broadcastInDim S2x1000x2 ![0, 1] bcast_S2x1000_S2x1000x2_0_1 (inside 19999#32 i) (ix3 n j k)) (Host.gather _ x i (ix3 n j k)) _ = _
  rw [hb]
  show Scalar.select (inside 19999#32 i (ix2 n j)) (Host.gather _ x i (ix3 n j k)) _ = _
  rw [inside_one i 19999 p (by omega) (by omega) n j hi, gather_loc]
  have e := clamp p 19999 (by omega) (by omega) _ hi
  simp only [e]
  rfl

theorem cols_at (x : FVec F S2x4x20000 .f32) (i : IVec S2x1000x1 32) (p : ℕ) (h : p < 20000) (n : Fin 2) (k : Fin 4) (j : Fin 1000)
    (hi : i (ix3 n j 0) = BitVec.ofNat 32 p) : cols x i (ix3 n k j) = x (ix3 n k ⟨p, h⟩) := by
  have hb : broadcastInDim S2x4x1000 ![0, 2] bcast_S2x1000_S2x4x1000_0_2 (inside 19999#32 i) (ix3 n k j) = inside 19999#32 i (ix2 n j) := by pointwise
  show Scalar.select (broadcastInDim S2x4x1000 ![0, 2] bcast_S2x1000_S2x4x1000_0_2 (inside 19999#32 i) (ix3 n k j)) (Host.gather _ x i (ix3 n k j)) _ = _
  rw [hb]
  show Scalar.select (inside 19999#32 i (ix2 n j)) (Host.gather _ x i (ix3 n k j)) _ = _
  rw [inside_one i 19999 p (by omega) (by omega) n j hi, gather_cols]
  have e := clamp p 19999 (by omega) (by omega) _ hi
  simp only [e]
  rfl

theorem rows_at (x : FVec F Cert.ReferenceIdeal.S2x20000x4 .f32) (i : IVec S2x1000x1 32) (p : ℕ) (h : p < 20000) (n : Fin 2) (j : Fin 1000) (k : Fin 4)
    (hi : i (ix3 n j 0) = BitVec.ofNat 32 p) : rows x i (ix3 n j k) = x (ix3 n ⟨p, h⟩ k) := by
  have hb : broadcastInDim S2x1000x4 ![0, 1] Cert.ReferenceIdeal.Facts₀.bcast_S2x1000_S2x1000x4_0_1 (inside 19999#32 i) (ix3 n j k) = inside 19999#32 i (ix2 n j) := by pointwise
  show Scalar.select (broadcastInDim S2x1000x4 ![0, 1] Cert.ReferenceIdeal.Facts₀.bcast_S2x1000_S2x1000x4_0_1 (inside 19999#32 i) (ix3 n j k)) (Host.gather _ x i (ix3 n j k)) _ = _
  rw [hb]
  show Scalar.select (inside 19999#32 i (ix2 n j)) (Host.gather _ x i (ix3 n j k)) _ = _
  rw [inside_one i 19999 p (by omega) (by omega) n j hi, gather_rows]
  have e := clamp p 19999 (by omega) (by omega) _ hi
  simp only [e]
  rfl

theorem perm_at (x : FVec F S2x1000x4 .f32) (i : IVec S2x1000x1 32) (p : ℕ) (h : p < 1000) (n : Fin 2) (j : Fin 1000) (k : Fin 4)
    (hi : i (ix3 n j 0) = BitVec.ofNat 32 p) : perm x i (ix3 n j k) = x (ix3 n ⟨p, h⟩ k) := by
  have hb : broadcastInDim S2x1000x4 ![0, 1] Cert.ReferenceIdeal.Facts₀.bcast_S2x1000_S2x1000x4_0_1 (inside 999#32 i) (ix3 n j k) = inside 999#32 i (ix2 n j) := by pointwise
  show Scalar.select (broadcastInDim S2x1000x4 ![0, 1] Cert.ReferenceIdeal.Facts₀.bcast_S2x1000_S2x1000x4_0_1 (inside 999#32 i) (ix3 n j k)) (Host.gather _ x i (ix3 n j k)) _ = _
  rw [hb]
  show Scalar.select (inside 999#32 i (ix2 n j)) (Host.gather _ x i (ix3 n j k)) _ = _
  rw [inside_one i 999 p (by omega) (by omega) n j hi, gather_perm]
  have e := clamp p 999 (by omega) (by omega) _ hi
  simp only [e]
  rfl

theorem one_at (x : IVec S2x20000 32) (i : IVec S2x1000x1 32) (p : ℕ) (h : p < 20000) (n : Fin 2) (j : Fin 1000)
    (hi : i (ix3 n j 0) = BitVec.ofNat 32 p) : one x i (ix2 n j) = x (ix2 n ⟨p, h⟩) := by
  show Scalar.select (inside 19999#32 i (ix2 n j)) (Host.gather _ x i (ix2 n j)) _ = _
  rw [inside_one i 19999 p (by omega) (by omega) n j hi, gather_one]
  have e := clamp p 19999 (by omega) (by omega) _ hi
  simp only [e]
  rfl

end Cert.Take

end
-- ==== Proof.Order.lean ====
/- What the stable sorts and the top-k put where. -/
module

public import proofs.«01_k».proof.Proof.Gen.KernelIdeal.Regions
public import proofs.«01_k».proof.Proof.Gen.ReferenceIdeal.Run
public import proofs.«01_k».proof.Proof.Cand
public import Idealize.ShloMosaic.Lib.Pointwise
public import Idealize.ShloMosaic.Lib.SortFacts

@[expose] public section

set_option maxRecDepth 16384

noncomputable section

namespace Cert.Order

open Idealize.ShloMosaic Cert.KernelIdeal Cert.KernelIdeal.Gen

variable {α : Type} [LinearOrder α] {n : ℕ}

/-- The strict order of keys. -/
abbrev byKey (f : Fin n → α) (a b : Fin n) : Bool := decide (f a < f b)
/-- The same with equal keys in place order. -/
abbrev byKeyPlace (f : Fin n → α) (a b : Fin n) : Bool := decide (f a < f b ∨ f a = f b ∧ a < b)

/-- Over positions in increasing order the stable sort by key is the sort by key and place. -/
theorem stableSort_place (f : Fin n → α) (l : List (Fin n)) (hl : l.Pairwise (· < ·)) :
    stableSort (byKey f) l = stableSort (byKeyPlace f) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    exact decide_eq_decide.mpr ⟨Or.inl, fun h => h.elim id fun h => absurd h.2 (lt_asymm hb')⟩

/-- The stable sort by key orders the positions by key, equal keys by place. -/
theorem sorted_place (f : Fin n → α) (p q : Fin n) (h : p < q) :
    f (sortedFrom (byKey f) p) < f (sortedFrom (byKey f) q)
      ∨ f (sortedFrom (byKey f) p) = f (sortedFrom (byKey f) q) ∧ sortedFrom (byKey f) p < sortedFrom (byKey f) q := by
  have e : sortedFrom (byKey f) = sortedFrom (byKeyPlace f) := by
    funext k
    unfold sortedFrom
    have hs : sortPositions n (byKey f) = sortPositions n (byKeyPlace f) := stableSort_place f _ (List.pairwise_lt_finRange n)
    rw [List.get_of_eq hs]
    rfl
  rw [e]
  have hn := sortedFrom_noInversion (byKeyPlace f) (byKeyPlace f)
    (fun a b hab => decide_eq_false fun hba => by
      have hab := of_decide_eq_true hab
      rcases hab with h1 | ⟨h1, h2⟩ <;> rcases hba with h3 | ⟨h3, h4⟩
      · exact lt_asymm h1 h3
      · exact h1.ne h3.symm
      · exact h3.ne h1.symm
      · exact lt_asymm h2 h4)
    (fun _ _ h => h)
    (fun a b c hab hbc => decide_eq_false fun hac => by
      have hab := of_decide_eq_false hab
      have hbc := of_decide_eq_false hbc
      rw [not_or, not_lt, not_and, not_lt] at hab hbc
      have h1 : f c ≤ f a := hbc.1.trans hab.1
      rcases hac with h2 | ⟨h2, h3⟩
      · exact absurd h2 (not_lt.mpr h1)
      · have e1 : f a = f b := le_antisymm (h2.le.trans hbc.1) hab.1
        have e2 : f b = f c := e1.symm.trans h2
        exact absurd h3 (not_lt.mpr ((hbc.2 e2).trans (hab.2 e1)))) p q h
  have hn := of_decide_eq_false hn
  rw [not_or, not_lt, not_and, not_lt] at hn
  rcases hn.1.lt_or_eq with h1 | h1
  · exact .inl h1
  · refine .inr ⟨h1, lt_of_le_of_ne (hn.2 h1.symm) fun he => ?_⟩
    exact h.ne (sortedFrom_injective _ he)

/-! ## A two-operand sort along each image's list -/

/-- Places along an image's list. -/
theorem along_ix2 {a b : ℕ} (i : Fin a) (k k' : Fin b) : (ix2 i k : (⟨2, ![a, b]⟩ : Shape).Idx).along 1 k' = ix2 i k' := by
  funext d
  match d with
  | ⟨0, _⟩ => rfl
  | ⟨1, _⟩ => rfl

/-- A sort that compares keys of the first operand puts at `k` what stands at the `k`-th place in key order. -/
theorem sort2_at {N : ℕ} {β γ : Type} (key : β → α) (cmp : β × γ → β × γ → BitVec 1)
    (hc : ∀ l r, (cmp l r == 1#1) = decide (key l.1 < key r.1)) (x : (⟨2, ![2, N]⟩ : Shape).Idx → β)
    (y : (⟨2, ![2, N]⟩ : Shape).Idx → γ) (i : Fin 2) (k : Fin N) :
    (Host.sort2 ⟨2, ![2, N]⟩ 1 cmp x y).1 (ix2 i k) = x (ix2 i (sortedFrom (byKey fun q => key (x (ix2 i q))) k))
    ∧ (Host.sort2 ⟨2, ![2, N]⟩ 1 cmp x y).2 (ix2 i k) = y (ix2 i (sortedFrom (byKey fun q => key (x (ix2 i q))) k)) := by
  have e : (fun q q' : Fin N => cmp (x ((ix2 i k : (⟨2, ![2, N]⟩ : Shape).Idx).along 1 q), y ((ix2 i k : (⟨2, ![2, N]⟩ : Shape).Idx).along 1 q))
      (x ((ix2 i k : (⟨2, ![2, N]⟩ : Shape).Idx).along 1 q'), y ((ix2 i k : (⟨2, ![2, N]⟩ : Shape).Idx).along 1 q')) == 1#1)
      = byKey fun q => key (x (ix2 i q)) := by
    funext q q'
    rw [hc, along_ix2, along_ix2]
  refine ⟨?_, ?_⟩
  · show x ((ix2 i k : (⟨2, ![2, N]⟩ : Shape).Idx).along 1 (sortedFrom (fun q q' : Fin N => cmp (x ((ix2 i k : (⟨2, ![2, N]⟩ : Shape).Idx).along 1 q), y ((ix2 i k : (⟨2, ![2, N]⟩ : Shape).Idx).along 1 q))
      (x ((ix2 i k : (⟨2, ![2, N]⟩ : Shape).Idx).along 1 q'), y ((ix2 i k : (⟨2, ![2, N]⟩ : Shape).Idx).along 1 q')) == 1#1) k)) = _
    rw [e]
    exact congrArg _ (along_ix2 i k _)
  · show y ((ix2 i k : (⟨2, ![2, N]⟩ : Shape).Idx).along 1 (sortedFrom (fun q q' : Fin N => cmp (x ((ix2 i k : (⟨2, ![2, N]⟩ : Shape).Idx).along 1 q), y ((ix2 i k : (⟨2, ![2, N]⟩ : Shape).Idx).along 1 q))
      (x ((ix2 i k : (⟨2, ![2, N]⟩ : Shape).Idx).along 1 q'), y ((ix2 i k : (⟨2, ![2, N]⟩ : Shape).Idx).along 1 q')) == 1#1) k)) = _
    rw [e]
    exact congrArg _ (along_ix2 i k _)

/-! ## The top thousand of a list of twenty thousand -/

/-- Where the `j`-th greatest of image `i`'s scores is. -/
def top (s : FVec Ideal S2x20000 .f32) (i : Fin 2) (j : Fin 1000) : Fin 20000 :=
  sortedFrom (byKey fun k => OrderDual.toDual (s (ix2 i k) : EReal)) ⟨j.val, by omega⟩

theorem gt_eq (x y : EReal) : (FloatOps.cmpfTotal (F := Ideal) (φ := .f32) .gt x y == 1#1) = decide (OrderDual.toDual x < OrderDual.toDual y) := by
  show (BitVec.ofBool (decide (y < x)) == 1#1) = decide (y < x)
  cases decide (y < x) <;> rfl

theorem cut (i : Fin 2) (j : Fin 1000) (h : S2x20000.Slices (fun _ => 0) S2x1000) :
    (fun a : Fin S2x20000.rank => (⟨0 + ((ix2 i j : S2x1000.Idx) (a.cast h.1.symm)).val,
      Nat.lt_of_lt_of_le (Nat.add_lt_add_left ((ix2 i j : S2x1000.Idx) _).isLt _) (h.2 a)⟩ : Fin (S2x20000.size a)))
      = (ix2 i (⟨j.val, by omega⟩ : Fin 20000) : S2x20000.Idx) := by
  funext d
  match d with
  | ⟨0, _⟩ => exact Fin.ext (Nat.zero_add _)
  | ⟨1, _⟩ => exact Fin.ext (Nat.zero_add _)

/-- The places sorted along with the scores. -/
def places : IVec S2x20000 32 := fun i => if hd : 1 < S2x20000.rank then iotaInDim S2x20000 32 ⟨1, hd⟩ i else 0#32

/-- The top-k's values; -/
theorem topK_val (s : FVec Ideal S2x20000 .f32) (h) (i : Fin 2) (j : Fin 1000) :
    (Host.topK S2x1000 1 (FloatOps.cmpfTotal (F := Ideal) (φ := .f32) .gt) s h).1 (ix2 i j) = s (ix2 i (top s i j)) := by
  refine (congrArg (Host.sort2 S2x20000 1 (fun l r => FloatOps.cmpfTotal (F := Ideal) (φ := .f32) .gt l.1 r.1) s places).1 (cut i j h)).trans ?_
  exact (sort2_at (fun x : EReal => OrderDual.toDual x) _ (fun l r => gt_eq l.1 r.1) s places i ⟨j.val, by omega⟩).1

/-- and places. -/
theorem topK_ix (s : FVec Ideal S2x20000 .f32) (h) (i : Fin 2) (j : Fin 1000) :
    (Host.topK S2x1000 1 (FloatOps.cmpfTotal (F := Ideal) (φ := .f32) .gt) s h).2 (ix2 i j) = BitVec.ofNat 32 (top s i j).val := by
  refine (congrArg (Host.sort2 S2x20000 1 (fun l r => FloatOps.cmpfTotal (F := Ideal) (φ := .f32) .gt l.1 r.1) s places).2 (cut i j h)).trans ?_
  exact (sort2_at (fun x : EReal => OrderDual.toDual x) _ (fun l r => gt_eq l.1 r.1) s places i ⟨j.val, by omega⟩).2

/-- The values descend. -/
theorem top_desc (s : FVec Ideal S2x20000 .f32) (i : Fin 2) (p q : Fin 1000) (h : p < q) :
    (s (ix2 i (top s i q)) : EReal) ≤ s (ix2 i (top s i p)) := by
  have := sorted_place (fun k => OrderDual.toDual (s (ix2 i k) : EReal)) ⟨p.val, by omega⟩ ⟨q.val, by omega⟩ h
  rcases this with h1 | ⟨h1, _⟩
  · exact le_of_lt (OrderDual.toDual_lt_toDual.mp h1)
  · exact (OrderDual.toDual_inj.mp h1).ge

/-! ## The order of the candidates -/

/-- The comparator is the order of the first components. -/
theorem comparator_eq (l r : EReal × BitVec 32) :
    (Cert.ReferenceIdeal.comparator_f32_i32_d1 (F := Ideal) l r == 1#1) = decide (l.1 < r.1) := by
  have h0 : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have e1 : FloatOps.cmpf (F := Ideal) (φ := .f32) .une x x = 0#1 := by
      show BitVec.ofBool (decide (x ≠ x)) = 0#1
      simp
    rw [e1]
    show Scalar.select (BitVec.ofBool (decide (x = lit 0x00000000#32))) (lit 0x00000000#32) x = x
    by_cases hx : x = lit 0x00000000#32
    · rw [decide_eq_true hx]; exact hx.symm
    · rw [decide_eq_false hx]; rfl
  unfold Cert.ReferenceIdeal.comparator_f32_i32_d1
  simp only [h0]
  show (BitVec.ofBool (decide (l.1 < r.1)) == 1#1) = decide (l.1 < r.1)
  cases decide (l.1 < r.1) <;> rfl

/-- The order of image `i`'s thousand keys. -/
def order (s : FVec Ideal S2x1000 .f32) (i : Fin 2) : Fin 1000 → Fin 1000 := sortedFrom (byKey fun k => (s (ix2 i k) : EReal))

theorem argsort_at (s : FVec Ideal S2x1000 .f32) (i : Fin 2) (j : Fin 1000) :
    (Host.sort2 S2x1000 1 (Cert.ReferenceIdeal.comparator_f32_i32_d1 (F := Ideal)) s (iotaInDim S2x1000 32 1)).2 (ix2 i j)
      = BitVec.ofNat 32 (order s i j).val :=
  (sort2_at (fun x : EReal => x) (Cert.ReferenceIdeal.comparator_f32_i32_d1 (F := Ideal)) comparator_eq s _ i j).2

end Cert.Order

end
-- ==== Proof.Greedy.lean ====
/- Greedy suppression, as logic: two ways of running it agree on the candidates that count. -/
module

public import Mathlib.Data.Fin.Basic
public import Mathlib.Order.Fin.Basic
public import Mathlib.Tactic.Tauto

@[expose] public section

namespace Cert.Greedy

/-- A run of trips: at trip `t` candidate `t`, if still kept, removes the later candidates it hits. -/
structure Run (N : ℕ) (hit : Fin N → Fin N → Prop) (K : ℕ → Fin N → Prop) : Prop where
  start : ∀ j, K 0 j
  step : ∀ (t : Fin N) j, K (t + 1) j ↔ K t j ∧ ¬ (hit t j ∧ t < j ∧ K t t)

variable {N : ℕ} {hit : Fin N → Fin N → Prop} {K : ℕ → Fin N → Prop}

/-- After `t` trips a candidate is kept when none of the first `t` that precede it, kept at its own trip, hits it. -/
theorem Run.after (h : Run N hit K) : ∀ t, t ≤ N → ∀ j, K t j ↔ ∀ i : Fin N, i < j → i.val < t → ¬ (hit i j ∧ K i.val i)
  | 0, _, j => ⟨fun _ _ _ h0 => absurd h0 (Nat.not_lt_zero _), fun _ => h.start j⟩
  | t + 1, ht, j => by
    have hs := h.step ⟨t, ht⟩ j
    have ih := Run.after h t (Nat.le_of_succ_le ht) j
    constructor
    · intro hk i hij hit' hc
      obtain ⟨h1, h2⟩ := hs.mp hk
      rcases Nat.lt_succ_iff_lt_or_eq.mp hit' with hlt | he
      · exact ih.mp h1 i hij hlt hc
      · obtain rfl : i = ⟨t, ht⟩ := Fin.ext he
        exact h2 ⟨hc.1, hij, hc.2⟩
    · intro hall
      exact hs.mpr ⟨ih.mpr fun i hij hlt => hall i hij (Nat.lt_succ_of_lt hlt),
        fun hc => hall ⟨t, ht⟩ hc.2.1 (Nat.lt_succ_self t) ⟨hc.1, hc.2.2⟩⟩

/-- A candidate's own trip settles it. -/
theorem Run.settled (h : Run N hit K) (i : Fin N) : K N i ↔ K i.val i := by
  rw [h.after N le_rfl i, h.after i.val i.isLt.le i]
  exact ⟨fun H k hk _ => H k hk k.isLt, fun H k hk _ => H k hk hk⟩

/-- A candidate ends kept when no kept one before it hits it. -/
theorem Run.final (h : Run N hit K) (j : Fin N) : K N j ↔ ∀ i, i < j → ¬ (hit i j ∧ K N i) := by
  rw [h.after N le_rfl j]
  exact ⟨fun H i hij hc => H i hij i.isLt ⟨hc.1, (h.settled i).mp hc.2⟩,
    fun H i hij _ hc => H i hij ⟨hc.1, (h.settled i).mpr hc.2⟩⟩

/-- Running over the candidates in another order that puts the ones that count first, in their own order, keeps the same
    ones among them as running over all in place with the others hitting nothing. -/
theorem agree {valid : Fin N → Prop} {hits : Fin N → Fin N → Prop} {A B : ℕ → Fin N → Prop} (o : Fin N → Fin N)
    (ho : Function.Surjective o)
    (first : ∀ p q, p < q → valid (o q) → valid (o p))
    (mono : ∀ p q, p < q → valid (o p) → valid (o q) → o p < o q)
    (hA : Run N (fun i j => hits i j ∧ valid i) A) (hB : Run N (fun p q => hits (o p) (o q)) B) :
    ∀ p, valid (o p) → (A N (o p) ↔ B N p) := by
  intro p
  induction p using WellFoundedLT.induction with
  | ind p ih =>
    intro hv
    rw [hA.final, hB.final]
    constructor
    · intro H q hq hc
      have hvq := first q p hq hv
      exact H (o q) (mono q p hq hvq hv) ⟨⟨hc.1, hvq⟩, (ih q hq hvq).mpr hc.2⟩
    · intro H i hi hc
      obtain ⟨q, rfl⟩ := ho i
      have hq : q < p := by
        rcases lt_trichotomy q p with h | rfl | h
        · exact h
        · exact absurd hi (lt_irrefl _)
        · exact absurd hi (lt_asymm (mono p q h hv hc.1.2))
      exact H q hq ⟨hc.1.1, (ih q hq hc.1.2).mp hc.2⟩

end Cert.Greedy

end
-- ==== Proof.Suppress.lean ====
/- The suppression kernel's final scores for one image, read as greedy suppression over its thousand candidates. -/
module

public import proofs.«01_k».proof.Proof.ImageIdeal
public import proofs.«01_k».proof.Proof.Cand
public import proofs.«01_k».proof.Proof.Greedy
public import Idealize.ShloMosaic.Lib.ValueIdx
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.ValueIdx
open scoped Classical

/-- Where candidate `i` stands in the tile. -/
def cell (i : Fin 1000) : S8x128.Idx := ix2 (n0 := 8) (n1 := 128) ⟨i.val / 128, by omega⟩ ⟨i.val % 128, by omega⟩

/-- The number at a cell. -/
theorem number_at (x : S8x128.Idx) : number x = BitVec.ofNat 32 ((x 0).val * 128 + (x 1).val) := by
  show BitVec.ofNat 32 (0 * 8 + (x 0).val) * 128#32 + BitVec.ofNat 32 (0 * 128 + (x 1).val) = _
  simp only [Nat.zero_mul, Nat.zero_add]
  rw [BitVec.ofNat_add, BitVec.ofNat_mul]

theorem number_cell (i : Fin 1000) : number (cell i) = BitVec.ofNat 32 i.val := by
  rw [number_at]
  congr 1
  show i.val / 128 * 128 + i.val % 128 = i.val
  omega

/-- Only candidate `i`'s cell has its number. -/
theorem eq_cell (i : Fin 1000) (x : S8x128.Idx) (h : number x = BitVec.ofNat 32 i.val) : x = cell i := by
  rw [number_at] at h
  have h0 : (x 0).val < 8 := (x 0).isLt
  have h1 : (x 1).val < 128 := (x 1).isLt
  have hv := congrArg BitVec.toNat h
  rw [BitVec.toNat_ofNat, BitVec.toNat_ofNat, Nat.mod_eq_of_lt (by omega), Nat.mod_eq_of_lt (by omega)] at hv
  funext d
  match d with
  | ⟨0, _⟩ => exact Fin.ext (show (x 0).val = i.val / 128 by omega)
  | ⟨1, _⟩ => exact Fin.ext (show (x 1).val = i.val % 128 by omega)

/-- Reading entry `i` out as a maximum gives the entry, when it is not below the fill. -/
theorem pick_at (fill : BitVec 32) (i : Fin 1000) (a : FVec Ideal S8x128 .f32) (h : lit fill ≤ a (cell i)) :
    pick fill (BitVec.ofNat 32 i.val) a = a (cell i) := by
  have key : ∀ x : S8x128.Idx, select (cmpi .eq number (broadcast S8x128 (BitVec.ofNat 32 i.val))) a (tile fill) x
      = if x = cell i then a (cell i) else lit fill := by
    intro x
    show Scalar.select (IntOp.cmpi .eq (number x) (BitVec.ofNat 32 i.val)) (a x) (lit fill) = _
    by_cases hx : x = cell i
    · subst hx
      rw [number_cell, if_pos rfl]
      simp [IntOp.cmpi, Scalar.select]
    · rw [if_neg hx]
      have hn : number x ≠ BitVec.ofNat 32 i.val := fun e => hx (eq_cell i x e)
      have hb : (number x == BitVec.ofNat 32 i.val) = false := beq_eq_false_iff_ne.mpr hn
      simp [IntOp.cmpi, Scalar.select, hb]
  unfold pick extractAt
  unfold shapeCast
  refine (multiReduction_maximumf_eq_fold _ _ _ _ _ _).trans ?_
  set e := Shape.reshapeEquiv shapeCasts_S8x128_S1x8x128 with he
  show Finset.fold max (lit 0xFF800000#32) _ _ = _
  apply le_antisymm
  · refine (Finset.fold_max_le _).mpr ⟨?_, fun x _ => ?_⟩
    · have : lit 0xFF800000#32 = ⊥ := by simp [lit, Ideal.ofBits, Ideal.ieee]
      rw [this]; exact bot_le
    · show select _ _ _ (e x) ≤ _
      rw [key]
      split
      · exact le_rfl
      · exact h
  · refine (Finset.le_fold_max _).mpr (.inr ⟨e.symm (cell i), Finset.mem_filter.mpr ⟨Finset.mem_univ _, ?_⟩, ?_⟩)
    · funext d
      match d with
      | ⟨0, _⟩ => exact Subsingleton.elim (α := Fin 1) _ _
    · show _ ≤ select _ _ _ (e (e.symm (cell i)))
      rw [key, Equiv.apply_symm_apply, if_pos rfl]

/-- One or zero. -/
def bit (p : Prop) : EReal := if p then 1 else 0

/-- The rows hold these candidates. -/
structure Reads (r : Rows Ideal) (c : Fin 1000 → Cand) : Prop where
  tv : ∀ i, r.tv (cell i) = (c i).tv
  lx : ∀ i, r.lx (cell i) = (c i).lx
  ly : ∀ i, r.ly (cell i) = (c i).ly
  r0 : ∀ i, r.r0 (cell i) = (c i).r0
  r1 : ∀ i, r.r1 (cell i) = (c i).r1
  r2 : ∀ i, r.r2 (cell i) = (c i).r2
  r3 : ∀ i, r.r3 (cell i) = (c i).r3
  lab : ∀ i, r.lab (cell i) = num (c i).lab
  tag : ∀ i, r.tag (cell i) = num (c i).tag
  wm : ∀ i, r.wm (cell i) = num (c i).w - lit 0x3F800000#32
  hm : ∀ i, r.hm (cell i) = num (c i).h - lit 0x3F800000#32

namespace Reads
variable {r : Rows Ideal} {c : Fin 1000 → Cand} (h : Reads r c) (i : Fin 1000)
include h

theorem x1 : r.x1 (cell i) = (c i).x1 := by
  show min (max (r.lx (cell i) - r.r0 (cell i)) (lit 0x00000000#32)) (r.wm (cell i)) = _
  rw [h.lx, h.r0, h.wm]; rfl
theorem y1 : r.y1 (cell i) = (c i).y1 := by
  show min (max (r.ly (cell i) - r.r1 (cell i)) (lit 0x00000000#32)) (r.hm (cell i)) = _
  rw [h.ly, h.r1, h.hm]; rfl
theorem x2 : r.x2 (cell i) = (c i).x2 := by
  show min (max (r.lx (cell i) + r.r2 (cell i)) (lit 0x00000000#32)) (r.wm (cell i)) = _
  rw [h.lx, h.r2, h.wm]; rfl
theorem y2 : r.y2 (cell i) = (c i).y2 := by
  show min (max (r.ly (cell i) + r.r3 (cell i)) (lit 0x00000000#32)) (r.hm (cell i)) = _
  rw [h.ly, h.r3, h.hm]; rfl
theorem off : r.off (cell i) = (c i).off := by
  show r.lab (cell i) * lit 0x47C35000#32 + r.tag (cell i) * lit 0x461C4000#32 = _
  rw [h.lab, h.tag]; rfl
theorem bx1 : addf r.x1 r.off (cell i) = (c i).bx1 := by
  show r.x1 (cell i) + r.off (cell i) = _
  rw [h.x1, h.off]; rfl
theorem by1 : addf r.y1 r.off (cell i) = (c i).by1 := by
  show r.y1 (cell i) + r.off (cell i) = _
  rw [h.y1, h.off]; rfl
theorem bx2 : addf r.x2 r.off (cell i) = (c i).bx2 := by
  show r.x2 (cell i) + r.off (cell i) = _
  rw [h.x2, h.off]; rfl
theorem by2 : addf r.y2 r.off (cell i) = (c i).by2 := by
  show r.y2 (cell i) + r.off (cell i) = _
  rw [h.y2, h.off]; rfl
theorem area : r.area (cell i) = (c i).area := by
  show (addf r.x2 r.off (cell i) - addf r.x1 r.off (cell i) + lit 0x3F800000#32)
    * (addf r.y2 r.off (cell i) - addf r.y1 r.off (cell i) + lit 0x3F800000#32) = _
  rw [h.bx1, h.bx2, h.by1, h.by2]; rfl

/-- A candidate counts in the kernel as it does in the statement. -/
theorem ok : r.ok (cell i) = BitVec.ofBool (decide (c i).valid) := by
  show IntOp.andi (IntOp.andi (Ideal.cmp .ogt (r.tv (cell i)) (lit 0x00000000#32))
      (Ideal.cmp .oge (r.x2 (cell i) - r.x1 (cell i) + lit 0x3F800000#32) (lit 0x00000000#32)))
      (Ideal.cmp .oge (r.y2 (cell i) - r.y1 (cell i) + lit 0x3F800000#32) (lit 0x00000000#32)) = _
  rw [h.tv, h.x1, h.x2, h.y1, h.y2]
  by_cases a : lit 0x00000000#32 < (c i).tv
    <;> by_cases b : lit 0x00000000#32 ≤ (c i).x2 - (c i).x1 + lit 0x3F800000#32
    <;> by_cases d : lit 0x00000000#32 ≤ (c i).y2 - (c i).y1 + lit 0x3F800000#32
    <;> simp [a, b, d, Ideal.cmp, IntOp.andi, Cand.valid, Bool.and_assoc]

/-- The ratio of the picked candidate `i` with candidate `j`. -/
theorem ratio (j : Fin 1000) :
    Run.ratio (BitVec.ofNat 32 i.val) (addf r.x1 r.off) (addf r.y1 r.off) (addf r.x2 r.off) (addf r.y2 r.off) r.area (cell j)
      = Ideal.div (Cand.inter (c i) (c j)) ((c i).area + (c j).area - Cand.inter (c i) (c j)) := by
  have p1 := pick_at 0xFF61B1E6#32 i (addf r.x1 r.off) (by rw [h.bx1]; exact (c i).fill_bx1)
  have p2 := pick_at 0xFF61B1E6#32 i (addf r.y1 r.off) (by rw [h.by1]; exact (c i).fill_by1)
  have p3 := pick_at 0xFF61B1E6#32 i (addf r.x2 r.off) (by rw [h.bx2]; exact (c i).fill_bx2)
  have p4 := pick_at 0xFF61B1E6#32 i (addf r.y2 r.off) (by rw [h.by2]; exact (c i).fill_by2)
  have p5 := pick_at 0xFF61B1E6#32 i r.area (by rw [h.area]; exact (c i).fill_area)
  unfold Run.ratio overlap
  rw [p1, p2, p3, p4, p5, h.bx1, h.by1, h.bx2, h.by2, h.area]
  show Ideal.div
      (Cand.span (c i).bx1 (c i).bx2 (addf r.x1 r.off (cell j)) (addf r.x2 r.off (cell j))
        * Cand.span (c i).by1 (c i).by2 (addf r.y1 r.off (cell j)) (addf r.y2 r.off (cell j)))
      ((c i).area + r.area (cell j)
        - Cand.span (c i).bx1 (c i).bx2 (addf r.x1 r.off (cell j)) (addf r.x2 r.off (cell j))
        * Cand.span (c i).by1 (c i).by2 (addf r.y1 r.off (cell j)) (addf r.y2 r.off (cell j))) = _
  rw [h.bx1, h.by1, h.bx2, h.by2, h.area]; rfl

end Reads

/-- Whether a candidate's number comes after another's. -/
theorem after_at (i j : Fin 1000) :
    cmpi .sgt number (broadcast S8x128 (BitVec.ofNat 32 i.val)) (cell j) = BitVec.ofBool (decide (i < j)) := by
  show IntOp.cmpi .sgt (number (cell j)) (BitVec.ofNat 32 i.val) = _
  rw [number_cell]
  have hi := i.isLt
  have hj := j.isLt
  have e : ∀ n : ℕ, n < 1000 → (BitVec.ofNat 32 n).toInt = n := fun n hn => by
    have : (BitVec.ofNat 32 n).toNat = n := by rw [BitVec.toNat_ofNat]; omega
    rw [BitVec.toInt_eq_toNat_of_lt (by omega), this]
  simp only [IntOp.cmpi, BitVec.slt, e _ hi, e _ hj, Nat.cast_lt, Fin.lt_def]

variable {r : Rows Ideal} {c : Fin 1000 → Cand}

/-- One trip over kept flags. -/
theorem trip_at (h : Reads r c) (K : Fin 1000 → Prop) (keep : FVec Ideal S8x128 .f32) (hk : ∀ j, keep (cell j) = bit (K j))
    (i j : Fin 1000) :
    trip (goodf r.ok) (addf r.x1 r.off) (addf r.y1 r.off) (addf r.x2 r.off) (addf r.y2 r.off) r.area (BitVec.ofNat 32 i.val) keep (cell j)
      = bit (K j ∧ ¬ ((Cand.hits (c i) (c j) ∧ (c i).valid) ∧ i < j ∧ K i)) := by
  have hg : mulf keep (goodf r.ok) (cell i) = bit (K i ∧ (c i).valid) := by
    show keep (cell i) * Scalar.select (r.ok (cell i)) (lit 0x3F800000#32) (lit 0x00000000#32) = _
    rw [hk, h.ok, Cand.lit_one, Cand.lit_zero]
    by_cases a : K i <;> by_cases b : (c i).valid <;> simp [a, b, bit, Scalar.select]
  have p := pick_at 0x00000000#32 i (mulf keep (goodf r.ok)) (by
    rw [hg, Cand.lit_zero, bit]; split <;> simp)
  have hr := h.ratio i j
  have ha := after_at i j
  unfold trip
  rw [p, hg]
  revert hr ha
  generalize Run.ratio (BitVec.ofNat 32 i.val) (addf r.x1 r.off) (addf r.y1 r.off) (addf r.x2 r.off) (addf r.y2 r.off) r.area = R
  generalize cmpi .sgt number (broadcast S8x128 (BitVec.ofNat 32 i.val)) = A
  intro hr ha
  show keep (cell j) * (lit 0x3F800000#32 - Scalar.select (IntOp.andi (Ideal.cmp .ogt (R (cell j)) (lit 0x3F000000#32))
    (A (cell j))) (lit 0x3F800000#32) (lit 0x00000000#32) * bit (K i ∧ (c i).valid)) = _
  rw [hr, ha, hk, Cand.lit_one, Cand.lit_zero]
  have e : Ideal.cmp .ogt (Ideal.div (Cand.inter (c i) (c j)) ((c i).area + (c j).area - Cand.inter (c i) (c j))) (lit 0x3F000000#32)
      = BitVec.ofBool (decide (Cand.hits (c i) (c j))) := congrArg BitVec.ofBool (decide_eq_decide.mpr Iff.rfl)
  rw [e]
  have one_sub : (1 : EReal) - 1 = 0 := by rw [← EReal.coe_one, ← EReal.coe_sub]; simp
  by_cases a : K j <;> by_cases b : Cand.hits (c i) (c j) <;> by_cases d : i < j <;> by_cases f : K i <;> by_cases g : (c i).valid <;>
    simp [a, b, d, f, g, bit, Scalar.select, IntOp.andi, one_sub]

/-- The tile of kept flags after `t` trips. -/
def keepAt (r : Rows Ideal) : ℕ → FVec Ideal S8x128 .f32
  | 0 => tile 0x3F800000#32
  | t + 1 => trip (goodf r.ok) (addf r.x1 r.off) (addf r.y1 r.off) (addf r.x2 r.off) (addf r.y2 r.off) r.area (BitVec.ofNat 32 t) (keepAt r t)

theorem foldl_keepAt (n : ℕ) : (List.range n).foldl (fun k t => trip (goodf r.ok) (addf r.x1 r.off) (addf r.y1 r.off)
    (addf r.x2 r.off) (addf r.y2 r.off) r.area (BitVec.ofNat 32 t) k) (tile 0x3F800000#32) = keepAt r n := by
  induction n with
  | zero => rfl
  | succ n ih => rw [List.range_succ, List.foldl_append, ih]; rfl

theorem keep_eq : r.keep = keepAt r 1000 := by
  have ht : k1_t1_loop.trips = 1000 := by decide
  rw [← foldl_keepAt]
  unfold Rows.keep kept
  rw [Scf.fold_eq, ← ht, ← List.map_coe_finRange_eq_range, List.foldl_map]
  have e : ∀ t : ℕ, Scf.iv 0#32 1#32 t = BitVec.ofNat 32 t := fun t => by simp [Scf.iv]
  simp only [e]

/-- Which candidates are kept before trip `t`. -/
def KeptAt (c : Fin 1000 → Cand) : ℕ → Fin 1000 → Prop
  | 0, _ => True
  | t + 1, j => KeptAt c t j ∧ ¬ ∃ ht : t < 1000, (Cand.hits (c ⟨t, ht⟩) (c j) ∧ (c ⟨t, ht⟩).valid) ∧ ⟨t, ht⟩ < j ∧ KeptAt c t ⟨t, ht⟩

theorem keptAt_run (c : Fin 1000 → Cand) : Greedy.Run 1000 (fun i j => Cand.hits (c i) (c j) ∧ (c i).valid) (KeptAt c) :=
  ⟨fun _ => trivial, fun t j => by
    show KeptAt c t j ∧ ¬ (∃ ht : t.val < 1000, _) ↔ _
    constructor
    · exact fun ⟨a, b⟩ => ⟨a, fun d => b ⟨t.isLt, d⟩⟩
    · exact fun ⟨a, b⟩ => ⟨a, fun ⟨_, d⟩ => b d⟩⟩

theorem keepAt_cell (h : Reads r c) : ∀ t, t ≤ 1000 → ∀ j, keepAt r t (cell j) = bit (KeptAt c t j)
  | 0, _, j => by rw [show bit (KeptAt c 0 j) = 1 from if_pos trivial]; exact Cand.lit_one
  | t + 1, ht, j => by
    have := trip_at h (KeptAt c t) (keepAt r t) (keepAt_cell h t (Nat.le_of_succ_le ht)) ⟨t, ht⟩ j
    refine this.trans ?_
    congr 1
    exact propext ((keptAt_run c).step ⟨t, ht⟩ j).symm

/-- The final score: the candidate's own where it is kept and counts, minus one elsewhere. -/
theorem fin_cell (h : Reads r c) (j : Fin 1000) :
    r.fin (cell j) = if KeptAt c 1000 j ∧ (c j).valid then (c j).tv else lit 0xBF800000#32 := by
  show Scalar.select (IntOp.andi (Ideal.cmp .ogt (r.keep (cell j)) (lit 0x00000000#32)) (r.ok (cell j))) (r.tv (cell j)) (lit 0xBF800000#32) = _
  rw [keep_eq, keepAt_cell h 1000 le_rfl, h.ok, h.tv, Cand.lit_zero]
  by_cases a : KeptAt c 1000 j <;> by_cases b : (c j).valid <;> simp [a, b, bit, Ideal.cmp, Scalar.select, IntOp.andi]

end Cert.KernelIdeal.Run

end
-- ==== Proof.KRead.lean ====
/- What the kernel program's host operations leave, read entry by entry. -/
module

public import proofs.«01_k».proof.Proof.Takes
public import proofs.«01_k».proof.Proof.Order
public import proofs.«01_k».proof.Proof.Suppress
public import Idealize.ShloMosaic.Lib.StableHlo
public import Idealize.ShloMosaic.Lib.StableHlo.RunClose
public import Idealize.ShloMosaic.Lib.StableHlo.ReadAt

@[expose] public section

set_option maxRecDepth 16384

noncomputable section

namespace Cert.KernelIdeal.Run

open Cert.KernelIdeal Cert.KernelIdeal.Gen
open Idealize.ShloMosaic Idealize.ShloMosaic.TcCoe

variable (W : Valuation τ sig (Elt Ideal))

/-! ## The five reads at the chosen places -/

theorem v7_eq : StableHlo.after hostOps1_1 W (Proc.devRef .tc main_v7) = (Take.loc (W main_arg0) (Take.vec (Take.wrap 20000#32 (W main_indices))) : FVec Ideal S2x1000x2 .f32) := by
  simp only [hostOps1_1]
  after_results_entrywise [cast_eq]

theorem v10_eq : StableHlo.after hostOps1_3 W (Proc.devRef .tc main_v10) = (Take.cols (W main_v8) (shapeCast S2x1000x1 (select (cmpi .slt (W main_v9) (broadcastInDim S2x1x1000 ![] bcast_S_S2x1x1000 (constantI S_ 32 0#32)))
    (addi (W main_v9) (broadcastInDim S2x1x1000 ![] bcast_S_S2x1x1000 (constantI S_ 32 20000#32))) (W main_v9)) shapeCasts_S2x1x1000_S2x1000x1) : FVec Ideal S2x4x1000 .f32) := by
  simp only [hostOps1_3]
  after_results_entrywise [cast_eq]

theorem v11_eq : StableHlo.after hostOps1_4 W (Proc.devRef .tc main_v11) = Take.one (W main_v5) (shapeCast S2x1000x1 (Take.wrap 20000#32 (W main_indices)) shapeCasts_S2x1000_S2x1000x1) := by
  simp only [hostOps1_4]
  after_results_entrywise [cast_eq]

theorem v12_eq : StableHlo.after hostOps1_5 W (Proc.devRef .tc main_v12) = Take.one (W main_v6) (shapeCast S2x1000x1 (Take.wrap 20000#32 (W main_indices)) shapeCasts_S2x1000_S2x1000x1) := by
  simp only [hostOps1_5]
  after_results_entrywise [cast_eq]

/-! ## The stretch before: flattened scores and the thousand greatest -/

theorem values_eq : StableHlo.after hostOps1 W (Proc.devRef .tc main_values) = (Host.topK S2x1000 1 (FloatOps.cmpfTotal (F := Ideal) (φ := .f32) .gt) (shapeCast S2x20000 (W main_v3_0 : FVec Ideal S2x1x20000 .f32) shapeCasts_S2x1x20000_S2x20000)).1 := by
  simp only [hostOps1]
  after_results_entrywise [cast_eq]

theorem indices_eq : StableHlo.after hostOps1 W (Proc.devRef .tc main_indices) = (Host.topK S2x1000 1 (FloatOps.cmpfTotal (F := Ideal) (φ := .f32) .gt) (shapeCast S2x20000 (W main_v3_0 : FVec Ideal S2x1x20000 .f32) shapeCasts_S2x1x20000_S2x20000)).2 := by
  simp only [hostOps1]
  after_results_entrywise [cast_eq]

theorem v5_eq : StableHlo.after hostOps1 W (Proc.devRef .tc main_v5) = shapeCast S2x20000 (W main_v3_1 : IVec S2x1x20000 32) shapeCasts_S2x1x20000_S2x20000 := by
  simp only [hostOps1]
  after_results_entrywise [cast_eq]

theorem v6_eq : StableHlo.after hostOps1 W (Proc.devRef .tc main_v6) = shapeCast S2x20000 (W main_v3_2 : IVec S2x1x20000 32) shapeCasts_S2x1x20000_S2x20000 := by
  simp only [hostOps1]
  after_results_entrywise [cast_eq]

theorem v8_eq : StableHlo.after hostOps1_2 W (Proc.devRef .tc main_v8) = shapeCast S2x4x20000 (W main_arg2 : FVec Ideal S2x4x100x200 .f32) shapeCasts_S2x4x100x200_S2x4x20000 := by
  simp only [hostOps1_2]
  after_results_entrywise [cast_eq]

theorem v9_eq : StableHlo.after hostOps1_2 W (Proc.devRef .tc main_v9) = broadcastInDim S2x1x1000 ![0, 2] bcast_S2x1000_S2x1x1000_0_2 (W main_indices : IVec S2x1000 32) := by
  simp only [hostOps1_2]
  after_results_entrywise [cast_eq]

/-! ## The rows laid out for the second launch -/

/-- The valuation after the host operations that lay out the rows. -/
abbrev spread : Valuation τ sig (Elt Ideal) :=
  StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 W))))))))))))))))))
/-- The scores. -/
theorem v29_at (n : Fin 2) (j : Fin 1000) : (spread W (Proc.devRef .tc main_v29) : FVec Ideal S2x8x128 .f32) (ix3 n ⟨j.val / 128, by omega⟩ ⟨j.val % 128, by omega⟩) = (W main_values : FVec Ideal S2x1000 .f32) (ix2 n j) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- The columns of the places. -/
theorem v33_at (n : Fin 2) (j : Fin 1000) : (spread W (Proc.devRef .tc main_v33) : FVec Ideal S2x8x128 .f32) (ix3 n ⟨j.val / 128, by omega⟩ ⟨j.val % 128, by omega⟩) = (W main_v7 : FVec Ideal S2x1000x2 .f32) (ix3 n j 0) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- The rows of the places. -/
theorem v37_at (n : Fin 2) (j : Fin 1000) : (spread W (Proc.devRef .tc main_v37) : FVec Ideal S2x8x128 .f32) (ix3 n ⟨j.val / 128, by omega⟩ ⟨j.val % 128, by omega⟩) = (W main_v7 : FVec Ideal S2x1000x2 .f32) (ix3 n j 1) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- Side 0 of the boxes. -/
theorem v41_at (n : Fin 2) (j : Fin 1000) : (spread W (Proc.devRef .tc main_v41) : FVec Ideal S2x8x128 .f32) (ix3 n ⟨j.val / 128, by omega⟩ ⟨j.val % 128, by omega⟩) = (W main_v10 : FVec Ideal S2x4x1000 .f32) (ix3 n 0 j) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- Side 1 of the boxes. -/
theorem v45_at (n : Fin 2) (j : Fin 1000) : (spread W (Proc.devRef .tc main_v45) : FVec Ideal S2x8x128 .f32) (ix3 n ⟨j.val / 128, by omega⟩ ⟨j.val % 128, by omega⟩) = (W main_v10 : FVec Ideal S2x4x1000 .f32) (ix3 n 1 j) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- Side 2 of the boxes. -/
theorem v49_at (n : Fin 2) (j : Fin 1000) : (spread W (Proc.devRef .tc main_v49) : FVec Ideal S2x8x128 .f32) (ix3 n ⟨j.val / 128, by omega⟩ ⟨j.val % 128, by omega⟩) = (W main_v10 : FVec Ideal S2x4x1000 .f32) (ix3 n 2 j) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- Side 3 of the boxes. -/
theorem v53_at (n : Fin 2) (j : Fin 1000) : (spread W (Proc.devRef .tc main_v53) : FVec Ideal S2x8x128 .f32) (ix3 n ⟨j.val / 128, by omega⟩ ⟨j.val % 128, by omega⟩) = (W main_v10 : FVec Ideal S2x4x1000 .f32) (ix3 n 3 j) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]

/-- The labels as numbers. -/
theorem v56_at (n : Fin 2) (j : Fin 1000) : (spread W (Proc.devRef .tc main_v56) : FVec Ideal S2x8x128 .f32) (ix3 n ⟨j.val / 128, by omega⟩ ⟨j.val % 128, by omega⟩) = num ((W main_v11 : IVec S2x1000 32) (ix2 n j)) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]
  rfl

/-- The tags as numbers. -/
theorem v59_at (n : Fin 2) (j : Fin 1000) : (spread W (Proc.devRef .tc main_v59) : FVec Ideal S2x8x128 .f32) (ix3 n ⟨j.val / 128, by omega⟩ ⟨j.val % 128, by omega⟩) = num ((W main_v12 : IVec S2x1000 32) (ix2 n j)) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  simp only [Nat.div_add_mod', Fin.isLt, ↓reduceDIte, Fin.eta]
  rfl

/-- The last column of an image. -/
theorem v20_at (n : Fin 2) (j : Fin 1000) : (spread W (Proc.devRef .tc main_v20) : FVec Ideal S2x8x128 .f32) (ix3 n ⟨j.val / 128, by omega⟩ ⟨j.val % 128, by omega⟩) = num ((W main_arg5 : IVec S2x2 32) (ix2 n 1)) - lit 0x3F800000#32 := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  rfl

/-- The last row of an image. -/
theorem v27_at (n : Fin 2) (j : Fin 1000) : (spread W (Proc.devRef .tc main_v27) : FVec Ideal S2x8x128 .f32) (ix3 n ⟨j.val / 128, by omega⟩ ⟨j.val % 128, by omega⟩) = num ((W main_arg5 : IVec S2x2 32) (ix2 n 0)) - lit 0x3F800000#32 := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_reads_at
  rfl

/-- What lies flat along the tiles is read back at `128 q + r`. -/
theorem v62_at (n : Fin 2) (j : Fin 1000) : (StableHlo.after hostOps2 W (Proc.devRef .tc main_v62) : FVec Ideal S2x1000 .f32) (ix2 n j)
    = (W main_v60_0 : FVec Ideal S2x8x128 .f32) (ix3 n ⟨j.val / 128, by omega⟩ ⟨j.val % 128, by omega⟩) := by
  simp only [hostOps2]
  after_reads_at

theorem v69_0_at (n : Fin 2) (j : Fin 1000) : (StableHlo.after hostOps2 W (Proc.devRef .tc main_v69) : FVec Ideal S2x1000x4 .f32) (ix3 n j 0)
    = (W main_v60_1 : FVec Ideal S2x8x128 .f32) (ix3 n ⟨j.val / 128, by omega⟩ ⟨j.val % 128, by omega⟩) := by
  simp only [hostOps2]
  after_reads_at
  simp only [StableHlo.upto, List.take_succ_cons, List.take_zero]
  after_reads_at

theorem v69_1_at (n : Fin 2) (j : Fin 1000) : (StableHlo.after hostOps2 W (Proc.devRef .tc main_v69) : FVec Ideal S2x1000x4 .f32) (ix3 n j 1)
    = (W main_v60_2 : FVec Ideal S2x8x128 .f32) (ix3 n ⟨j.val / 128, by omega⟩ ⟨j.val % 128, by omega⟩) := by
  simp only [hostOps2]
  after_reads_at
  simp only [StableHlo.upto, List.take_succ_cons, List.take_zero]
  after_reads_at

theorem v69_2_at (n : Fin 2) (j : Fin 1000) : (StableHlo.after hostOps2 W (Proc.devRef .tc main_v69) : FVec Ideal S2x1000x4 .f32) (ix3 n j 2)
    = (W main_v60_3 : FVec Ideal S2x8x128 .f32) (ix3 n ⟨j.val / 128, by omega⟩ ⟨j.val % 128, by omega⟩) := by
  simp only [hostOps2]
  after_reads_at
  simp only [StableHlo.upto, List.take_succ_cons, List.take_zero]
  after_reads_at

theorem v69_3_at (n : Fin 2) (j : Fin 1000) : (StableHlo.after hostOps2 W (Proc.devRef .tc main_v69) : FVec Ideal S2x1000x4 .f32) (ix3 n j 3)
    = (W main_v60_4 : FVec Ideal S2x8x128 .f32) (ix3 n ⟨j.val / 128, by omega⟩ ⟨j.val % 128, by omega⟩) := by
  simp only [hostOps2]
  after_reads_at
  simp only [StableHlo.upto, List.take_succ_cons, List.take_zero]
  after_reads_at

end Cert.KernelIdeal.Run

end
-- ==== Proof.Chosen.lean ====
/- The thousand candidates of an image, from the score arrays and the arguments. -/
module

public import proofs.«01_k».proof.Proof.Order
public import proofs.«01_k».proof.Proof.Takes
public import proofs.«01_k».proof.Proof.Cand

@[expose] public section

noncomputable section

namespace Cert

open Cert.KernelIdeal Cert.KernelIdeal.Gen
open Idealize.ShloMosaic

/-- Candidate `j` of image `n`: what the arguments and the score arrays hold at the place of the `j`-th greatest score. -/
def chosen (s : FVec Ideal S2x20000 .f32) (lab tag : IVec S2x20000 32) (a0 : FVec Ideal S20000x2 .f32) (a2 : FVec Ideal S2x4x100x200 .f32)
    (a5 : IVec S2x2 32) (n : Fin 2) (j : Fin 1000) : Cand where
  tv := s (ix2 n (Order.top s n j))
  lx := a0 (ix2 (Order.top s n j) 0)
  ly := a0 (ix2 (Order.top s n j) 1)
  r0 := a2 (ix4 n 0 ⟨(Order.top s n j).val / 200, by omega⟩ ⟨(Order.top s n j).val % 200, by omega⟩)
  r1 := a2 (ix4 n 1 ⟨(Order.top s n j).val / 200, by omega⟩ ⟨(Order.top s n j).val % 200, by omega⟩)
  r2 := a2 (ix4 n 2 ⟨(Order.top s n j).val / 200, by omega⟩ ⟨(Order.top s n j).val % 200, by omega⟩)
  r3 := a2 (ix4 n 3 ⟨(Order.top s n j).val / 200, by omega⟩ ⟨(Order.top s n j).val % 200, by omega⟩)
  lab := lab (ix2 n (Order.top s n j))
  tag := tag (ix2 n (Order.top s n j))
  w := a5 (ix2 n 1)
  h := a5 (ix2 n 0)

end Cert

end
-- ==== Proof.KPick.lean ====
/- The candidates the kernel program draws: what the thousand greatest scores' places hold. -/
module

public import proofs.«01_k».proof.Proof.KRead
public import proofs.«01_k».proof.Proof.Chosen

@[expose] public section

set_option maxRecDepth 16384

noncomputable section

namespace Cert.KernelIdeal.Run

open Cert.KernelIdeal Cert.KernelIdeal.Gen
open Idealize.ShloMosaic Idealize.ShloMosaic.TcCoe

variable (W : Valuation τ sig (Elt Ideal))

/-- The scores, labels and tags the host operations sort and read. -/
abbrev flatScore : FVec Ideal S2x20000 .f32 := shapeCast S2x20000 (W main_v3_0 : FVec Ideal S2x1x20000 .f32) shapeCasts_S2x1x20000_S2x20000
abbrev flatLabel : IVec S2x20000 32 := shapeCast S2x20000 (W main_v3_1 : IVec S2x1x20000 32) shapeCasts_S2x1x20000_S2x20000
abbrev flatTag : IVec S2x20000 32 := shapeCast S2x20000 (W main_v3_2 : IVec S2x1x20000 32) shapeCasts_S2x1x20000_S2x20000

/-- The valuation after the top-k and the reads at its places. -/
abbrev picked : Valuation τ sig (Elt Ideal) := StableHlo.after hostOps1_5 (StableHlo.after hostOps1_4 (StableHlo.after hostOps1_3 (StableHlo.after hostOps1_2 (StableHlo.after hostOps1_1 (StableHlo.after hostOps1 W)))))

/-- The places of the thousand greatest scores. -/
abbrev placed : IVec S2x1000 32 := (Host.topK S2x1000 1 (FloatOps.cmpfTotal (F := Ideal) (φ := .f32) .gt) (flatScore W) sliceFits_S2x20000_S2x1000).2

theorem picked_values : picked W (Proc.devRef .tc main_values) = (Host.topK S2x1000 1 (FloatOps.cmpfTotal (F := Ideal) (φ := .f32) .gt) (flatScore W) sliceFits_S2x20000_S2x1000).1 := by
  simp only [picked, hostOps1, hostOps1_1, hostOps1_2, hostOps1_3, hostOps1_4, hostOps1_5]
  after_results_entrywise [cast_eq]

theorem picked_v7 : picked W (Proc.devRef .tc main_v7) = (Take.loc (W main_arg0 : FVec Ideal S20000x2 .f32) (Take.vec (Take.wrap 20000#32 (placed W))) : FVec Ideal S2x1000x2 .f32) := by
  simp only [picked, hostOps1, hostOps1_1, hostOps1_2, hostOps1_3, hostOps1_4, hostOps1_5]
  after_results_entrywise [cast_eq]

/-- The places, one row per image, set right where they are negative. -/
def rowPlaces (i : IVec S2x1000 32) : IVec S2x1000x1 32 :=
  let r : IVec S2x1x1000 32 := broadcastInDim S2x1x1000 ![0, 2] bcast_S2x1000_S2x1x1000_0_2 i
  let lo : IVec S2x1x1000 32 := broadcastInDim S2x1x1000 ![] bcast_S_S2x1x1000 (constantI S_ 32 0#32)
  let up : IVec S2x1x1000 32 := broadcastInDim S2x1x1000 ![] bcast_S_S2x1x1000 (constantI S_ 32 20000#32)
  shapeCast S2x1000x1 (select (cmpi .slt r lo) (addi r up) r) shapeCasts_S2x1x1000_S2x1000x1

theorem rowPlaces_at (i : IVec S2x1000 32) (p : ℕ) (h : p < 20000) (n : Fin 2) (j : Fin 1000) (hi : i (ix2 n j) = BitVec.ofNat 32 p) :
    rowPlaces i (ix3 n j 0) = BitVec.ofNat 32 p := by
  unfold rowPlaces
  have e : ∀ x : IVec S2x1x1000 32, shapeCast S2x1000x1 x shapeCasts_S2x1x1000_S2x1000x1 (ix3 n j 0) = x (ix3 n 0 j) := fun x => by pointwise
  rw [e]
  have g : (broadcastInDim S2x1x1000 ![0, 2] bcast_S2x1000_S2x1x1000_0_2 i : IVec S2x1x1000 32) (ix3 n 0 j) = BitVec.ofNat 32 p := by
    refine Eq.trans ?_ hi
    pointwise
  show Scalar.select (IntOp.cmpi .slt ((broadcastInDim S2x1x1000 ![0, 2] bcast_S2x1000_S2x1x1000_0_2 i : IVec S2x1x1000 32) (ix3 n 0 j)) 0#32)
    (IntOp.addi ((broadcastInDim S2x1x1000 ![0, 2] bcast_S2x1000_S2x1x1000_0_2 i : IVec S2x1x1000 32) (ix3 n 0 j)) 20000#32)
    ((broadcastInDim S2x1x1000 ![0, 2] bcast_S2x1000_S2x1x1000_0_2 i : IVec S2x1x1000 32) (ix3 n 0 j)) = _
  rw [g]
  exact Take.wrap_small p h _

theorem picked_v10 : picked W (Proc.devRef .tc main_v10) = (Take.cols (shapeCast S2x4x20000 (W main_arg2 : FVec Ideal S2x4x100x200 .f32) shapeCasts_S2x4x100x200_S2x4x20000) (rowPlaces (placed W)) : FVec Ideal S2x4x1000 .f32) := by
  simp only [picked, hostOps1, hostOps1_1, hostOps1_2, hostOps1_3, hostOps1_4, hostOps1_5]
  after_results_entrywise [cast_eq]

theorem picked_v11 : picked W (Proc.devRef .tc main_v11) = Take.one (flatLabel W) (shapeCast S2x1000x1 (Take.wrap 20000#32 (placed W)) shapeCasts_S2x1000_S2x1000x1) := by
  simp only [picked, hostOps1, hostOps1_1, hostOps1_2, hostOps1_3, hostOps1_4, hostOps1_5]
  after_results_entrywise [cast_eq]

theorem picked_v12 : picked W (Proc.devRef .tc main_v12) = Take.one (flatTag W) (shapeCast S2x1000x1 (Take.wrap 20000#32 (placed W)) shapeCasts_S2x1000_S2x1000x1) := by
  simp only [picked, hostOps1, hostOps1_1, hostOps1_2, hostOps1_3, hostOps1_4, hostOps1_5]
  after_results_entrywise [cast_eq]

theorem picked_arg5 : picked W (Proc.devRef .tc main_arg5) = (W main_arg5 : IVec S2x2 32) := by
  simp only [picked, hostOps1, hostOps1_1, hostOps1_2, hostOps1_3, hostOps1_4, hostOps1_5]
  after_results_entrywise [cast_eq]

/-! ## Read at a candidate -/

/-- The place a candidate is drawn from. -/
abbrev spot (n : Fin 2) (j : Fin 1000) : Fin 20000 := Order.top (flatScore W) n j

theorem placed_at (n : Fin 2) (j : Fin 1000) : placed W (ix2 n j) = BitVec.ofNat 32 (spot W n j).val := Order.topK_ix _ _ n j

theorem placed_wrap (n : Fin 2) (j : Fin 1000) : Take.wrap 20000#32 (placed W) (ix2 n j) = BitVec.ofNat 32 (spot W n j).val :=
  Take.wrap_at _ _ _ (spot W n j).isLt n j (placed_at W n j)

theorem tall_at (i : IVec S2x1000 32) (n : Fin 2) (j : Fin 1000) : shapeCast S2x1000x1 i shapeCasts_S2x1000_S2x1000x1 (ix3 n j 0) = i (ix2 n j) := by
  pointwise

theorem flat4_at (x : FVec Ideal S2x4x100x200 .f32) (n : Fin 2) (k : Fin 4) (q : Fin 20000) :
    shapeCast S2x4x20000 x shapeCasts_S2x4x100x200_S2x4x20000 (ix3 n k q) = x (ix4 n k ⟨q.val / 200, by omega⟩ ⟨q.val % 200, by omega⟩) := by
  pointwise

theorem values_cell (n : Fin 2) (j : Fin 1000) : (picked W main_values : FVec Ideal S2x1000 .f32) (ix2 n j) = flatScore W (ix2 n (spot W n j)) :=
  (congrFun (picked_values W) (ix2 n j)).trans (Order.topK_val (flatScore W) sliceFits_S2x20000_S2x1000 n j)

/-- Reads at a place, whatever spells it. -/
theorem loc_pick (x : FVec Ideal S20000x2 .f32) (i : IVec S2x1000 32) (q : Fin 20000) (n : Fin 2) (j : Fin 1000) (k : Fin 2) (h : i (ix2 n j) = BitVec.ofNat 32 q.val) :
    Take.loc x (Take.vec (Take.wrap 20000#32 i)) (ix3 n j k) = x (ix2 q k) :=
  Take.loc_at _ _ q.val q.isLt n j k ((Take.vec_at _ n j).trans (Take.wrap_at _ _ _ q.isLt n j h))

theorem cols_pick (x : FVec Ideal S2x4x100x200 .f32) (i : IVec S2x1000 32) (q : Fin 20000) (n : Fin 2) (j : Fin 1000) (k : Fin 4) (h : i (ix2 n j) = BitVec.ofNat 32 q.val) :
    Take.cols (shapeCast S2x4x20000 x shapeCasts_S2x4x100x200_S2x4x20000) (rowPlaces i) (ix3 n k j) = x (ix4 n k ⟨q.val / 200, by omega⟩ ⟨q.val % 200, by omega⟩) :=
  (Take.cols_at _ _ q.val q.isLt n k j (rowPlaces_at _ q.val q.isLt n j h)).trans (flat4_at _ n k q)

theorem one_pick (x : IVec S2x20000 32) (i : IVec S2x1000 32) (q : Fin 20000) (n : Fin 2) (j : Fin 1000) (h : i (ix2 n j) = BitVec.ofNat 32 q.val) :
    Take.one x (shapeCast S2x1000x1 (Take.wrap 20000#32 i) shapeCasts_S2x1000_S2x1000x1) (ix2 n j) = x (ix2 n q) :=
  Take.one_at _ _ q.val q.isLt n j ((tall_at _ n j).trans (Take.wrap_at _ _ _ q.isLt n j h))

theorem v7_cell (n : Fin 2) (j : Fin 1000) (k : Fin 2) : (picked W main_v7 : FVec Ideal S2x1000x2 .f32) (ix3 n j k) = (W main_arg0 : FVec Ideal S20000x2 .f32) (ix2 (spot W n j) k) :=
  (congrFun (picked_v7 W) (ix3 n j k)).trans (loc_pick _ (placed W) (spot W n j) n j k (placed_at W n j))

theorem v10_cell (n : Fin 2) (j : Fin 1000) (k : Fin 4) : (picked W main_v10 : FVec Ideal S2x4x1000 .f32) (ix3 n k j)
    = (W main_arg2 : FVec Ideal S2x4x100x200 .f32) (ix4 n k ⟨(spot W n j).val / 200, by omega⟩ ⟨(spot W n j).val % 200, by omega⟩) :=
  (congrFun (picked_v10 W) (ix3 n k j)).trans (cols_pick _ (placed W) (spot W n j) n j k (placed_at W n j))

theorem v11_cell (n : Fin 2) (j : Fin 1000) : (picked W main_v11 : IVec S2x1000 32) (ix2 n j) = flatLabel W (ix2 n (spot W n j)) :=
  (congrFun (picked_v11 W) (ix2 n j)).trans (one_pick _ (placed W) (spot W n j) n j (placed_at W n j))

theorem v12_cell (n : Fin 2) (j : Fin 1000) : (picked W main_v12 : IVec S2x1000 32) (ix2 n j) = flatTag W (ix2 n (spot W n j)) :=
  (congrFun (picked_v12 W) (ix2 n j)).trans (one_pick _ (placed W) (spot W n j) n j (placed_at W n j))

/-- The candidate drawn. -/
abbrev drawn (n : Fin 2) (j : Fin 1000) : Cand := chosen (flatScore W) (flatLabel W) (flatTag W) (W main_arg0) (W main_arg2) (W main_arg5) n j

end Cert.KernelIdeal.Run

end
-- ==== Proof.KTiles.lean ====
/- The suppression region's blocks and arrays: what it reads of the rows laid out for it, and what it leaves of them. -/
module

public import proofs.«01_k».proof.Proof.Suppress
public import proofs.«01_k».proof.Proof.WholeIdeal
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)

/-! ## Tiles of an image -/

section

variable (x : FVec Ideal S2x8x128 .f32) (p q : FVec Ideal S8x128 .f32) (a : Fin 8) (b : Fin 128)

/-- A row read through an image's block: image 0's, -/
theorem flat0_at : flat (block0 x) (ix2 a b) = x (ix3 0 a b) := by
  have e : flat (block0 x) (ix2 a b) = block0 x (ix3 0 a b) := by pointwise
  rw [e]
  exact View.ld_unit_apply_of _ _ _ _ _ _ fun k => by
    match k with
    | ⟨0, _⟩ => rfl
    | ⟨1, _⟩ => exact (Nat.zero_add _).symm
    | ⟨2, _⟩ => exact (Nat.zero_add _).symm
/-- and image 1's. -/
theorem flat1_at : flat (block1 x) (ix2 a b) = x (ix3 1 a b) := by
  have e : flat (block1 x) (ix2 a b) = block1 x (ix3 0 a b) := by pointwise
  rw [e]
  exact View.ld_unit_apply_of _ _ _ _ _ _ fun k => by
    match k with
    | ⟨0, _⟩ => rfl
    | ⟨1, _⟩ => exact (Nat.zero_add _).symm
    | ⟨2, _⟩ => exact (Nat.zero_add _).symm

theorem slab_at (y : FVec Ideal S8x128 .f32) : slab y (ix3 0 a b) = y (ix2 a b) := by pointwise

/-- The two images' stores, read back: image 1's, -/
theorem both1_at : View.canon (both p q) (ix3 1 a b) = q (ix2 a b) := by
  have e : (Rect.unit (s := S2x8x128) ![1, 0, 0] S1x8x128.size inb_S2x8x128_S1x8x128_1_0_0).emb (ix3 0 a b) = (ix3 1 a b : S2x8x128.Idx) := by
    funext k
    refine Fin.ext ?_
    match k with
    | ⟨0, _⟩ => rfl
    | ⟨1, _⟩ => show 0 + 1 * a.val = a.val; omega
    | ⟨2, _⟩ => show 0 + 1 * b.val = b.val; omega
  rw [both, ← e]
  exact (View.canon_cons_emb _ _ _ _).trans (slab_at a b q)
/-- Image 0's tiles are off image 1's block. -/
theorem off_image : (ix3 0 a b : S2x8x128.Idx) ∉ (Rect.unit (s := S2x8x128) ![1, 0, 0] S1x8x128.size inb_S2x8x128_S1x8x128_1_0_0).set := by
  intro h
  obtain ⟨x, hx⟩ := (Rect.unit (s := S2x8x128) ![1, 0, 0] S1x8x128.size inb_S2x8x128_S1x8x128_1_0_0).exists_idx_of_mem h
  have e : (((Rect.unit (s := S2x8x128) ![1, 0, 0] S1x8x128.size inb_S2x8x128_S1x8x128_1_0_0).idx x) 0).val = 1 + 1 * (x 0).val := rfl
  have e' := congrArg (fun i : S2x8x128.Idx => (i 0).val) hx
  have e'' : 1 + 1 * (x 0).val = 0 := e.symm.trans e'
  omega
/-- and image 0's. -/
theorem both0_at : View.canon (both p q) (ix3 0 a b) = p (ix2 a b) := by
  have e : (Rect.unit (s := S2x8x128) ![0, 0, 0] S1x8x128.size inb_S2x8x128_S1x8x128_0_0_0).emb (ix3 0 a b) = (ix3 0 a b : S2x8x128.Idx) := by
    funext k
    refine Fin.ext ?_
    match k with
    | ⟨0, _⟩ => rfl
    | ⟨1, _⟩ => show 0 + 1 * a.val = a.val; omega
    | ⟨2, _⟩ => show 0 + 1 * b.val = b.val; omega
  unfold both
  refine (View.canon_cons_of_not_mem (⟨Rect.unit (s := S2x8x128) ![1, 0, 0] S1x8x128.size inb_S2x8x128_S1x8x128_1_0_0, slab q⟩ : View.Piece (Elt Ideal) S2x8x128 .f32) _ (off_image a b)).trans ?_
  rw [← e]
  exact (View.canon_cons_emb _ _ _ _).trans (slab_at a b p)

end

/-! ## The candidates of an image, read off eleven laid-out arrays -/

section

variable {A0 A1 A2 A3 A4 A5 A6 A7 A8 A9 A10 : FVec Ideal S2x8x128 .f32} {cand : Fin 2 → Fin 1000 → Cand}

/-- The eleven arrays hold the candidates of both images, 128 to a row. -/
structure Holds (A0 A1 A2 A3 A4 A5 A6 A7 A8 A9 A10 : FVec Ideal S2x8x128 .f32) (cand : Fin 2 → Fin 1000 → Cand) : Prop where
  tv : ∀ n (j : Fin 1000), A0 (ix3 n ⟨j.val / 128, by omega⟩ ⟨j.val % 128, by omega⟩) = (cand n j).tv
  lx : ∀ n (j : Fin 1000), A1 (ix3 n ⟨j.val / 128, by omega⟩ ⟨j.val % 128, by omega⟩) = (cand n j).lx
  ly : ∀ n (j : Fin 1000), A2 (ix3 n ⟨j.val / 128, by omega⟩ ⟨j.val % 128, by omega⟩) = (cand n j).ly
  r0 : ∀ n (j : Fin 1000), A3 (ix3 n ⟨j.val / 128, by omega⟩ ⟨j.val % 128, by omega⟩) = (cand n j).r0
  r1 : ∀ n (j : Fin 1000), A4 (ix3 n ⟨j.val / 128, by omega⟩ ⟨j.val % 128, by omega⟩) = (cand n j).r1
  r2 : ∀ n (j : Fin 1000), A5 (ix3 n ⟨j.val / 128, by omega⟩ ⟨j.val % 128, by omega⟩) = (cand n j).r2
  r3 : ∀ n (j : Fin 1000), A6 (ix3 n ⟨j.val / 128, by omega⟩ ⟨j.val % 128, by omega⟩) = (cand n j).r3
  lab : ∀ n (j : Fin 1000), A7 (ix3 n ⟨j.val / 128, by omega⟩ ⟨j.val % 128, by omega⟩) = num (cand n j).lab
  tag : ∀ n (j : Fin 1000), A8 (ix3 n ⟨j.val / 128, by omega⟩ ⟨j.val % 128, by omega⟩) = num (cand n j).tag
  wm : ∀ n (j : Fin 1000), A9 (ix3 n ⟨j.val / 128, by omega⟩ ⟨j.val % 128, by omega⟩) = num (cand n j).w - lit 0x3F800000#32
  hm : ∀ n (j : Fin 1000), A10 (ix3 n ⟨j.val / 128, by omega⟩ ⟨j.val % 128, by omega⟩) = num (cand n j).h - lit 0x3F800000#32

theorem Holds.reads0 (h : Holds A0 A1 A2 A3 A4 A5 A6 A7 A8 A9 A10 cand) : Reads (image0 A0 A1 A2 A3 A4 A5 A6 A7 A8 A9 A10) (cand 0) :=
  ⟨fun i => (flat0_at A0 _ _).trans (h.tv 0 i), fun i => (flat0_at A1 _ _).trans (h.lx 0 i), fun i => (flat0_at A2 _ _).trans (h.ly 0 i),
    fun i => (flat0_at A3 _ _).trans (h.r0 0 i), fun i => (flat0_at A4 _ _).trans (h.r1 0 i), fun i => (flat0_at A5 _ _).trans (h.r2 0 i),
    fun i => (flat0_at A6 _ _).trans (h.r3 0 i), fun i => (flat0_at A7 _ _).trans (h.lab 0 i), fun i => (flat0_at A8 _ _).trans (h.tag 0 i),
    fun i => (flat0_at A9 _ _).trans (h.wm 0 i), fun i => (flat0_at A10 _ _).trans (h.hm 0 i)⟩

theorem Holds.reads1 (h : Holds A0 A1 A2 A3 A4 A5 A6 A7 A8 A9 A10 cand) : Reads (image1 A0 A1 A2 A3 A4 A5 A6 A7 A8 A9 A10) (cand 1) :=
  ⟨fun i => (flat1_at A0 _ _).trans (h.tv 1 i), fun i => (flat1_at A1 _ _).trans (h.lx 1 i), fun i => (flat1_at A2 _ _).trans (h.ly 1 i),
    fun i => (flat1_at A3 _ _).trans (h.r0 1 i), fun i => (flat1_at A4 _ _).trans (h.r1 1 i), fun i => (flat1_at A5 _ _).trans (h.r2 1 i),
    fun i => (flat1_at A6 _ _).trans (h.r3 1 i), fun i => (flat1_at A7 _ _).trans (h.lab 1 i), fun i => (flat1_at A8 _ _).trans (h.tag 1 i),
    fun i => (flat1_at A9 _ _).trans (h.wm 1 i), fun i => (flat1_at A10 _ _).trans (h.hm 1 i)⟩

/-- What is stored for both images, read at a candidate, is what the candidate's image has there. -/
theorem both_cell (p q : FVec Ideal S8x128 .f32) (f : Fin 2 → Fin 1000 → EReal) (hp : ∀ j, p (cell j) = f 0 j) (hq : ∀ j, q (cell j) = f 1 j)
    (n : Fin 2) (j : Fin 1000) : View.canon (both p q) (ix3 n ⟨j.val / 128, by omega⟩ ⟨j.val % 128, by omega⟩) = f n j := by
  match n with
  | 0 => exact (both0_at p q _ _).trans (hp j)
  | 1 => exact (both1_at p q _ _).trans (hq j)

end

end Cert.KernelIdeal.Run

end
-- ==== Proof.KHold.lean ====
/- The rows laid out for the suppression region hold the candidates drawn. -/
module

public import proofs.«01_k».proof.Proof.KPick
public import proofs.«01_k».proof.Proof.KTiles

@[expose] public section

set_option maxRecDepth 16384

noncomputable section

namespace Cert.KernelIdeal.Run

open Cert.KernelIdeal Cert.KernelIdeal.Gen
open Idealize.ShloMosaic Idealize.ShloMosaic.TcCoe

variable (W : Valuation τ sig (Elt Ideal))

/-- The laid-out rows hold, for both images, what was read at the chosen places. -/
theorem holds : Holds (spread (picked W) (Proc.devRef .tc main_v29)) (spread (picked W) (Proc.devRef .tc main_v33)) (spread (picked W) (Proc.devRef .tc main_v37))
    (spread (picked W) (Proc.devRef .tc main_v41)) (spread (picked W) (Proc.devRef .tc main_v45)) (spread (picked W) (Proc.devRef .tc main_v49))
    (spread (picked W) (Proc.devRef .tc main_v53)) (spread (picked W) (Proc.devRef .tc main_v56)) (spread (picked W) (Proc.devRef .tc main_v59))
    (spread (picked W) (Proc.devRef .tc main_v20)) (spread (picked W) (Proc.devRef .tc main_v27)) (drawn W) where
  tv n j := (v29_at (picked W) n j).trans (values_cell W n j)
  lx n j := (v33_at (picked W) n j).trans (v7_cell W n j 0)
  ly n j := (v37_at (picked W) n j).trans (v7_cell W n j 1)
  r0 n j := (v41_at (picked W) n j).trans (v10_cell W n j 0)
  r1 n j := (v45_at (picked W) n j).trans (v10_cell W n j 1)
  r2 n j := (v49_at (picked W) n j).trans (v10_cell W n j 2)
  r3 n j := (v53_at (picked W) n j).trans (v10_cell W n j 3)
  lab n j := (v56_at (picked W) n j).trans (congrArg num (v11_cell W n j))
  tag n j := (v59_at (picked W) n j).trans (congrArg num (v12_cell W n j))
  wm n j := (v20_at (picked W) n j).trans (congrArg (fun a : IVec S2x2 32 => num (a (ix2 n 1)) - lit 0x3F800000#32) (picked_arg5 W))
  hm n j := (v27_at (picked W) n j).trans (congrArg (fun a : IVec S2x2 32 => num (a (ix2 n 0)) - lit 0x3F800000#32) (picked_arg5 W))

theorem spread_v11 : spread W (Proc.devRef .tc main_v11) = (W main_v11 : IVec S2x1000 32) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_results_entrywise [cast_eq]

theorem spread_v12 : spread W (Proc.devRef .tc main_v12) = (W main_v12 : IVec S2x1000 32) := by
  simp only [spread, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24]
  after_results_entrywise [cast_eq]

end Cert.KernelIdeal.Run

end
-- ==== Proof.KArrays.lean ====
/- The suppression region's arrays: each input block is its whole array, and each output array is what its block is left at. -/
module

public import proofs.«01_k».proof.Proof.Suppress
public import proofs.«01_k».proof.Proof.WholeIdeal
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Pipeline (Dat Cfg Window)

section

variable (V : (c : Dev nD) → (b : Ref sig .tc) → Buf (Elt Ideal) ((c : Thread nD τ).loc b)) (c : Dev nD)

/-- The one point. -/
def only : Fin cfg1.N := ⟨0, by decide⟩

theorem blk1_0 : (blk1 V c 0 only : FVec Ideal S2x8x128 .f32) = V c (Pipeline.arrRef spec1 0) := by
  funext y
  show (V c (Pipeline.arrRef spec1 0) : FVec Ideal S2x8x128 .f32) (((cfg1.win 0).blk only).view.emb y) = _
  refine congrArg (V c (Pipeline.arrRef spec1 0) : FVec Ideal S2x8x128 .f32) ?_
  blk_ext [(by decide +kernel : ∀ t : Fin cfg1.N, win1_0.index t = ![0, 0, 0])]

theorem blk1_1 : (blk1 V c 1 only : FVec Ideal S2x8x128 .f32) = V c (Pipeline.arrRef spec1 1) := by
  funext y
  show (V c (Pipeline.arrRef spec1 1) : FVec Ideal S2x8x128 .f32) (((cfg1.win 1).blk only).view.emb y) = _
  refine congrArg (V c (Pipeline.arrRef spec1 1) : FVec Ideal S2x8x128 .f32) ?_
  blk_ext [(by decide +kernel : ∀ t : Fin cfg1.N, win1_1.index t = ![0, 0, 0])]

theorem blk1_2 : (blk1 V c 2 only : FVec Ideal S2x8x128 .f32) = V c (Pipeline.arrRef spec1 2) := by
  funext y
  show (V c (Pipeline.arrRef spec1 2) : FVec Ideal S2x8x128 .f32) (((cfg1.win 2).blk only).view.emb y) = _
  refine congrArg (V c (Pipeline.arrRef spec1 2) : FVec Ideal S2x8x128 .f32) ?_
  blk_ext [(by decide +kernel : ∀ t : Fin cfg1.N, win1_2.index t = ![0, 0, 0])]

theorem blk1_3 : (blk1 V c 3 only : FVec Ideal S2x8x128 .f32) = V c (Pipeline.arrRef spec1 3) := by
  funext y
  show (V c (Pipeline.arrRef spec1 3) : FVec Ideal S2x8x128 .f32) (((cfg1.win 3).blk only).view.emb y) = _
  refine congrArg (V c (Pipeline.arrRef spec1 3) : FVec Ideal S2x8x128 .f32) ?_
  blk_ext [(by decide +kernel : ∀ t : Fin cfg1.N, win1_3.index t = ![0, 0, 0])]

theorem blk1_4 : (blk1 V c 4 only : FVec Ideal S2x8x128 .f32) = V c (Pipeline.arrRef spec1 4) := by
  funext y
  show (V c (Pipeline.arrRef spec1 4) : FVec Ideal S2x8x128 .f32) (((cfg1.win 4).blk only).view.emb y) = _
  refine congrArg (V c (Pipeline.arrRef spec1 4) : FVec Ideal S2x8x128 .f32) ?_
  blk_ext [(by decide +kernel : ∀ t : Fin cfg1.N, win1_4.index t = ![0, 0, 0])]

theorem blk1_5 : (blk1 V c 5 only : FVec Ideal S2x8x128 .f32) = V c (Pipeline.arrRef spec1 5) := by
  funext y
  show (V c (Pipeline.arrRef spec1 5) : FVec Ideal S2x8x128 .f32) (((cfg1.win 5).blk only).view.emb y) = _
  refine congrArg (V c (Pipeline.arrRef spec1 5) : FVec Ideal S2x8x128 .f32) ?_
  blk_ext [(by decide +kernel : ∀ t : Fin cfg1.N, win1_5.index t = ![0, 0, 0])]

theorem blk1_6 : (blk1 V c 6 only : FVec Ideal S2x8x128 .f32) = V c (Pipeline.arrRef spec1 6) := by
  funext y
  show (V c (Pipeline.arrRef spec1 6) : FVec Ideal S2x8x128 .f32) (((cfg1.win 6).blk only).view.emb y) = _
  refine congrArg (V c (Pipeline.arrRef spec1 6) : FVec Ideal S2x8x128 .f32) ?_
  blk_ext [(by decide +kernel : ∀ t : Fin cfg1.N, win1_6.index t = ![0, 0, 0])]

theorem blk1_7 : (blk1 V c 7 only : FVec Ideal S2x8x128 .f32) = V c (Pipeline.arrRef spec1 7) := by
  funext y
  show (V c (Pipeline.arrRef spec1 7) : FVec Ideal S2x8x128 .f32) (((cfg1.win 7).blk only).view.emb y) = _
  refine congrArg (V c (Pipeline.arrRef spec1 7) : FVec Ideal S2x8x128 .f32) ?_
  blk_ext [(by decide +kernel : ∀ t : Fin cfg1.N, win1_7.index t = ![0, 0, 0])]

theorem blk1_8 : (blk1 V c 8 only : FVec Ideal S2x8x128 .f32) = V c (Pipeline.arrRef spec1 8) := by
  funext y
  show (V c (Pipeline.arrRef spec1 8) : FVec Ideal S2x8x128 .f32) (((cfg1.win 8).blk only).view.emb y) = _
  refine congrArg (V c (Pipeline.arrRef spec1 8) : FVec Ideal S2x8x128 .f32) ?_
  blk_ext [(by decide +kernel : ∀ t : Fin cfg1.N, win1_8.index t = ![0, 0, 0])]

theorem blk1_9 : (blk1 V c 9 only : FVec Ideal S2x8x128 .f32) = V c (Pipeline.arrRef spec1 9) := by
  funext y
  show (V c (Pipeline.arrRef spec1 9) : FVec Ideal S2x8x128 .f32) (((cfg1.win 9).blk only).view.emb y) = _
  refine congrArg (V c (Pipeline.arrRef spec1 9) : FVec Ideal S2x8x128 .f32) ?_
  blk_ext [(by decide +kernel : ∀ t : Fin cfg1.N, win1_9.index t = ![0, 0, 0])]

theorem blk1_10 : (blk1 V c 10 only : FVec Ideal S2x8x128 .f32) = V c (Pipeline.arrRef spec1 10) := by
  funext y
  show (V c (Pipeline.arrRef spec1 10) : FVec Ideal S2x8x128 .f32) (((cfg1.win 10).blk only).view.emb y) = _
  refine congrArg (V c (Pipeline.arrRef spec1 10) : FVec Ideal S2x8x128 .f32) ?_
  blk_ext [(by decide +kernel : ∀ t : Fin cfg1.N, win1_10.index t = ![0, 0, 0])]

theorem final1_11 : (dat1 V c).arrAt 11 cfg1.N = left_fin V c only := by
  refine (dat1 V c).arrAt_eq_of_covers 11 _ (by decide +kernel) fun t hf y => ?_
  have ht : ((cfg1.win 11).blk t).view.emb y = (y : S2x8x128.Idx) := by
    blk_ext [(by decide +kernel : ∀ t : Fin cfg1.N, win1_11.index t = ![0, 0, 0])]
  rw [ht]
  obtain rfl : t = only := Subsingleton.elim (α := Fin 1) _ _
  exact congrFun (after1_11 V c only) y

theorem final1_12 : (dat1 V c).arrAt 12 cfg1.N = left_x1 V c only := by
  refine (dat1 V c).arrAt_eq_of_covers 12 _ (by decide +kernel) fun t hf y => ?_
  have ht : ((cfg1.win 12).blk t).view.emb y = (y : S2x8x128.Idx) := by
    blk_ext [(by decide +kernel : ∀ t : Fin cfg1.N, win1_12.index t = ![0, 0, 0])]
  rw [ht]
  obtain rfl : t = only := Subsingleton.elim (α := Fin 1) _ _
  exact congrFun (after1_12 V c only) y

theorem final1_13 : (dat1 V c).arrAt 13 cfg1.N = left_y1 V c only := by
  refine (dat1 V c).arrAt_eq_of_covers 13 _ (by decide +kernel) fun t hf y => ?_
  have ht : ((cfg1.win 13).blk t).view.emb y = (y : S2x8x128.Idx) := by
    blk_ext [(by decide +kernel : ∀ t : Fin cfg1.N, win1_13.index t = ![0, 0, 0])]
  rw [ht]
  obtain rfl : t = only := Subsingleton.elim (α := Fin 1) _ _
  exact congrFun (after1_13 V c only) y

theorem final1_14 : (dat1 V c).arrAt 14 cfg1.N = left_x2 V c only := by
  refine (dat1 V c).arrAt_eq_of_covers 14 _ (by decide +kernel) fun t hf y => ?_
  have ht : ((cfg1.win 14).blk t).view.emb y = (y : S2x8x128.Idx) := by
    blk_ext [(by decide +kernel : ∀ t : Fin cfg1.N, win1_14.index t = ![0, 0, 0])]
  rw [ht]
  obtain rfl : t = only := Subsingleton.elim (α := Fin 1) _ _
  exact congrFun (after1_14 V c only) y

theorem final1_15 : (dat1 V c).arrAt 15 cfg1.N = left_y2 V c only := by
  refine (dat1 V c).arrAt_eq_of_covers 15 _ (by decide +kernel) fun t hf y => ?_
  have ht : ((cfg1.win 15).blk t).view.emb y = (y : S2x8x128.Idx) := by
    blk_ext [(by decide +kernel : ∀ t : Fin cfg1.N, win1_15.index t = ![0, 0, 0])]
  rw [ht]
  obtain rfl : t = only := Subsingleton.elim (α := Fin 1) _ _
  exact congrFun (after1_15 V c only) y

end

end Cert.KernelIdeal.Run

end
-- ==== Proof.KLeft.lean ====
/- What the suppression region leaves at a candidate. -/
module

public import proofs.«01_k».proof.Proof.KHold
public import proofs.«01_k».proof.Proof.KArrays

@[expose] public section

set_option maxRecDepth 16384

noncomputable section

namespace Cert.KernelIdeal.Run

open Cert.KernelIdeal Cert.KernelIdeal.Gen
open Idealize.ShloMosaic Idealize.ShloMosaic.TcCoe

section

variable (V : (c : Dev nD) → (b : Ref sig .tc) → Buf (Elt Ideal) ((c : Thread nD τ).loc b)) (c : Dev nD) {cand : Fin 2 → Fin 1000 → Cand}

/-- The region's eleven arrays hold the candidates. -/
abbrev Given (cand : Fin 2 → Fin 1000 → Cand) : Prop :=
  Holds (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7))
    (V c (Pipeline.arrRef spec1 8)) (V c (Pipeline.arrRef spec1 9)) (V c (Pipeline.arrRef spec1 10)) cand

theorem first_reads (h : Given V c cand) : Reads (first V c only) (cand 0) := by
  unfold first
  rw [blk1_0, blk1_1, blk1_2, blk1_3, blk1_4, blk1_5, blk1_6, blk1_7, blk1_8, blk1_9, blk1_10]
  exact h.reads0

theorem second_reads (h : Given V c cand) : Reads (second V c only) (cand 1) := by
  unfold second
  rw [blk1_0, blk1_1, blk1_2, blk1_3, blk1_4, blk1_5, blk1_6, blk1_7, blk1_8, blk1_9, blk1_10]
  exact h.reads1

/-- A quantity of the rows that is a function of the candidates is stored as that function. -/
theorem left_cell (h : Given V c cand) (sel : Rows Ideal → FVec Ideal S8x128 .f32) (s : Fin 2 → Fin 1000 → EReal)
    (hs : ∀ (r : Rows Ideal) n j, Reads r (cand n) → sel r (cell j) = s n j) (n : Fin 2) (j : Fin 1000) :
    View.canon (both (sel (first V c only)) (sel (second V c only))) (ix3 n ⟨j.val / 128, by omega⟩ ⟨j.val % 128, by omega⟩) = s n j :=
  both_cell _ _ s (fun j => hs _ 0 j (first_reads V c h)) (fun j => hs _ 1 j (second_reads V c h)) n j

theorem left_fin_cell (h : Given V c cand) (s : Fin 2 → Fin 1000 → EReal) (hs : ∀ (r : Rows Ideal) n j, Reads r (cand n) → r.fin (cell j) = s n j)
    (n : Fin 2) (j : Fin 1000) : left_fin V c only (ix3 n ⟨j.val / 128, by omega⟩ ⟨j.val % 128, by omega⟩) = s n j := by
  unfold left_fin
  exact left_cell V c h Rows.fin s hs n j
theorem left_x1_cell (h : Given V c cand) (n : Fin 2) (j : Fin 1000) : left_x1 V c only (ix3 n ⟨j.val / 128, by omega⟩ ⟨j.val % 128, by omega⟩) = (cand n j).x1 := by
  unfold left_x1
  exact left_cell V c h Rows.x1 (fun n j => (cand n j).x1) (fun _ _ _ k => k.x1 _) n j
theorem left_y1_cell (h : Given V c cand) (n : Fin 2) (j : Fin 1000) : left_y1 V c only (ix3 n ⟨j.val / 128, by omega⟩ ⟨j.val % 128, by omega⟩) = (cand n j).y1 := by
  unfold left_y1
  exact left_cell V c h Rows.y1 (fun n j => (cand n j).y1) (fun _ _ _ k => k.y1 _) n j
theorem left_x2_cell (h : Given V c cand) (n : Fin 2) (j : Fin 1000) : left_x2 V c only (ix3 n ⟨j.val / 128, by omega⟩ ⟨j.val % 128, by omega⟩) = (cand n j).x2 := by
  unfold left_x2
  exact left_cell V c h Rows.x2 (fun n j => (cand n j).x2) (fun _ _ _ k => k.x2 _) n j
theorem left_y2_cell (h : Given V c cand) (n : Fin 2) (j : Fin 1000) : left_y2 V c only (ix3 n ⟨j.val / 128, by omega⟩ ⟨j.val % 128, by omega⟩) = (cand n j).y2 := by
  unfold left_y2
  exact left_cell V c h Rows.y2 (fun n j => (cand n j).y2) (fun _ _ _ k => k.y2 _) n j

end

section

variable (m : (ℓ : Loc nD τ sig) → Buf (Elt Ideal) ℓ) (c : Dev nD)

/-- What the suppression region finds. -/
abbrev found1 : (c : Dev nD) → (b : Ref sig .tc) → Buf (Elt Ideal) ((c : Thread nD τ).loc b) := fun c b => V27 m (o0 m) c (Proc.devRef .tc b)

theorem given : Given (found1 m) c (drawn (V2 m (o m) c)) := holds (V2 m (o m) c)

theorem v60_0_eq : V28 m (o m) c (Proc.devRef .tc main_v60_0) = left_fin (found1 m) c only := by
  rw [← left1, ← final1_11]
  exact Pipeline.afterRegion_arr (D1 m c) (V27 m (o0 m) c) launch1.win.arr_inj 11
theorem v60_1_eq : V28 m (o m) c (Proc.devRef .tc main_v60_1) = left_x1 (found1 m) c only := by
  rw [← left1, ← final1_12]
  exact Pipeline.afterRegion_arr (D1 m c) (V27 m (o0 m) c) launch1.win.arr_inj 12
theorem v60_2_eq : V28 m (o m) c (Proc.devRef .tc main_v60_2) = left_y1 (found1 m) c only := by
  rw [← left1, ← final1_13]
  exact Pipeline.afterRegion_arr (D1 m c) (V27 m (o0 m) c) launch1.win.arr_inj 13
theorem v60_3_eq : V28 m (o m) c (Proc.devRef .tc main_v60_3) = left_x2 (found1 m) c only := by
  rw [← left1, ← final1_14]
  exact Pipeline.afterRegion_arr (D1 m c) (V27 m (o0 m) c) launch1.win.arr_inj 14
theorem v60_4_eq : V28 m (o m) c (Proc.devRef .tc main_v60_4) = left_y2 (found1 m) c only := by
  rw [← left1, ← final1_15]
  exact Pipeline.afterRegion_arr (D1 m c) (V27 m (o0 m) c) launch1.win.arr_inj 15

theorem v11_through : V28 m (o m) c (Proc.devRef .tc main_v11) = (picked (V2 m (o m) c) main_v11 : IVec S2x1000 32) :=
  (V28_of m (o m) c main_v11 (by decide)).trans (spread_v11 (picked (V2 m (o m) c)))
theorem v12_through : V28 m (o m) c (Proc.devRef .tc main_v12) = (picked (V2 m (o m) c) main_v12 : IVec S2x1000 32) :=
  (V28_of m (o m) c main_v12 (by decide)).trans (spread_v12 (picked (V2 m (o m) c)))

end

end Cert.KernelIdeal.Run

end
-- ==== Proof.Last.lean ====
/- The hundred greatest, and what stands at their places. -/
module

public import proofs.«01_k».proof.Proof.Takes

@[expose] public section

set_option maxRecDepth 16384

noncomputable section

namespace Cert.Take

open Cert.ReferenceIdeal Cert.ReferenceIdeal.Gen
open Idealize.ShloMosaic Idealize.ShloMosaic.TcCoe

variable {F : FTy → Type} [FloatOps F]

/-- Whether each of a hundred indices lies below a thousand. -/
def inside100 (i : IVec S2x100x1 32) : IVec S2x100 1 :=
  Host.reduce IntOp.andi (andi (cmpi .sge i (broadcastInDim S2x100x1 ![] bcast_S_S2x100x1 (constantI S_ 32 0#32)))
    (cmpi .sle i (broadcastInDim S2x100x1 ![0, 1, 2] bcast_S1x1x1_S2x100x1_0_1_2 (broadcastInDim S1x1x1 ![2] bcast_S1_S1x1x1_2 (constantI S1 32 999#32)))))
    (constantI S_ 1 1#1) reducesTo_S2x100x1_S2x100_d2 h_S_

/-- The hundred greatest scores and their places. -/
def top100 (s : FVec F S2x1000 .f32) : FVec F S2x100 .f32 × IVec S2x100 32 :=
  Host.topK S2x100 1 (FloatOps.cmpfTotal (F := F) (φ := .f32) .gt) s sliceFits_S2x1000_S2x100

/-- An index list wrapped, as index vectors, from index vectors and from a list. -/
def wrapv100 (i : IVec S2x100x1 32) : IVec S2x100x1 32 :=
  select (cmpi .slt i (broadcastInDim S2x100x1 ![] bcast_S_S2x100x1 (constantI S_ 32 0#32)))
    (addi i (broadcastInDim S2x100x1 ![] bcast_S_S2x100x1 (constantI S_ 32 1000#32))) i
def wrap100 (i : IVec S2x100 32) : IVec S2x100 32 :=
  select (cmpi .slt i (broadcastInDim S2x100 ![] bcast_S_S2x100 (constantI S_ 32 0#32)))
    (addi i (broadcastInDim S2x100 ![] bcast_S_S2x100 (constantI S_ 32 1000#32))) i

/-- The boxes at the hundred places; -/
def box100 (x : FVec F S2x1000x4 .f32) (i : IVec S2x100x1 32) : FVec F S2x100x4 .f32 :=
  select (broadcastInDim S2x100x4 ![0, 1] bcast_S2x100_S2x100x4_0_1 (inside100 i))
    (Host.gather gather_S2x1000x4_S2x100x1_S2x100x4_2_1_0_0_1_2_114 x i)
    (broadcastInDim S2x100x4 ![] bcast_S_S2x100x4 (constant (F := F) S_ .f32 0x7FC00000#32))
/-- and the words. -/
def word100 (x : IVec S2x1000 32) (i : IVec S2x100x1 32) : IVec S2x100 32 :=
  select (inside100 i) (Host.gather gather_S2x1000_S2x100x1_S2x100_n_1_0_0_1_2_11 x i)
    (broadcastInDim S2x100 ![] bcast_S_S2x100 (constantI S_ 32 2147483648#32))

/-- The boxes and the words of the hundred greatest scores. -/
def boxes (s : FVec F S2x1000 .f32) (x : FVec F S2x1000x4 .f32) : FVec F S2x100x4 .f32 :=
  box100 x (wrapv100 (broadcastInDim S2x100x1 ![0, 1] bcast_S2x100_S2x100x1_0_1 (top100 s).2))
def words (s : FVec F S2x1000 .f32) (x : IVec S2x1000 32) : IVec S2x100 32 :=
  word100 x (shapeCast S2x100x1 (wrap100 (top100 s).2) shapeCasts_S2x100_S2x100x1)

end Cert.Take

end
-- ==== Proof.KEnd.lean ====
/- The kernel's results, of the arrays its second launch leaves. -/
module

public import proofs.«01_k».proof.Proof.Last
public import proofs.«01_k».proof.Proof.KRead

@[expose] public section

set_option maxRecDepth 16384

noncomputable section

namespace Cert.KernelIdeal.Run

open Cert.KernelIdeal Cert.KernelIdeal.Gen
open Idealize.ShloMosaic Idealize.ShloMosaic.TcCoe

variable (W : Valuation τ sig (Elt Ideal))

/-- The valuation after the last stretches. -/
abbrev closed : Valuation τ sig (Elt Ideal) := StableHlo.after hostOps2_3 (StableHlo.after hostOps2_2 (StableHlo.after hostOps2_1 W))

theorem values10_eq : StableHlo.after hostOps2 W (Proc.devRef .tc main_values_10) = ((Take.top100 (F := Ideal) (StableHlo.after hostOps2 W (Proc.devRef .tc main_v62) : FVec Ideal S2x1000 .f32)).1 : FVec Ideal S2x100 .f32) := by
  simp only [hostOps2]
  after_results_entrywise [cast_eq]

theorem indices11_eq : StableHlo.after hostOps2 W (Proc.devRef .tc main_indices_11) = ((Take.top100 (F := Ideal) (StableHlo.after hostOps2 W (Proc.devRef .tc main_v62) : FVec Ideal S2x1000 .f32)).2 : IVec S2x100 32) := by
  simp only [hostOps2]
  after_results_entrywise [cast_eq]

theorem v70_eq : StableHlo.after hostOps2 W (Proc.devRef .tc main_v70) = (broadcastInDim S2x100x1 ![0, 1] bcast_S2x100_S2x100x1_0_1 (Take.top100 (F := Ideal) (StableHlo.after hostOps2 W (Proc.devRef .tc main_v62) : FVec Ideal S2x1000 .f32)).2 : IVec S2x100x1 32) := by
  simp only [hostOps2]
  after_results_entrywise [cast_eq]

theorem v11_kept : StableHlo.after hostOps2 W (Proc.devRef .tc main_v11) = (W main_v11 : IVec S2x1000 32) := by
  simp only [hostOps2]
  after_results_entrywise [cast_eq]

theorem v12_kept : StableHlo.after hostOps2 W (Proc.devRef .tc main_v12) = (W main_v12 : IVec S2x1000 32) := by
  simp only [hostOps2]
  after_results_entrywise [cast_eq]

theorem v71_eq : closed W (Proc.devRef .tc main_v71) = (Take.box100 (F := Ideal) (W main_v69 : FVec Ideal S2x1000x4 .f32) (Take.wrapv100 (W main_v70 : IVec S2x100x1 32)) : FVec Ideal S2x100x4 .f32) := by
  simp only [closed, hostOps2_1, hostOps2_2, hostOps2_3]
  after_results_entrywise [cast_eq]

theorem values10_kept : closed W (Proc.devRef .tc main_values_10) = (W main_values_10 : FVec Ideal S2x100 .f32) := by
  simp only [closed, hostOps2_1, hostOps2_2, hostOps2_3]
  after_results_entrywise [cast_eq]

theorem v72_eq : closed W (Proc.devRef .tc main_v72) = (Take.word100 (W main_v11 : IVec S2x1000 32) (shapeCast S2x100x1 (Take.wrap100 (W main_indices_11 : IVec S2x100 32)) shapeCasts_S2x100_S2x100x1) : IVec S2x100 32) := by
  simp only [closed, hostOps2_1, hostOps2_2, hostOps2_3]
  after_results_entrywise [cast_eq]

theorem v73_eq : closed W (Proc.devRef .tc main_v73) = (Take.word100 (W main_v12 : IVec S2x1000 32) (shapeCast S2x100x1 (Take.wrap100 (W main_indices_11 : IVec S2x100 32)) shapeCasts_S2x100_S2x100x1) : IVec S2x100 32) := by
  simp only [closed, hostOps2_1, hostOps2_2, hostOps2_3]
  after_results_entrywise [cast_eq]

end Cert.KernelIdeal.Run

end
-- ==== Proof.RRows.lean ====
/- The reference's candidates before its loop, read entry by entry. -/
module

public import proofs.«01_k».proof.Proof.Chosen
public import proofs.«01_k».proof.Proof.RScore

@[expose] public section

set_option maxRecDepth 16384

noncomputable section

namespace Cert.ReferenceIdeal.Run

open Cert.ReferenceIdeal Cert.ReferenceIdeal.Gen
open Idealize.ShloMosaic Idealize.ShloMosaic.TcCoe

variable (W : Valuation τ sig (Elt Ideal))

theorem one_lit : lit 0x3F800000#32 = 1 := Ideal.ofBits_one_f32
theorem zero_lit : lit 0x00000000#32 = 0 := Ideal.ofBits_zero_f32

/-! ## The thousand greatest and what stands at their places -/

/-- The valuation after the top-k and the reads at its places. -/
abbrev gathered : Valuation τ sig (Elt Ideal) := StableHlo.after hostOps0_11 (StableHlo.after hostOps0_10 (StableHlo.after hostOps0_9 (StableHlo.after hostOps0_8 (StableHlo.after hostOps0_7 (StableHlo.after hostOps0_6 W)))))

theorem values_eq : gathered W (Proc.devRef .tc main_values) = ((Host.topK S2x1000 1 (FloatOps.cmpfTotal (F := Ideal) (φ := .f32) .gt) (W main_v29 : FVec Ideal S2x20000 .f32) sliceFits_S2x20000_S2x1000).1 : FVec Ideal S2x1000 .f32) := by
  simp only [gathered, hostOps0_6, hostOps0_7, hostOps0_8, hostOps0_9, hostOps0_10, hostOps0_11]
  after_results_entrywise [cast_eq]

theorem v30_eq : gathered W (Proc.devRef .tc main_v30) = (Take.loc (W main_arg0 : FVec Ideal S20000x2 .f32) (Take.vec (Take.wrap 20000#32 (Host.topK S2x1000 1 (FloatOps.cmpfTotal (F := Ideal) (φ := .f32) .gt) (W main_v29 : FVec Ideal S2x20000 .f32) sliceFits_S2x20000_S2x1000).2)) : FVec Ideal S2x1000x2 .f32) := by
  simp only [gathered, hostOps0_6, hostOps0_7, hostOps0_8, hostOps0_9, hostOps0_10, hostOps0_11]
  after_results_entrywise [cast_eq]

theorem v32_eq : gathered W (Proc.devRef .tc main_v32) = (Take.rows (W main_v9 : FVec Ideal S2x20000x4 .f32) (Take.wrapv 20000#32 (Take.vec (Host.topK S2x1000 1 (FloatOps.cmpfTotal (F := Ideal) (φ := .f32) .gt) (W main_v29 : FVec Ideal S2x20000 .f32) sliceFits_S2x20000_S2x1000).2)) : FVec Ideal S2x1000x4 .f32) := by
  simp only [gathered, hostOps0_6, hostOps0_7, hostOps0_8, hostOps0_9, hostOps0_10, hostOps0_11]
  after_results_entrywise [cast_eq]

theorem v33_eq : gathered W (Proc.devRef .tc main_v33) = (Take.one (W main_v25 : IVec S2x20000 32) (shapeCast S2x1000x1 (Take.wrap 20000#32 (Host.topK S2x1000 1 (FloatOps.cmpfTotal (F := Ideal) (φ := .f32) .gt) (W main_v29 : FVec Ideal S2x20000 .f32) sliceFits_S2x20000_S2x1000).2) Cert.KernelIdeal.Facts₀.shapeCasts_S2x1000_S2x1000x1) : IVec S2x1000 32) := by
  simp only [gathered, hostOps0_6, hostOps0_7, hostOps0_8, hostOps0_9, hostOps0_10, hostOps0_11]
  after_results_entrywise [cast_eq]

theorem v34_eq : gathered W (Proc.devRef .tc main_v34) = (Take.one (W main_v21 : IVec S2x20000 32) (shapeCast S2x1000x1 (Take.wrap 20000#32 (Host.topK S2x1000 1 (FloatOps.cmpfTotal (F := Ideal) (φ := .f32) .gt) (W main_v29 : FVec Ideal S2x20000 .f32) sliceFits_S2x20000_S2x1000).2) Cert.KernelIdeal.Facts₀.shapeCasts_S2x1000_S2x1000x1) : IVec S2x1000 32) := by
  simp only [gathered, hostOps0_6, hostOps0_7, hostOps0_8, hostOps0_9, hostOps0_10, hostOps0_11]
  after_results_entrywise [cast_eq]

theorem arg5_keep : gathered W (Proc.devRef .tc main_arg5) = (W main_arg5 : IVec S2x2 32) := by
  simp only [gathered, hostOps0_6, hostOps0_7, hostOps0_8, hostOps0_9, hostOps0_10, hostOps0_11]
  after_results_entrywise [cast_eq]

theorem row_at (i : IVec S2x1000 32) (n : Fin 2) (j : Fin 1000) : shapeCast S2x1000x1 i Cert.KernelIdeal.Facts₀.shapeCasts_S2x1000_S2x1000x1 (ix3 n j 0) = i (ix2 n j) := by
  pointwise

/-! ## Boxes, validity, offsets -/

/-- The valuation after the corners. -/
abbrev cornered : Valuation τ sig (Elt Ideal) := StableHlo.after hostOps0_19 (StableHlo.after hostOps0_18 (StableHlo.after hostOps0_17 (StableHlo.after hostOps0_16 (StableHlo.after hostOps0_15 (StableHlo.after hostOps0_14 (StableHlo.after hostOps0_13 (StableHlo.after hostOps0_12 W)))))))

/-- The candidates as these operations find them. -/
def found (n : Fin 2) (j : Fin 1000) : Cand where
  tv := (W main_values : FVec Ideal S2x1000 .f32) (ix2 n j)
  lx := (W main_v30 : FVec Ideal S2x1000x2 .f32) (ix3 n j 0)
  ly := (W main_v30 : FVec Ideal S2x1000x2 .f32) (ix3 n j 1)
  r0 := (W main_v32 : FVec Ideal S2x1000x4 .f32) (ix3 n j 0)
  r1 := (W main_v32 : FVec Ideal S2x1000x4 .f32) (ix3 n j 1)
  r2 := (W main_v32 : FVec Ideal S2x1000x4 .f32) (ix3 n j 2)
  r3 := (W main_v32 : FVec Ideal S2x1000x4 .f32) (ix3 n j 3)
  lab := (W main_v33 : IVec S2x1000 32) (ix2 n j)
  tag := (W main_v34 : IVec S2x1000 32) (ix2 n j)
  w := (W main_arg5 : IVec S2x2 32) (ix2 n 1)
  h := (W main_arg5 : IVec S2x2 32) (ix2 n 0)

theorem v46_at (n : Fin 2) (j : Fin 1000) : (cornered W (Proc.devRef .tc main_v46) : FVec Ideal S2x1000 .f32) (ix2 n j) = (found W n j).x1 := by
  simp only [cornered, hostOps0_12, hostOps0_13, hostOps0_14, hostOps0_15, hostOps0_16, hostOps0_17, hostOps0_18, hostOps0_19]
  after_reads_at
  refine Eq.trans ?_ ((min_comm _ _).trans (congrArg (min · _) (max_comm _ _)))
  rw [one_lit]
  rfl

theorem v54_at (n : Fin 2) (j : Fin 1000) : (cornered W (Proc.devRef .tc main_v54) : FVec Ideal S2x1000 .f32) (ix2 n j) = (found W n j).y1 := by
  simp only [cornered, hostOps0_12, hostOps0_13, hostOps0_14, hostOps0_15, hostOps0_16, hostOps0_17, hostOps0_18, hostOps0_19]
  after_reads_at
  refine Eq.trans ?_ ((min_comm _ _).trans (congrArg (min · _) (max_comm _ _)))
  rw [one_lit]
  rfl

theorem v62_at (n : Fin 2) (j : Fin 1000) : (cornered W (Proc.devRef .tc main_v62) : FVec Ideal S2x1000 .f32) (ix2 n j) = (found W n j).x2 := by
  simp only [cornered, hostOps0_12, hostOps0_13, hostOps0_14, hostOps0_15, hostOps0_16, hostOps0_17, hostOps0_18, hostOps0_19]
  after_reads_at
  refine Eq.trans ?_ ((min_comm _ _).trans (congrArg (min · _) (max_comm _ _)))
  rw [one_lit]
  rfl

theorem v70_at (n : Fin 2) (j : Fin 1000) : (cornered W (Proc.devRef .tc main_v70) : FVec Ideal S2x1000 .f32) (ix2 n j) = (found W n j).y2 := by
  simp only [cornered, hostOps0_12, hostOps0_13, hostOps0_14, hostOps0_15, hostOps0_16, hostOps0_17, hostOps0_18, hostOps0_19]
  after_reads_at
  refine Eq.trans ?_ ((min_comm _ _).trans (congrArg (min · _) (max_comm _ _)))
  rw [one_lit]
  rfl

theorem values_keep : cornered W (Proc.devRef .tc main_values) = (W main_values : FVec Ideal S2x1000 .f32) := by
  simp only [cornered, hostOps0_12, hostOps0_13, hostOps0_14, hostOps0_15, hostOps0_16, hostOps0_17, hostOps0_18, hostOps0_19]
  after_results_entrywise [cast_eq]

theorem v33_keep : cornered W (Proc.devRef .tc main_v33) = (W main_v33 : IVec S2x1000 32) := by
  simp only [cornered, hostOps0_12, hostOps0_13, hostOps0_14, hostOps0_15, hostOps0_16, hostOps0_17, hostOps0_18, hostOps0_19]
  after_results_entrywise [cast_eq]

theorem v34_keep : cornered W (Proc.devRef .tc main_v34) = (W main_v34 : IVec S2x1000 32) := by
  simp only [cornered, hostOps0_12, hostOps0_13, hostOps0_14, hostOps0_15, hostOps0_16, hostOps0_17, hostOps0_18, hostOps0_19]
  after_results_entrywise [cast_eq]

theorem v75_0 (n : Fin 2) (j : Fin 1000) : (StableHlo.after hostOps0_20 W (Proc.devRef .tc main_v75) : FVec Ideal S2x1000x4 .f32) (ix3 n j 0) = (W main_v46 : FVec Ideal S2x1000 .f32) (ix2 n j) := by
  simp only [hostOps0_20]
  after_reads_at
  simp only [StableHlo.upto, List.take_succ_cons, List.take_zero]
  after_reads_at

theorem v107_0 (n : Fin 2) (j : Fin 1000) : (StableHlo.after hostOps0_20 W (Proc.devRef .tc main_v107) : FVec Ideal S2x1000x4 .f32) (ix3 n j 0) = FloatOps.addf (F := Ideal) (φ := .f32) ((W main_v46 : FVec Ideal S2x1000 .f32) (ix2 n j))
    (num ((W main_v33 : IVec S2x1000 32) (ix2 n j)) * lit 0x47C35000#32 + num ((W main_v34 : IVec S2x1000 32) (ix2 n j)) * lit 0x461C4000#32) := by
  simp only [hostOps0_20]
  after_reads_at
  simp only [StableHlo.upto, List.take_succ_cons, List.take_zero]
  after_reads_at
  rfl

theorem v75_1 (n : Fin 2) (j : Fin 1000) : (StableHlo.after hostOps0_20 W (Proc.devRef .tc main_v75) : FVec Ideal S2x1000x4 .f32) (ix3 n j 1) = (W main_v54 : FVec Ideal S2x1000 .f32) (ix2 n j) := by
  simp only [hostOps0_20]
  after_reads_at
  simp only [StableHlo.upto, List.take_succ_cons, List.take_zero]
  after_reads_at

theorem v107_1 (n : Fin 2) (j : Fin 1000) : (StableHlo.after hostOps0_20 W (Proc.devRef .tc main_v107) : FVec Ideal S2x1000x4 .f32) (ix3 n j 1) = FloatOps.addf (F := Ideal) (φ := .f32) ((W main_v54 : FVec Ideal S2x1000 .f32) (ix2 n j))
    (num ((W main_v33 : IVec S2x1000 32) (ix2 n j)) * lit 0x47C35000#32 + num ((W main_v34 : IVec S2x1000 32) (ix2 n j)) * lit 0x461C4000#32) := by
  simp only [hostOps0_20]
  after_reads_at
  simp only [StableHlo.upto, List.take_succ_cons, List.take_zero]
  after_reads_at
  rfl

theorem v75_2 (n : Fin 2) (j : Fin 1000) : (StableHlo.after hostOps0_20 W (Proc.devRef .tc main_v75) : FVec Ideal S2x1000x4 .f32) (ix3 n j 2) = (W main_v62 : FVec Ideal S2x1000 .f32) (ix2 n j) := by
  simp only [hostOps0_20]
  after_reads_at
  simp only [StableHlo.upto, List.take_succ_cons, List.take_zero]
  after_reads_at

theorem v107_2 (n : Fin 2) (j : Fin 1000) : (StableHlo.after hostOps0_20 W (Proc.devRef .tc main_v107) : FVec Ideal S2x1000x4 .f32) (ix3 n j 2) = FloatOps.addf (F := Ideal) (φ := .f32) ((W main_v62 : FVec Ideal S2x1000 .f32) (ix2 n j))
    (num ((W main_v33 : IVec S2x1000 32) (ix2 n j)) * lit 0x47C35000#32 + num ((W main_v34 : IVec S2x1000 32) (ix2 n j)) * lit 0x461C4000#32) := by
  simp only [hostOps0_20]
  after_reads_at
  simp only [StableHlo.upto, List.take_succ_cons, List.take_zero]
  after_reads_at
  rfl

theorem v75_3 (n : Fin 2) (j : Fin 1000) : (StableHlo.after hostOps0_20 W (Proc.devRef .tc main_v75) : FVec Ideal S2x1000x4 .f32) (ix3 n j 3) = (W main_v70 : FVec Ideal S2x1000 .f32) (ix2 n j) := by
  simp only [hostOps0_20]
  after_reads_at
  simp only [StableHlo.upto, List.take_succ_cons, List.take_zero]
  after_reads_at

theorem v107_3 (n : Fin 2) (j : Fin 1000) : (StableHlo.after hostOps0_20 W (Proc.devRef .tc main_v107) : FVec Ideal S2x1000x4 .f32) (ix3 n j 3) = FloatOps.addf (F := Ideal) (φ := .f32) ((W main_v70 : FVec Ideal S2x1000 .f32) (ix2 n j))
    (num ((W main_v33 : IVec S2x1000 32) (ix2 n j)) * lit 0x47C35000#32 + num ((W main_v34 : IVec S2x1000 32) (ix2 n j)) * lit 0x461C4000#32) := by
  simp only [hostOps0_20]
  after_reads_at
  simp only [StableHlo.upto, List.take_succ_cons, List.take_zero]
  after_reads_at
  rfl

/-- Whether a box counts, as a bit. -/
def okBit (tv x1 y1 x2 y2 : EReal) : BitVec 1 :=
  IntOp.andi (IntOp.andi (Ideal.cmp .ogt tv (lit 0x00000000#32)) (Ideal.cmp .oge (x2 - x1 + lit 0x3F800000#32) (lit 0x00000000#32)))
    (Ideal.cmp .oge (y2 - y1 + lit 0x3F800000#32) (lit 0x00000000#32))

theorem v97_at (n : Fin 2) (j : Fin 1000) : (StableHlo.after hostOps0_20 W (Proc.devRef .tc main_v97) : IVec S2x1000 1) (ix2 n j)
    = okBit ((W main_values : FVec Ideal S2x1000 .f32) (ix2 n j)) ((W main_v46 : FVec Ideal S2x1000 .f32) (ix2 n j)) ((W main_v54 : FVec Ideal S2x1000 .f32) (ix2 n j)) ((W main_v62 : FVec Ideal S2x1000 .f32) (ix2 n j)) ((W main_v70 : FVec Ideal S2x1000 .f32) (ix2 n j)) := by
  simp only [hostOps0_20]
  after_reads_at
  simp only [StableHlo.upto, List.take_succ_cons, List.take_zero]
  after_reads_at
  unfold okBit
  rw [one_lit, zero_lit]
  rfl

end Cert.ReferenceIdeal.Run

end
-- ==== Proof.REnd.lean ====
/- The reference from its sort on: what enters the loop, and the results of what leaves it. -/
module

public import proofs.«01_k».proof.Proof.Last
public import proofs.«01_k».proof.Proof.RRows
public import proofs.«01_k».proof.Proof.Order
public import Idealize.ShloMosaic.Lib.ScatterToDense.RefScatter

@[expose] public section

set_option maxRecDepth 16384

noncomputable section

namespace Cert.ReferenceIdeal.Run

open Cert.ReferenceIdeal Cert.ReferenceIdeal.Gen
open Idealize.ShloMosaic Idealize.ShloMosaic.TcCoe

variable (W : Valuation τ sig (Elt Ideal))

/-- The valuation after the sort. -/
abbrev sorted : Valuation τ sig (Elt Ideal) := StableHlo.after hostOps0_23 (StableHlo.after hostOps0_22 (StableHlo.after hostOps0_21 W))

theorem cst_21_eq : StableHlo.after hostOps0_20 W (Proc.devRef .tc main_cst_21) = (constant (F := Ideal) S_ .f32 0xFF800000#32 : FVec Ideal S_ .f32) := by
  simp only [hostOps0_20]
  after_results_entrywise [cast_eq]

theorem values_keep20 : StableHlo.after hostOps0_20 W (Proc.devRef .tc main_values) = (W main_values : FVec Ideal S2x1000 .f32) := by
  simp only [hostOps0_20]
  after_results_entrywise [cast_eq]

theorem v33_keep20 : StableHlo.after hostOps0_20 W (Proc.devRef .tc main_v33) = (W main_v33 : IVec S2x1000 32) := by
  simp only [hostOps0_20]
  after_results_entrywise [cast_eq]

theorem v34_keep20 : StableHlo.after hostOps0_20 W (Proc.devRef .tc main_v34) = (W main_v34 : IVec S2x1000 32) := by
  simp only [hostOps0_20]
  after_results_entrywise [cast_eq]

/-- The sort's keys. -/
def keys : FVec Ideal S2x1000 .f32 :=
  Host.negf (F := Ideal) (φ := .f32) (select (W main_v97 : IVec S2x1000 1) (W main_values : FVec Ideal S2x1000 .f32) (broadcastInDim S2x1000 ![] bcast_S_S2x1000 (W main_cst_21 : FVec Ideal S_ .f32)))

theorem v110_eq : sorted W (Proc.devRef .tc main_v110) = ((Host.sort2 S2x1000 1 (comparator_f32_i32_d1 (F := Ideal)) (keys W) (iotaInDim S2x1000 32 1)).2 : IVec S2x1000 32) := by
  simp only [sorted, hostOps0_21, hostOps0_22, hostOps0_23]
  after_results_entrywise [cast_eq]

theorem v107_sorted : sorted W (Proc.devRef .tc main_v107) = (W main_v107 : FVec Ideal S2x1000x4 .f32) := by
  simp only [sorted, hostOps0_21, hostOps0_22, hostOps0_23]
  after_results_entrywise [cast_eq]

theorem v75_sorted : sorted W (Proc.devRef .tc main_v75) = (W main_v75 : FVec Ideal S2x1000x4 .f32) := by
  simp only [sorted, hostOps0_21, hostOps0_22, hostOps0_23]
  after_results_entrywise [cast_eq]

theorem v97_sorted : sorted W (Proc.devRef .tc main_v97) = (W main_v97 : IVec S2x1000 1) := by
  simp only [sorted, hostOps0_21, hostOps0_22, hostOps0_23]
  after_results_entrywise [cast_eq]

theorem values_sorted : sorted W (Proc.devRef .tc main_values) = (W main_values : FVec Ideal S2x1000 .f32) := by
  simp only [sorted, hostOps0_21, hostOps0_22, hostOps0_23]
  after_results_entrywise [cast_eq]

theorem v33_sorted : sorted W (Proc.devRef .tc main_v33) = (W main_v33 : IVec S2x1000 32) := by
  simp only [sorted, hostOps0_21, hostOps0_22, hostOps0_23]
  after_results_entrywise [cast_eq]

theorem v34_sorted : sorted W (Proc.devRef .tc main_v34) = (W main_v34 : IVec S2x1000 32) := by
  simp only [sorted, hostOps0_21, hostOps0_22, hostOps0_23]
  after_results_entrywise [cast_eq]

/-- The valuation after the boxes are put in order. -/
abbrev ordered : Valuation τ sig (Elt Ideal) := StableHlo.after hostOps0_25 (StableHlo.after hostOps0_24 W)

theorem v112_eq : ordered W (Proc.devRef .tc main_v112) = (Take.perm (W main_v107 : FVec Ideal S2x1000x4 .f32) (Take.wrapv 1000#32 (Take.vec (W main_v110 : IVec S2x1000 32))) : FVec Ideal S2x1000x4 .f32) := by
  simp only [ordered, hostOps0_24, hostOps0_25]
  after_results_entrywise [cast_eq]

theorem v110_ordered : StableHlo.after hostOps0_26 (ordered W) (Proc.devRef .tc main_v110) = (W main_v110 : IVec S2x1000 32) := by
  simp only [ordered, hostOps0_24, hostOps0_25, hostOps0_26]
  after_results_entrywise [cast_eq]

theorem v75_ordered : StableHlo.after hostOps0_26 (ordered W) (Proc.devRef .tc main_v75) = (W main_v75 : FVec Ideal S2x1000x4 .f32) := by
  simp only [ordered, hostOps0_24, hostOps0_25, hostOps0_26]
  after_results_entrywise [cast_eq]

theorem v97_ordered : StableHlo.after hostOps0_26 (ordered W) (Proc.devRef .tc main_v97) = (W main_v97 : IVec S2x1000 1) := by
  simp only [ordered, hostOps0_24, hostOps0_25, hostOps0_26]
  after_results_entrywise [cast_eq]

theorem values_ordered : StableHlo.after hostOps0_26 (ordered W) (Proc.devRef .tc main_values) = (W main_values : FVec Ideal S2x1000 .f32) := by
  simp only [ordered, hostOps0_24, hostOps0_25, hostOps0_26]
  after_results_entrywise [cast_eq]

theorem v33_ordered : StableHlo.after hostOps0_26 (ordered W) (Proc.devRef .tc main_v33) = (W main_v33 : IVec S2x1000 32) := by
  simp only [ordered, hostOps0_24, hostOps0_25, hostOps0_26]
  after_results_entrywise [cast_eq]

theorem v34_ordered : StableHlo.after hostOps0_26 (ordered W) (Proc.devRef .tc main_v34) = (W main_v34 : IVec S2x1000 32) := by
  simp only [ordered, hostOps0_24, hostOps0_25, hostOps0_26]
  after_results_entrywise [cast_eq]

theorem v130_0_eq : StableHlo.after hostOps0_26 W (Proc.devRef .tc main_v130_0) = (W main_v112 : FVec Ideal S2x1000x4 .f32) := by
  simp only [hostOps0_26]
  after_results_entrywise [cast_eq]

theorem v130_2_eq : StableHlo.after hostOps0_26 W (Proc.devRef .tc main_v130_2) = (iotaInDim S1000 32 0 : IVec S1000 32) := by
  simp only [hostOps0_26]
  after_results_entrywise [cast_eq]

theorem v130_4_eq : StableHlo.after hostOps0_26 W (Proc.devRef .tc main_v130_4) = (constantI S_ 32 0#32 : IVec S_ 32) := by
  simp only [hostOps0_26]
  after_results_entrywise [cast_eq]

theorem v130_5_eq : StableHlo.after hostOps0_26 W (Proc.devRef .tc main_v130_5) = (broadcastInDim S2x1000 ![] bcast_S_S2x1000 (constantI S_ 1 1#1) : IVec S2x1000 1) := by
  simp only [hostOps0_26]
  after_results_entrywise [cast_eq]

/-- The area of a box given by its corners. -/
def areaOf (x1 y1 x2 y2 : EReal) : EReal := (x2 - x1 + lit 0x3F800000#32) * (y2 - y1 + lit 0x3F800000#32)

theorem v130_1_at (n : Fin 2) (j : Fin 1000) : (StableHlo.after hostOps0_26 W (Proc.devRef .tc main_v130_1) : FVec Ideal S2x1000 .f32) (ix2 n j)
    = areaOf ((W main_v112 : FVec Ideal S2x1000x4 .f32) (ix3 n j 0)) ((W main_v112 : FVec Ideal S2x1000x4 .f32) (ix3 n j 1)) ((W main_v112 : FVec Ideal S2x1000x4 .f32) (ix3 n j 2)) ((W main_v112 : FVec Ideal S2x1000x4 .f32) (ix3 n j 3)) := by
  simp only [hostOps0_26]
  after_reads_at
  unfold areaOf
  rfl

/-! ## After the loop -/

/-- The index pairs the flags are sent to: the image, and the place the sort drew from. -/
def pairs (i : IVec S2x1000 32) : IVec S2x1000x2 32 :=
  concatenate S2x1000x2 2 [⟨S2x1000x1, broadcastInDim S2x1000x1 ![0, 1] bcast_S2x1000_S2x1000x1_0_1 (broadcastInDim S2x1000 ![0, 1] bcast_S2x1_S2x1000_0_1
      (select (cmpi .slt (broadcastInDim S2x1 ![0] bcast_S2_S2x1_0 (iotaInDim S2 32 0)) (broadcastInDim S2x1 ![] bcast_S_S2x1 (constantI S_ 32 0#32)))
        (addi (broadcastInDim S2x1 ![0] bcast_S2_S2x1_0 (iotaInDim S2 32 0)) (broadcastInDim S2x1 ![] bcast_S_S2x1 (constantI S_ 32 2#32)))
        (broadcastInDim S2x1 ![0] bcast_S2_S2x1_0 (iotaInDim S2 32 0))))⟩,
    ⟨S2x1000x1, broadcastInDim S2x1000x1 ![0, 1] bcast_S2x1000_S2x1000x1_0_1 (Take.wrap 1000#32 i)⟩] concatenates_S2x1000x1_S2x1000x1_S2x1000x2_d2

theorem pairs_0 (i : IVec S2x1000 32) (n : Fin 2) (j : Fin 1000) : pairs i (ix3 n j 0) = BitVec.ofNat 32 n.val := by
  unfold pairs
  pointwise
  revert n
  decide

theorem pairs_1 (i : IVec S2x1000 32) (n : Fin 2) (j : Fin 1000) : pairs i (ix3 n j 1) = Take.wrap 1000#32 i (ix2 n j) := by
  unfold pairs
  pointwise

theorem v149_eq : StableHlo.after hostOps0_27 W (Proc.devRef .tc main_v149) = (andi (Host.scatter scatter_S2x1000_S2x1000x2_S2x1000_n_01_01_2 (fun _ b => b) (broadcastInDim S2x1000 ![] bcast_S_S2x1000 (constantI S_ 1 0#1)) (pairs (W main_v110 : IVec S2x1000 32)) (W main_v130_5 : IVec S2x1000 1)) (W main_v97 : IVec S2x1000 1) : IVec S2x1000 1) := by
  simp only [hostOps0_27]
  after_results_entrywise [cast_eq]

theorem cst_32_eq : StableHlo.after hostOps0_27 W (Proc.devRef .tc main_cst_32) = (constant (F := Ideal) S_ .f32 0xBF800000#32 : FVec Ideal S_ .f32) := by
  simp only [hostOps0_27]
  after_results_entrywise [cast_eq]

theorem v75_kept : StableHlo.after hostOps0_27 W (Proc.devRef .tc main_v75) = (W main_v75 : FVec Ideal S2x1000x4 .f32) := by
  simp only [hostOps0_27]
  after_results_entrywise [cast_eq]

theorem values_kept : StableHlo.after hostOps0_27 W (Proc.devRef .tc main_values) = (W main_values : FVec Ideal S2x1000 .f32) := by
  simp only [hostOps0_27]
  after_results_entrywise [cast_eq]

theorem v33_kept : StableHlo.after hostOps0_27 W (Proc.devRef .tc main_v33) = (W main_v33 : IVec S2x1000 32) := by
  simp only [hostOps0_27]
  after_results_entrywise [cast_eq]

theorem v34_kept : StableHlo.after hostOps0_27 W (Proc.devRef .tc main_v34) = (W main_v34 : IVec S2x1000 32) := by
  simp only [hostOps0_27]
  after_results_entrywise [cast_eq]

/-- The valuation at the end. -/
abbrev closed : Valuation τ sig (Elt Ideal) := StableHlo.after hostOps0_32 (StableHlo.after hostOps0_31 (StableHlo.after hostOps0_30 (StableHlo.after hostOps0_29 (StableHlo.after hostOps0_28 W))))

/-- The scores of what is kept and counts, minus one elsewhere. -/
def finals : FVec Ideal S2x1000 .f32 :=
  select (W main_v149 : IVec S2x1000 1) (W main_values : FVec Ideal S2x1000 .f32) (broadcastInDim S2x1000 ![] bcast_S_S2x1000 (W main_cst_32 : FVec Ideal S_ .f32))

theorem values33_eq : closed W (Proc.devRef .tc main_values_33) = ((Take.top100 (F := Ideal) (finals W)).1 : FVec Ideal S2x100 .f32) := by
  simp only [closed, hostOps0_28, hostOps0_29, hostOps0_30, hostOps0_31, hostOps0_32]
  after_results_entrywise [cast_eq]

theorem v152_eq : closed W (Proc.devRef .tc main_v152) = (Take.boxes (F := Ideal) (finals W) (W main_v75 : FVec Ideal S2x1000x4 .f32) : FVec Ideal S2x100x4 .f32) := by
  simp only [closed, hostOps0_28, hostOps0_29, hostOps0_30, hostOps0_31, hostOps0_32]
  after_results_entrywise [cast_eq]

theorem v153_eq : closed W (Proc.devRef .tc main_v153) = (Take.words (F := Ideal) (finals W) (W main_v33 : IVec S2x1000 32) : IVec S2x100 32) := by
  simp only [closed, hostOps0_28, hostOps0_29, hostOps0_30, hostOps0_31, hostOps0_32]
  after_results_entrywise [cast_eq]

theorem v154_eq : closed W (Proc.devRef .tc main_v154) = (Take.words (F := Ideal) (finals W) (W main_v34 : IVec S2x1000 32) : IVec S2x100 32) := by
  simp only [closed, hostOps0_28, hostOps0_29, hostOps0_30, hostOps0_31, hostOps0_32]
  after_results_entrywise [cast_eq]

end Cert.ReferenceIdeal.Run

end
-- ==== Proof.RLoop.lean ====
/- The reference's loop: one trip at an index, and the thousand trips as a greedy run. -/
module

public import proofs.«01_k».proof.Proof.Greedy
public import proofs.«01_k».proof.Proof.RRows

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe

/-- A non-negative counter, wrapped, is itself. -/
theorem wrapped (v : IVec S_ 32) (k : ℕ) (hk : k < 1000) (hv : v = fun _ => BitVec.ofNat 32 k) :
    (select (cmpi .slt v (constantI S_ 32 0#32)) (addi (id v) (constantI S_ 32 1000#32)) v) (Shape.Idx.first h_S_) = BitVec.ofNat 32 k := by
  subst hv
  show Scalar.select (IntOp.cmpi .slt (BitVec.ofNat 32 k) 0#32) _ (BitVec.ofNat 32 k) = _
  exact Take.wrap_small k (by omega) _

theorem small (k : ℕ) (hk : k < 1000) : (min (max (BitVec.ofNat 32 k).toInt 0) ((999 : ℕ) : ℤ)).toNat = k := by
  rw [Take.toInt_small k (by omega)]
  omega

/-- The slice at the counter of a two by thousand array; -/
theorem slice2_at {α : Type} (x : S2x1000.Idx → α) (v : IVec S_ 32) (k : ℕ) (hk : k < 1000) (hv : v = fun _ => BitVec.ofNat 32 k) (n : Fin 2) :
    Host.dynamicSlice S2x1 x (fun a => (((![constantI S_ 32 0#32, select (cmpi .slt v (constantI S_ 32 0#32)) (addi (id v) (constantI S_ 32 1000#32)) v] : Fin 2 → (⟨S_, .i32⟩ : BufTy).Contents (Elt Ideal))) a (Shape.Idx.first h_S_)).toInt) sliceFits_S2x1000_S2x1 (ix2 n 0)
      = x (ix2 n ⟨k, hk⟩) := by
  have w := wrapped v k hk hv
  refine congrArg x (funext fun a => Fin.ext ?_)
  match a with
  | ⟨0, _⟩ => exact Nat.zero_add _
  | ⟨1, _⟩ =>
    show (min (max ((select (cmpi .slt v (constantI S_ 32 0#32)) (addi (id v) (constantI S_ 32 1000#32)) v) (Shape.Idx.first h_S_)).toInt 0) ((999 : ℕ) : ℤ)).toNat + 0 = k
    rw [w, small k hk, Nat.add_zero]

/-- and of the boxes. -/
theorem slice3_at (V : Valuation τ sig (Elt Ideal)) (k : ℕ) (hk : k < 1000) (hv : (V main_v130_4 : IVec S_ 32) = fun _ => BitVec.ofNat 32 k) (n : Fin 2) (d : Fin 4) :
    (res_main_while0b_v156 V : FVec Ideal S2x1x4 .f32) (ix3 n 0 d) = (V main_v130_0 : FVec Ideal S2x1000x4 .f32) (ix3 n ⟨k, hk⟩ d) := by
  have w := wrapped _ k hk hv
  unfold res_main_while0b_v156
  refine congrArg (V main_v130_0 : FVec Ideal S2x1000x4 .f32) (funext fun a => Fin.ext ?_)
  match a with
  | ⟨0, _⟩ => exact Nat.zero_add _
  | ⟨1, _⟩ =>
    show (min (max ((select (cmpi .slt (V main_v130_4 : IVec S_ 32) (constantI S_ 32 0#32)) (addi (id (V main_v130_4 : IVec S_ 32)) (constantI S_ 32 1000#32)) (V main_v130_4 : IVec S_ 32)) (Shape.Idx.first h_S_)).toInt 0) ((999 : ℕ) : ℤ)).toNat + 0 = k
    rw [w, small k hk, Nat.add_zero]
  | ⟨2, _⟩ => exact Nat.zero_add _

/-- The shared area of the counter's box and box `j`. -/
theorem inter_at (V : Valuation τ sig (Elt Ideal)) (k : ℕ) (hk : k < 1000) (hv : (V main_v130_4 : IVec S_ 32) = fun _ => BitVec.ofNat 32 k) (n : Fin 2) (j : Fin 1000)
    (c d : Cand) (B : FVec Ideal S2x1000x4 .f32) (hB : V main_v130_0 = B)
    (hc : B (ix3 n ⟨k, hk⟩ 0) = c.bx1 ∧ B (ix3 n ⟨k, hk⟩ 1) = c.by1 ∧ B (ix3 n ⟨k, hk⟩ 2) = c.bx2 ∧ B (ix3 n ⟨k, hk⟩ 3) = c.by2)
    (hd : B (ix3 n j 0) = d.bx1 ∧ B (ix3 n j 1) = d.by1 ∧ B (ix3 n j 2) = d.bx2 ∧ B (ix3 n j 3) = d.by2) :
    (res_main_while0b_v191 V : FVec Ideal S2x1000 .f32) (ix2 n j) = Cand.inter c d := by
  obtain ⟨c0, c1, c2, c3⟩ := hc
  obtain ⟨d0, d1, d2, d3⟩ := hd
  have s := slice3_at V k hk hv n
  rw [hB] at s
  unfold res_main_while0b_v191
  generalize (res_main_while0b_v156 V : FVec Ideal S2x1x4 .f32) = P at s ⊢
  have p0 : broadcastInDim S2x1000 ![0, 1] bcast_S2x1_S2x1000_0_1 (shapeCast S2x1 (extractStridedSlice S2x1x1 ![0, 0, 0] P slices_S2x1x4_S2x1x1_0_0_0) shapeCasts_S2x1x1_S2x1) (ix2 n j) = P (ix3 n 0 0) := by pointwise
  have p1 : broadcastInDim S2x1000 ![0, 1] bcast_S2x1_S2x1000_0_1 (shapeCast S2x1 (extractStridedSlice S2x1x1 ![0, 0, 1] P slices_S2x1x4_S2x1x1_0_0_1) shapeCasts_S2x1x1_S2x1) (ix2 n j) = P (ix3 n 0 1) := by pointwise
  have p2 : broadcastInDim S2x1000 ![0, 1] bcast_S2x1_S2x1000_0_1 (shapeCast S2x1 (extractStridedSlice S2x1x1 ![0, 0, 2] P slices_S2x1x4_S2x1x1_0_0_2) shapeCasts_S2x1x1_S2x1) (ix2 n j) = P (ix3 n 0 2) := by pointwise
  have p3 : broadcastInDim S2x1000 ![0, 1] bcast_S2x1_S2x1000_0_1 (shapeCast S2x1 (extractStridedSlice S2x1x1 ![0, 0, 3] P slices_S2x1x4_S2x1x1_0_0_3) shapeCasts_S2x1x1_S2x1) (ix2 n j) = P (ix3 n 0 3) := by pointwise
  have b0 : shapeCast S2x1000 (extractStridedSlice S2x1000x1 ![0, 0, 0] B slices_S2x1000x4_S2x1000x1_0_0_0) shapeCasts_S2x1000x1_S2x1000 (ix2 n j) = B (ix3 n j 0) := by pointwise
  have b1 : shapeCast S2x1000 (extractStridedSlice S2x1000x1 ![0, 0, 1] B slices_S2x1000x4_S2x1000x1_0_0_1) shapeCasts_S2x1000x1_S2x1000 (ix2 n j) = B (ix3 n j 1) := by pointwise
  have b2 : shapeCast S2x1000 (extractStridedSlice S2x1000x1 ![0, 0, 2] B slices_S2x1000x4_S2x1000x1_0_0_2) shapeCasts_S2x1000x1_S2x1000 (ix2 n j) = B (ix3 n j 2) := by pointwise
  have b3 : shapeCast S2x1000 (extractStridedSlice S2x1000x1 ![0, 0, 3] B slices_S2x1000x4_S2x1000x1_0_0_3) shapeCasts_S2x1000x1_S2x1000 (ix2 n j) = B (ix3 n j 3) := by pointwise
  rw [s, c0] at p0
  rw [s, c1] at p1
  rw [s, c2] at p2
  rw [s, c3] at p3
  rw [d0] at b0
  rw [d1] at b1
  rw [d2] at b2
  rw [d3] at b3
  unfold Cand.inter Cand.span
  rw [← p0, ← p1, ← p2, ← p3, ← b0, ← b1, ← b2, ← b3, ← hB]
  rfl

/-- The loop's carried arrays for image `n`: the boxes and areas of the candidates `c`, their numbers, and the counter. -/
structure Carried (V : Valuation τ sig (Elt Ideal)) (k : ℕ) (n : Fin 2) (c : Fin 1000 → Cand) : Prop where
  bx1 : ∀ p, (V main_v130_0 : FVec Ideal S2x1000x4 .f32) (ix3 n p 0) = (c p).bx1
  by1 : ∀ p, (V main_v130_0 : FVec Ideal S2x1000x4 .f32) (ix3 n p 1) = (c p).by1
  bx2 : ∀ p, (V main_v130_0 : FVec Ideal S2x1000x4 .f32) (ix3 n p 2) = (c p).bx2
  by2 : ∀ p, (V main_v130_0 : FVec Ideal S2x1000x4 .f32) (ix3 n p 3) = (c p).by2
  area : ∀ p, (V main_v130_1 : FVec Ideal S2x1000 .f32) (ix2 n p) = (c p).area
  number : ∀ p, (V main_v130_2 : IVec S1000 32) (ix1 p) = BitVec.ofNat 32 p.val
  counter : (V main_v130_4 : IVec S_ 32) = fun _ => BitVec.ofNat 32 k

open scoped Classical in
/-- One trip: a candidate stays kept unless the counter's own, kept, comes before it and hits it. -/
theorem flag_at (V : Valuation τ sig (Elt Ideal)) (k : ℕ) (hk : k < 1000) (n : Fin 2) (c : Fin 1000 → Cand) (h : Carried V k n c) (j : Fin 1000) :
    (step_main_v130_5 V : IVec S2x1000 1) (ix2 n j)
      = IntOp.andi ((V main_v130_5 : IVec S2x1000 1) (ix2 n j))
          (~~~(IntOp.andi (IntOp.andi (BitVec.ofBool (decide (Cand.hits (c ⟨k, hk⟩) (c j)))) (BitVec.ofBool (decide (k < j.val)))) ((V main_v130_5 : IVec S2x1000 1) (ix2 n ⟨k, hk⟩)))) := by
  have hi := inter_at V k hk h.counter n j (c ⟨k, hk⟩) (c j) _ rfl ⟨h.bx1 _, h.by1 _, h.bx2 _, h.by2 _⟩ ⟨h.bx1 _, h.by1 _, h.bx2 _, h.by2 _⟩
  have hA := h.area
  have hN := h.number
  have hC := h.counter
  have sA := slice2_at (V main_v130_1 : FVec Ideal S2x1000 .f32) _ k hk hC n
  have sK := slice2_at (V main_v130_5 : IVec S2x1000 1) _ k hk hC n
  unfold step_main_v130_5
  generalize (res_main_while0b_v191 V : FVec Ideal S2x1000 .f32) = I at hi ⊢
  generalize Host.dynamicSlice S2x1 (V main_v130_1 : FVec Ideal S2x1000 .f32) _ _ = a at sA ⊢
  generalize Host.dynamicSlice S2x1 (V main_v130_5 : IVec S2x1000 1) _ _ = q at sK ⊢
  generalize (V main_v130_1 : FVec Ideal S2x1000 .f32) = A at hA sA ⊢
  generalize (V main_v130_5 : IVec S2x1000 1) = K at sK ⊢
  generalize (V main_v130_2 : IVec S1000 32) = N at hN ⊢
  generalize (V main_v130_4 : IVec S_ 32) = C at hC ⊢
  subst hC
  have eA : broadcastInDim S2x1000 ![0, 1] bcast_S2x1_S2x1000_0_1 a (ix2 n j) = (c ⟨k, hk⟩).area := by
    rw [← hA, ← sA]; pointwise
  have eK : broadcastInDim S2x1000 ![0, 1] bcast_S2x1_S2x1000_0_1 q (ix2 n j) = K (ix2 n ⟨k, hk⟩) := by
    rw [← sK]; pointwise
  have eN : ∀ x : IVec S1000 1, broadcastInDim S2x1000 ![0, 1] bcast_S1x1000_S2x1000_0_1 (broadcastInDim S1x1000 ![1] bcast_S1000_S1x1000_1 x) (ix2 n j) = x (ix1 j) := fun x => by pointwise
  let g : IVec S1000 32 := broadcastInDim S1000 ![] bcast_S_S1000 (show IVec S_ 32 from id fun _ => BitVec.ofNat 32 k)
  show IntOp.andi (K (ix2 n j)) (~~~(IntOp.andi (IntOp.andi (Ideal.cmp .ogt (Ideal.div (I (ix2 n j)) (FloatOps.subf (F := Ideal) (φ := .f32) (FloatOps.addf (F := Ideal) (φ := .f32) (broadcastInDim S2x1000 ![0, 1] bcast_S2x1_S2x1000_0_1 a (ix2 n j)) (A (ix2 n j))) (I (ix2 n j)))) (lit 0x3F000000#32))
    (broadcastInDim S2x1000 ![0, 1] bcast_S1x1000_S2x1000_0_1 (broadcastInDim S1x1000 ![1] bcast_S1000_S1x1000_1 (cmpi .sgt N g)) (ix2 n j))) (broadcastInDim S2x1000 ![0, 1] bcast_S2x1_S2x1000_0_1 q (ix2 n j)))) = _
  rw [eA, eK, eN, hi, hA]
  have e2 : cmpi .sgt N g (ix1 j) = BitVec.ofBool (decide (k < j.val)) := by
    show IntOp.cmpi .sgt (N (ix1 j)) (BitVec.ofNat 32 k) = _
    rw [hN]
    have hj := j.isLt
    simp only [IntOp.cmpi, BitVec.slt, Take.toInt_small k (by omega), Take.toInt_small j.val (by omega), Nat.cast_lt]
  have e3 : BitVec.ofBool (decide (Cand.hits (c ⟨k, hk⟩) (c j))) = Ideal.cmp .ogt (Ideal.div (Cand.inter (c ⟨k, hk⟩) (c j)) ((c ⟨k, hk⟩).area + (c j).area - Cand.inter (c ⟨k, hk⟩) (c j))) (lit 0x3F000000#32) :=
    congrArg BitVec.ofBool (decide_eq_decide.mpr Iff.rfl)
  rw [e2, e3]
  rfl

/-- A trip keeps what is carried and moves the counter on. -/
theorem carried_step (V : Valuation τ sig (Elt Ideal)) (k : ℕ) (n : Fin 2) (c : Fin 1000 → Cand) (h : Carried V k n c) : Carried (STEP V) (k + 1) n c where
  bx1 := by rw [STEP_main_v130_0]; exact h.bx1
  by1 := by rw [STEP_main_v130_0]; exact h.by1
  bx2 := by rw [STEP_main_v130_0]; exact h.bx2
  by2 := by rw [STEP_main_v130_0]; exact h.by2
  area := by rw [STEP_main_v130_1]; exact h.area
  number := by rw [STEP_main_v130_2]; exact h.number
  counter := by
    rw [STEP_main_v130_4, step_main_v130_4, h.counter]
    funext _
    exact (BitVec.ofNat_add k 1).symm

theorem carried_iterate (V : Valuation τ sig (Elt Ideal)) (n : Fin 2) (c : Fin 1000 → Cand) (h : Carried V 0 n c) : ∀ k, Carried (STEP^[k] V) k n c
  | 0 => h
  | k + 1 => by rw [Function.iterate_succ_apply']; exact carried_step _ _ _ _ (carried_iterate V n c h k)

theorem bit_step (a b : BitVec 1) (p q : Prop) [Decidable p] [Decidable q] :
    IntOp.andi a (~~~(IntOp.andi (IntOp.andi (BitVec.ofBool (decide p)) (BitVec.ofBool (decide q))) b)) = 1#1 ↔ a = 1#1 ∧ ¬ (p ∧ q ∧ b = 1#1) := by
  have hb : ∀ x : BitVec 1, x = 0#1 ∨ x = 1#1 := by decide
  by_cases hp : p <;> by_cases hq : q <;> rcases hb a with rfl | rfl <;> rcases hb b with rfl | rfl <;> simp [hp, hq, IntOp.andi]

theorem flag_iff (V : Valuation τ sig (Elt Ideal)) (k : ℕ) (hk : k < 1000) (n : Fin 2) (c : Fin 1000 → Cand) (h : Carried V k n c) (j : Fin 1000) :
    (STEP V main_v130_5 : IVec S2x1000 1) (ix2 n j) = 1#1
      ↔ (V main_v130_5 : IVec S2x1000 1) (ix2 n j) = 1#1
        ∧ ¬ (Cand.hits (c ⟨k, hk⟩) (c j) ∧ k < j.val ∧ (V main_v130_5 : IVec S2x1000 1) (ix2 n ⟨k, hk⟩) = 1#1) := by
  classical
  rw [STEP_main_v130_5, flag_at V k hk n c h j]
  exact bit_step _ _ _ _

/-- The flags after each trip are those of a greedy run over the candidates in the loop's order. -/
theorem flags_run (V : Valuation τ sig (Elt Ideal)) (n : Fin 2) (c : Fin 1000 → Cand) (h : Carried V 0 n c) (h1 : ∀ j, (V main_v130_5 : IVec S2x1000 1) (ix2 n j) = 1#1) :
    Greedy.Run 1000 (fun p q => Cand.hits (c p) (c q)) (fun k j => ((STEP^[k] V) main_v130_5 : IVec S2x1000 1) (ix2 n j) = 1#1) where
  start := h1
  step t j := by
    have e := flag_iff (STEP^[t.val] V) t.val t.isLt n c (carried_iterate V n c h t.val) j
    have f : STEP^[t.val + 1] V = STEP (STEP^[t.val] V) := Function.iterate_succ_apply' _ _ _
    rw [← f] at e
    exact e

end Cert.ReferenceIdeal.Run

end
-- ==== Proof.RFinal.lean ====
/- The reference's final scores, of the candidates found: kept by the greedy run, and counting. -/
module

public import proofs.«01_k».proof.Proof.REnd
public import proofs.«01_k».proof.Proof.RLoop
public import proofs.«01_k».proof.Proof.Suppress
public import proofs.«01_k».proof.Proof.Best

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe

/-- Flags sent back by a permutation: the place a flag was drawn from reads that flag. -/
theorem placed_at (i : IVec S2x1000 32) (o : Fin 2 → Fin 1000 → Fin 1000) (ho : ∀ n, Function.Injective (o n)) (hi : ∀ n j, i (ix2 n j) = BitVec.ofNat 32 (o n j).val)
    (x K : IVec S2x1000 1) (hx : ∀ y, x y = 0#1) (n : Fin 2) (p : Fin 1000) :
    Host.scatter scatter_S2x1000_S2x1000x2_S2x1000_n_01_01_2 (fun _ b => b) x (pairs i) K (ix2 n (o n p)) = K (ix2 n p) := by
  have e := ScatterToDense.scatter_eq_dense (T := 2) (C := 1000) (K := 1000) (by omega) scatter_S2x1000_S2x1000x2_S2x1000_n_01_01_2 rfl rfl rfl (by omega) (by omega)
    x (pairs i) K i K 0#1 hx (fun a b => pairs_0 i a b)
    (fun a b c hc => by
      have w : pairs i (ix3 a b 1) = i (ix2 a b) := by rw [pairs_1, Take.wrap_at 1000#32 i (o a b).val (by omega) a b (hi a b), hi]
      exact iff_of_eq (congrArg (fun z : BitVec 32 => c = z.toNat) w)) (fun _ _ => rfl) (ix2 n (o n p))
  have small : ∀ q : Fin 1000, (BitVec.ofNat 32 q.val).toNat = q.val := fun q => by rw [BitVec.toNat_ofNat]; omega
  rw [e]
  rcases ScatterToDense.dense_lastWinsU (C := 1000) (by omega) i K 0#1 n (o n p) with ⟨t, a, _, c⟩ | ⟨a, _⟩
  · have a' : (o n p).val = (i (ix2 n t)).toNat := a
    rw [hi, small] at a'
    have : t = p := ho n (Fin.ext a'.symm)
    exact c.trans (congrArg (fun q => K (ix2 n q)) this)
  · have a' : (o n p).val ≠ (i (ix2 n p)).toNat := a p
    exact absurd (by rw [hi, small]) a'

variable (G : Valuation τ sig (Elt Ideal))

/-- What enters the loop, of the valuation after the reads at the thousand places. -/
abbrev marked : Valuation τ sig (Elt Ideal) := StableHlo.after hostOps0_20 (cornered G)
abbrev entered : Valuation τ sig (Elt Ideal) := StableHlo.after hostOps0_26 (ordered (sorted (marked G)))

theorem ok_at (n : Fin 2) (j : Fin 1000) : (marked G main_v97 : IVec S2x1000 1) (ix2 n j) = 1#1 ↔ (found G n j).valid := by
  refine (iff_of_eq (congrArg (· = 1#1) (v97_at (cornered G) n j))).trans ?_
  rw [v46_at, v54_at, v62_at, v70_at, values_keep]
  have hl : lit 0x3F800000#32 = 1 := one_lit
  have hz : lit 0x00000000#32 = 0 := zero_lit
  have ht : (found G n j).tv = (G main_values : FVec Ideal S2x1000 .f32) (ix2 n j) := rfl
  rw [← ht]
  generalize found G n j = c
  unfold okBit Cand.valid
  rw [hl, hz]
  have hb : ∀ p q : Prop, ∀ [Decidable p] [Decidable q], IntOp.andi (BitVec.ofBool (decide p)) (BitVec.ofBool (decide q)) = BitVec.ofBool (decide (p ∧ q)) := by
    intro p q _ _
    by_cases hp : p <;> by_cases hq : q <;> simp [hp, hq, IntOp.andi]
  simp only [Ideal.cmp, hb]
  have hd : ∀ p : Prop, ∀ [Decidable p], BitVec.ofBool (decide p) = 1#1 ↔ p := by
    intro p _
    by_cases hp : p <;> simp [hp]
  rw [hd]
  exact and_assoc

theorem key_at (n : Fin 2) (j : Fin 1000) [Decidable (found G n j).valid] :
    (keys (marked G) (ix2 n j) : EReal) = if (found G n j).valid then -(found G n j).tv else ⊤ := by
  have h := ok_at G n j
  have hv : (marked G main_values : FVec Ideal S2x1000 .f32) (ix2 n j) = (found G n j).tv := by
    unfold marked
    rw [values_keep20, values_keep]; rfl
  have hc : marked G main_cst_21 = (constant (F := Ideal) S_ .f32 0xFF800000#32 : FVec Ideal S_ .f32) := cst_21_eq (cornered G)
  have e : (keys (marked G) (ix2 n j) : EReal) = -(Scalar.select ((marked G main_v97 : IVec S2x1000 1) (ix2 n j)) ((marked G main_values : FVec Ideal S2x1000 .f32) (ix2 n j))
      (broadcastInDim S2x1000 ![] bcast_S_S2x1000 (marked G main_cst_21 : FVec Ideal S_ .f32) (ix2 n j)) : EReal) := rfl
  rw [e, hv, hc]
  have eb : (broadcastInDim S2x1000 ![] bcast_S_S2x1000 (constant (F := Ideal) S_ .f32 0xFF800000#32) (ix2 n j) : EReal) = lit 0xFF800000#32 := rfl
  rw [eb, Best.lit_bot]
  by_cases hh : (found G n j).valid
  · rw [h.mpr hh, if_pos hh]; rfl
  · have : (marked G main_v97 : IVec S2x1000 1) (ix2 n j) = 0#1 := by
      have hb : ∀ x : BitVec 1, x ≠ 1#1 → x = 0#1 := by decide
      exact hb _ fun q => hh (h.mp q)
    rw [this, if_neg hh]
    exact EReal.neg_bot

/-- The order the sort puts the candidates in. -/
abbrev place (n : Fin 2) : Fin 1000 → Fin 1000 := Order.order (keys (marked G)) n

theorem place_word (n : Fin 2) (j : Fin 1000) : (sorted (marked G) main_v110 : IVec S2x1000 32) (ix2 n j) = BitVec.ofNat 32 (place G n j).val := by
  rw [v110_eq]
  exact Order.argsort_at _ n j

theorem place_first (n : Fin 2) (p q : Fin 1000) (h : p < q) (hq : (found G n (place G n q)).valid) : (found G n (place G n p)).valid := by
  classical
  by_contra hp
  have s := Order.sorted_place (fun k => (keys (marked G) (ix2 n k) : EReal)) p q h
  have kp := key_at G n (place G n p)
  have kq := key_at G n (place G n q)
  rw [if_neg hp] at kp
  rw [if_pos hq] at kq
  rcases s with s | ⟨s, _⟩
  · exact absurd (lt_of_eq_of_lt kp.symm s) not_top_lt
  · have e : -(found G n (place G n q)).tv = ⊤ := kq.symm.trans (s.symm.trans kp)
    have hb : (found G n (place G n q)).tv = ⊥ := EReal.neg_eq_top_iff.mp e
    have := hq.1
    rw [hb] at this
    exact absurd this not_lt_bot

theorem place_mono (n : Fin 2) (desc : ∀ p q : Fin 1000, p < q → (found G n q).tv ≤ (found G n p).tv) (p q : Fin 1000) (h : p < q)
    (hp : (found G n (place G n p)).valid) (hq : (found G n (place G n q)).valid) : place G n p < place G n q := by
  classical
  have s := Order.sorted_place (fun k => (keys (marked G) (ix2 n k) : EReal)) p q h
  have kp := key_at G n (place G n p)
  have kq := key_at G n (place G n q)
  rw [if_pos hp] at kp
  rw [if_pos hq] at kq
  rcases s with s | ⟨_, s⟩
  · have l : -(found G n (place G n p)).tv < -(found G n (place G n q)).tv := by
      rw [← kp, ← kq]; exact s
    have l' := EReal.neg_lt_neg_iff.mp l
    rcases lt_trichotomy (place G n p) (place G n q) with g | g | g
    · exact g
    · rw [g] at l'; exact absurd l' (lt_irrefl _)
    · exact absurd (desc _ _ g) (not_le.mpr l')
  · exact s

theorem place_surjective (n : Fin 2) : Function.Surjective (place G n) := sortedFrom_surjective _
theorem place_injective (n : Fin 2) : Function.Injective (place G n) := sortedFrom_injective _

theorem box_sorted (n : Fin 2) (j : Fin 1000) (k : Fin 4) :
    (ordered (sorted (marked G)) main_v112 : FVec Ideal S2x1000x4 .f32) (ix3 n j k) = (marked G main_v107 : FVec Ideal S2x1000x4 .f32) (ix3 n (place G n j) k) := by
  rw [v112_eq, Take.perm_at _ _ (place G n j).val (place G n j).isLt n j k
    (Take.wrapv_at 1000#32 _ (place G n j).val (by omega) n j (by rw [Take.vec_at]; exact place_word G n j)), v107_sorted]

theorem box_0 (n : Fin 2) (j : Fin 1000) : (marked G main_v107 : FVec Ideal S2x1000x4 .f32) (ix3 n j 0) = (found G n j).bx1 := by
  unfold marked
  rw [v107_0, v46_at, v33_keep, v34_keep]; rfl
theorem box_1 (n : Fin 2) (j : Fin 1000) : (marked G main_v107 : FVec Ideal S2x1000x4 .f32) (ix3 n j 1) = (found G n j).by1 := by
  unfold marked
  rw [v107_1, v54_at, v33_keep, v34_keep]; rfl
theorem box_2 (n : Fin 2) (j : Fin 1000) : (marked G main_v107 : FVec Ideal S2x1000x4 .f32) (ix3 n j 2) = (found G n j).bx2 := by
  unfold marked
  rw [v107_2, v62_at, v33_keep, v34_keep]; rfl
theorem box_3 (n : Fin 2) (j : Fin 1000) : (marked G main_v107 : FVec Ideal S2x1000x4 .f32) (ix3 n j 3) = (found G n j).by2 := by
  unfold marked
  rw [v107_3, v70_at, v33_keep, v34_keep]; rfl

/-- What the loop carries at first: the candidates in the sort's order. -/
theorem carried (n : Fin 2) : Carried (entered G) 0 n (fun p => found G n (place G n p)) where
  bx1 p := by unfold entered; rw [v130_0_eq, box_sorted, box_0]
  by1 p := by unfold entered; rw [v130_0_eq, box_sorted, box_1]
  bx2 p := by unfold entered; rw [v130_0_eq, box_sorted, box_2]
  by2 p := by unfold entered; rw [v130_0_eq, box_sorted, box_3]
  area p := by unfold entered; rw [v130_1_at, box_sorted, box_sorted, box_sorted, box_sorted, box_0, box_1, box_2, box_3]; rfl
  number p := by unfold entered; rw [v130_2_eq]; rfl
  counter := by unfold entered; rw [v130_4_eq]; rfl

/-- What is kept and counts. -/
def survives (n : Fin 2) (j : Fin 1000) : Prop := Cert.KernelIdeal.Run.KeptAt (found G n) 1000 j ∧ (found G n j).valid

theorem keeps_same (n : Fin 2) (desc : ∀ p q : Fin 1000, p < q → (found G n q).tv ≤ (found G n p).tv) (p : Fin 1000) (hp : (found G n (place G n p)).valid) :
    Cert.KernelIdeal.Run.KeptAt (found G n) 1000 (place G n p) ↔ ((STEP^[1000] (entered G)) main_v130_5 : IVec S2x1000 1) (ix2 n p) = 1#1 :=
  Greedy.agree (valid := fun j => (found G n j).valid) (hits := fun i j => Cand.hits (found G n i) (found G n j)) (place G n) (place_surjective G n) (place_first G n) (place_mono G n desc)
    (Cert.KernelIdeal.Run.keptAt_run (found G n))
    (flags_run (entered G) n _ (carried G n) fun j => by unfold entered; rw [v130_5_eq]; rfl) p hp

/-- The reference's final scores. -/
theorem finals_at (Z : Valuation τ sig (Elt Ideal)) (h5 : Z main_v130_5 = (STEP^[1000] (entered G)) main_v130_5)
    (h110 : Z main_v110 = entered G main_v110) (h97 : Z main_v97 = entered G main_v97) (hv : Z main_values = entered G main_values)
    (n : Fin 2) (desc : ∀ p q : Fin 1000, p < q → (found G n q).tv ≤ (found G n p).tv) (j : Fin 1000) [Decidable (survives G n j)] :
    (finals (StableHlo.after hostOps0_27 Z) (ix2 n j) : EReal) = if survives G n j then (found G n j).tv else lit 0xBF800000#32 := by
  obtain ⟨p, rfl⟩ := place_surjective G n j
  have hK := keeps_same G n desc p
  unfold entered at h110 h97 hv
  rw [v110_ordered] at h110
  rw [v97_ordered, v97_sorted] at h97
  unfold marked at hv
  rw [values_ordered, values_sorted, values_keep20, values_keep] at hv
  have e : (finals (StableHlo.after hostOps0_27 Z) (ix2 n (place G n p)) : EReal)
      = Scalar.select ((StableHlo.after hostOps0_27 Z main_v149 : IVec S2x1000 1) (ix2 n (place G n p))) ((StableHlo.after hostOps0_27 Z main_values : FVec Ideal S2x1000 .f32) (ix2 n (place G n p)))
        (broadcastInDim S2x1000 ![] bcast_S_S2x1000 (StableHlo.after hostOps0_27 Z main_cst_32 : FVec Ideal S_ .f32) (ix2 n (place G n p)) : EReal) := rfl
  rw [e, v149_eq, values_kept, cst_32_eq, h5, h110, h97, hv]
  have hs := placed_at (sorted (marked G) main_v110 : IVec S2x1000 32) (place G) (place_injective G) (place_word G) (broadcastInDim S2x1000 ![] bcast_S_S2x1000 (constantI S_ 1 0#1))
    ((STEP^[1000] (entered G)) main_v130_5 : IVec S2x1000 1) (fun _ => rfl) n p
  have e2 : ∀ a b : IVec S2x1000 1, andi a b (ix2 n (place G n p)) = IntOp.andi (a (ix2 n (place G n p))) (b (ix2 n (place G n p))) := fun _ _ => rfl
  rw [e2, hs]
  have ho := ok_at G n (place G n p)
  generalize ((STEP^[1000] (entered G)) main_v130_5 : IVec S2x1000 1) (ix2 n p) = a at hK ⊢
  generalize (marked G main_v97 : IVec S2x1000 1) (ix2 n (place G n p)) = b at ho ⊢
  have hb : ∀ x y : BitVec 1, IntOp.andi x y = if x = 1#1 ∧ y = 1#1 then 1#1 else 0#1 := by decide
  rw [hb]
  have hS : survives G n (place G n p) ↔ a = 1#1 ∧ b = 1#1 := by
    unfold survives
    constructor
    · exact fun ⟨x, y⟩ => ⟨(hK y).mp x, ho.mpr y⟩
    · exact fun ⟨x, y⟩ => ⟨(hK (ho.mp y)).mpr x, ho.mp y⟩
  by_cases h : survives G n (place G n p)
  · rw [if_pos h, if_pos (hS.mp h)]; rfl
  · rw [if_neg h, if_neg fun q => h (hS.mpr q)]; rfl

end Cert.ReferenceIdeal.Run

end
-- ==== Proof.RValue.lean ====
/- The reference's results, of its arguments. -/
module

public import proofs.«01_k».proof.Proof.RFinal
public import proofs.«01_k».proof.Proof.RefRun

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe
open Idealize.ShloMosaic.StableHlo (atTrip atTrip_succ launchContents entryContents finalContents afterL afterL_cons afterL_nil)

/-! ## The scored valuation's other buffers -/

section Scored
variable (W : Valuation τ sig (Elt Ideal))

theorem v9_at (n : Fin 2) (p : Fin 20000) (k : Fin 4) : (scored W main_v9 : FVec Ideal S2x20000x4 .f32) (ix3 n p k)
    = (W main_arg2 : FVec Ideal S2x4x100x200 .f32) (ix4 n k ⟨p.val / 200, by omega⟩ ⟨p.val % 200, by omega⟩) := by
  simp only [scored, late, middle, early, hostOps0, hostOps0_1, hostOps0_2, hostOps0_3, hostOps0_4, hostOps0_5]
  after_reads_at

theorem arg0_scored : scored W (Proc.devRef .tc main_arg0) = (W main_arg0 : FVec Ideal S20000x2 .f32) := by
  simp only [scored, late, middle, early, hostOps0, hostOps0_1, hostOps0_2, hostOps0_3, hostOps0_4, hostOps0_5]
  after_results_entrywise [cast_eq]

theorem arg5_scored : scored W (Proc.devRef .tc main_arg5) = (W main_arg5 : IVec S2x2 32) := by
  simp only [scored, late, middle, early, hostOps0, hostOps0_1, hostOps0_2, hostOps0_3, hostOps0_4, hostOps0_5]
  after_results_entrywise [cast_eq]

end Scored

section Cells
variable (S : Valuation τ sig (Elt Ideal))

/-- The place a candidate is drawn from. -/
abbrev spot (n : Fin 2) (j : Fin 1000) : Fin 20000 := Order.top (S main_v29 : FVec Ideal S2x20000 .f32) n j

theorem top_word (n : Fin 2) (j : Fin 1000) :
    (Host.topK S2x1000 1 (FloatOps.cmpfTotal (F := Ideal) (φ := .f32) .gt) (S main_v29 : FVec Ideal S2x20000 .f32) sliceFits_S2x20000_S2x1000).2 (ix2 n j)
      = BitVec.ofNat 32 (spot S n j).val := Order.topK_ix _ _ n j

theorem top_wrap (n : Fin 2) (j : Fin 1000) :
    Take.wrap 20000#32 (Host.topK S2x1000 1 (FloatOps.cmpfTotal (F := Ideal) (φ := .f32) .gt) (S main_v29 : FVec Ideal S2x20000 .f32) sliceFits_S2x20000_S2x1000).2 (ix2 n j)
      = BitVec.ofNat 32 (spot S n j).val := Take.wrap_at _ _ _ (spot S n j).isLt n j (top_word S n j)

theorem v30_cell (n : Fin 2) (j : Fin 1000) (k : Fin 2) : (gathered S main_v30 : FVec Ideal S2x1000x2 .f32) (ix3 n j k) = (S main_arg0 : FVec Ideal S20000x2 .f32) (ix2 (spot S n j) k) := by
  rw [v30_eq]
  have h := (Take.vec_at _ n j).trans (top_wrap S n j)
  generalize spot S n j = q at h ⊢
  exact Take.loc_at _ _ q.val q.isLt n j k h

theorem v32_cell (n : Fin 2) (j : Fin 1000) (k : Fin 4) : (gathered S main_v32 : FVec Ideal S2x1000x4 .f32) (ix3 n j k) = (S main_v9 : FVec Ideal S2x20000x4 .f32) (ix3 n (spot S n j) k) := by
  rw [v32_eq]
  have h := (Take.vec_at _ n j).trans (top_word S n j)
  generalize spot S n j = q at h ⊢
  exact Take.rows_at _ _ q.val q.isLt n j k (Take.wrapv_at _ _ q.val q.isLt n j h)

theorem v33_cell (n : Fin 2) (j : Fin 1000) : (gathered S main_v33 : IVec S2x1000 32) (ix2 n j) = (S main_v25 : IVec S2x20000 32) (ix2 n (spot S n j)) := by
  rw [v33_eq]
  have h := (row_at _ n j).trans (top_wrap S n j)
  generalize spot S n j = q at h ⊢
  exact Take.one_at _ _ q.val q.isLt n j h
theorem v34_cell (n : Fin 2) (j : Fin 1000) : (gathered S main_v34 : IVec S2x1000 32) (ix2 n j) = (S main_v21 : IVec S2x20000 32) (ix2 n (spot S n j)) := by
  rw [v34_eq]
  have h := (row_at _ n j).trans (top_wrap S n j)
  generalize spot S n j = q at h ⊢
  exact Take.one_at _ _ q.val q.isLt n j h

theorem values_cell (n : Fin 2) (j : Fin 1000) : (gathered S main_values : FVec Ideal S2x1000 .f32) (ix2 n j) = (S main_v29 : FVec Ideal S2x20000 .f32) (ix2 n (spot S n j)) := by
  rw [values_eq]
  exact Order.topK_val _ _ n j

variable (a0 : FVec Ideal S20000x2 .f32) (a2 : FVec Ideal S2x4x100x200 .f32) (a5 : IVec S2x2 32)

/-- The candidates of the scores and the arguments. -/
abbrev cand (n : Fin 2) (j : Fin 1000) : Cand := chosen (S main_v29) (S main_v25) (S main_v21) a0 a2 a5 n j

variable (h0 : S main_arg0 = a0) (h5 : S main_arg5 = a5)
  (h9 : ∀ (n : Fin 2) (p : Fin 20000) (k : Fin 4), (S main_v9 : FVec Ideal S2x20000x4 .f32) (ix3 n p k) = a2 (ix4 n k ⟨p.val / 200, by omega⟩ ⟨p.val % 200, by omega⟩))

include h0 h5 h9 in
/-- The candidates found are those of the arguments. -/
theorem found_cand (n : Fin 2) (j : Fin 1000) : found (gathered S) n j = cand S a0 a2 a5 n j := by
  unfold found cand chosen
  rw [values_cell, v30_cell, v30_cell, v32_cell, v32_cell, v32_cell, v32_cell, v33_cell, v34_cell, arg5_keep, h0, h5, h9, h9, h9, h9]

theorem found_desc (n : Fin 2) (p q : Fin 1000) (h : p < q) : (found (gathered S) n q).tv ≤ (found (gathered S) n p).tv := by
  have e : ∀ j, (found (gathered S) n j).tv = (S main_v29 : FVec Ideal S2x20000 .f32) (ix2 n (spot S n j)) := fun j => values_cell S n j
  rw [e, e]
  exact Order.top_desc _ n p q h

theorem corner_0 (n : Fin 2) (j : Fin 1000) : (marked (gathered S) main_v75 : FVec Ideal S2x1000x4 .f32) (ix3 n j 0) = (found (gathered S) n j).x1 := by
  unfold marked
  rw [v75_0, v46_at]
theorem corner_1 (n : Fin 2) (j : Fin 1000) : (marked (gathered S) main_v75 : FVec Ideal S2x1000x4 .f32) (ix3 n j 1) = (found (gathered S) n j).y1 := by
  unfold marked
  rw [v75_1, v54_at]
theorem corner_2 (n : Fin 2) (j : Fin 1000) : (marked (gathered S) main_v75 : FVec Ideal S2x1000x4 .f32) (ix3 n j 2) = (found (gathered S) n j).x2 := by
  unfold marked
  rw [v75_2, v62_at]
theorem corner_3 (n : Fin 2) (j : Fin 1000) : (marked (gathered S) main_v75 : FVec Ideal S2x1000x4 .f32) (ix3 n j 3) = (found (gathered S) n j).y2 := by
  unfold marked
  rw [v75_3, v70_at]

end Cells

/-! ## Through the loop -/

/-- Buffers the loop does not write. -/
abbrev waist : List (Ref sig .tc) := [main_v110, main_v97, main_values, main_v75, main_v33, main_v34]

theorem waist_cond {r : Ref sig .tc} (hr : r ∈ waist) : Off (F := Ideal) r [condOps] :=
  .cons condOps_W condOps_writes (by revert r; decide) (.nil r)

theorem waist_body {r : Ref sig .tc} (hr : r ∈ waist) : Off (F := Ideal) r bodyI :=
  .cons while0Ops0_W while0Ops0_writes (by revert r; decide) <|
  .cons while0Ops0_1_W while0Ops0_1_writes (by revert r; decide) <|
  .cons while0Ops0_2_W while0Ops0_2_writes (by revert r; decide) <|
  .cons while0Ops0_3_W while0Ops0_3_writes (by revert r; decide) <|
  .cons while0Ops0_4_W while0Ops0_4_writes (by revert r; decide) <|
  .cons while0Ops0_5_W while0Ops0_5_writes (by revert r; decide) <|
  .cons while0Ops0_6_W while0Ops0_6_writes (by revert r; decide) <| .nil r

theorem waist_trips {r : Ref sig .tc} (hr : r ∈ waist) (W : Dev nD → Valuation τ sig (Elt Ideal)) (c : Dev nD) :
    ∀ k, atTrip condOps bodyI W k c (Proc.devRef .tc r) = W c (Proc.devRef .tc r)
  | 0 => rfl
  | k + 1 => by
    rw [atTrip_succ, (waist_body hr).keeps]
    exact ((waist_cond hr).keeps _).trans (waist_trips hr W c k)

variable (m : (ℓ : Loc nD τ sig) → Buf (Elt Ideal) ℓ) (c : Dev nD)

/-- The arguments' valuation, that after the reads, and that after the loop. -/
abbrev W0 : Valuation τ sig (Elt Ideal) := launchContents m c
abbrev G0 : Valuation τ sig (Elt Ideal) := gathered (scored (W0 m c))
def Z0 : Valuation τ sig (Elt Ideal) := StableHlo.after condOps (atTrip condOps bodyI (entryContents preI m) 1000 c)

theorem entry_eq : entryContents preI m c = entered (G0 m c) := by
  simp only [entryContents, afterL_cons, afterL_nil]

theorem Z0_waist {r : Ref sig .tc} (hr : r ∈ waist) : Z0 m c (Proc.devRef .tc r) = entered (G0 m c) (Proc.devRef .tc r) := by
  rw [← entry_eq]
  exact ((waist_cond hr).keeps _).trans (waist_trips hr _ c 1000)

theorem Z0_flags : Z0 m c main_v130_5 = (STEP^[1000] (entered (G0 m c))) main_v130_5 := by
  rw [← entry_eq]
  exact (cond_keeps _ main_v130_5 (by decide)).trans (atK_agree m c 1000 main_v130_5 (by decide))

/-- The reference's final scores. -/
def score0 : FVec Ideal S2x1000 .f32 := finals (StableHlo.after hostOps0_27 (Z0 m c))

/-- The arguments' candidates. -/
def cand0 (n : Fin 2) (j : Fin 1000) : Cand :=
  chosen (scored (W0 m c) main_v29) (scored (W0 m c) main_v25) (scored (W0 m c) main_v21) (W0 m c main_arg0) (W0 m c main_arg2) (W0 m c main_arg5) n j

theorem found0 (n : Fin 2) (j : Fin 1000) : found (G0 m c) n j = cand0 m c n j :=
  found_cand (scored (W0 m c)) _ _ _ (arg0_scored _) (arg5_scored _) (v9_at _) n j

theorem score0_at (n : Fin 2) (j : Fin 1000) [Decidable (Cert.KernelIdeal.Run.KeptAt (cand0 m c n) 1000 j ∧ (cand0 m c n j).valid)] :
    (score0 m c (ix2 n j) : EReal) = if Cert.KernelIdeal.Run.KeptAt (cand0 m c n) 1000 j ∧ (cand0 m c n j).valid then (cand0 m c n j).tv else lit 0xBF800000#32 := by
  classical
  have e := finals_at (G0 m c) (Z0 m c) (Z0_flags m c) (Z0_waist m c (by decide)) (Z0_waist m c (by decide)) (Z0_waist m c (by decide)) n (found_desc (scored (W0 m c)) n) j
  unfold survives at e
  have hf : found (G0 m c) n = cand0 m c n := funext fun j => found0 m c n j
  rw [hf] at e
  refine e.trans ?_
  congr 1

theorem last_eq : last m c = closed (StableHlo.after hostOps0_27 (Z0 m c)) := by
  unfold Z0
  simp only [finalContents, afterL_cons, afterL_nil]

theorem v75_loop : Z0 m c main_v75 = marked (G0 m c) main_v75 := by
  refine (Z0_waist m c (r := main_v75) (by decide)).trans ?_
  unfold entered
  rw [v75_ordered, v75_sorted]
theorem v33_loop : Z0 m c main_v33 = G0 m c main_v33 := by
  refine (Z0_waist m c (r := main_v33) (by decide)).trans ?_
  unfold entered marked
  rw [v33_ordered, v33_sorted, v33_keep20, v33_keep]
theorem v34_loop : Z0 m c main_v34 = G0 m c main_v34 := by
  refine (Z0_waist m c (r := main_v34) (by decide)).trans ?_
  unfold entered marked
  rw [v34_ordered, v34_sorted, v34_keep20, v34_keep]

/-- The four results. -/
theorem result0 : last m c (Proc.devRef .tc main_v152) = (Take.boxes (F := Ideal) (score0 m c) (marked (G0 m c) main_v75 : FVec Ideal S2x1000x4 .f32) : FVec Ideal S2x100x4 .f32) := by
  rw [last_eq, v152_eq, v75_kept, v75_loop]; rfl
theorem result1 : last m c (Proc.devRef .tc main_values_33) = ((Take.top100 (F := Ideal) (score0 m c)).1 : FVec Ideal S2x100 .f32) := by
  rw [last_eq, values33_eq]; rfl
theorem result2 : last m c (Proc.devRef .tc main_v153) = (Take.words (F := Ideal) (score0 m c) (G0 m c main_v33 : IVec S2x1000 32) : IVec S2x100 32) := by
  rw [last_eq, v153_eq, v33_kept, v33_loop]; rfl
theorem result3 : last m c (Proc.devRef .tc main_v154) = (Take.words (F := Ideal) (score0 m c) (G0 m c main_v34 : IVec S2x1000 32) : IVec S2x100 32) := by
  rw [last_eq, v154_eq, v34_kept, v34_loop]; rfl

end Cert.ReferenceIdeal.Run

end
-- ==== Proof.KValue.lean ====
/- The kernel program's four results are the reference's. -/
module

public import proofs.«01_k».proof.Proof.KSame
public import proofs.«01_k».proof.Proof.KLeft
public import proofs.«01_k».proof.Proof.KEnd
public import proofs.«01_k».proof.Proof.RValue

@[expose] public section

set_option maxRecDepth 16384

noncomputable section

namespace Cert.KernelIdeal.Run

open Cert.KernelIdeal Cert.KernelIdeal.Gen
open Idealize.ShloMosaic Idealize.ShloMosaic.TcCoe
open Cert.ReferenceIdeal.Run (W0 G0 score0 cand0 score0_at found0 marked gathered scored)

variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)

theorem arg0_at2 : V2 m (o m) c (Proc.devRef .tc main_arg0) = V0 m c (Proc.devRef .tc main_arg0) := (V2_of m (o m) c main_arg0 (by decide)).trans (V1_of m c main_arg0 (by decide))
theorem arg2_at2 : V2 m (o m) c (Proc.devRef .tc main_arg2) = V0 m c (Proc.devRef .tc main_arg2) := (V2_of m (o m) c main_arg2 (by decide)).trans (V1_of m c main_arg2 (by decide))
theorem arg5_at2 : V2 m (o m) c (Proc.devRef .tc main_arg5) = V0 m c (Proc.devRef .tc main_arg5) := (V2_of m (o m) c main_arg5 (by decide)).trans (V1_of m c main_arg5 (by decide))

/-- Candidates are functions of six arrays. -/
theorem drawn_of {s s' : FVec Ideal S2x20000 .f32} {l l' t t' : IVec S2x20000 32} {a a' : FVec Ideal S20000x2 .f32} {b b' : FVec Ideal S2x4x100x200 .f32} {d d' : IVec S2x2 32}
    (hs : s = s') (hl : l = l') (ht : t = t') (ha : a = a') (hb : b = b') (hd : d = d') (n : Fin 2) (j : Fin 1000) :
    chosen s l t a b d n j = chosen s' l' t' a' b' d' n j := by
  subst hs hl ht ha hb hd
  rfl

variable {m c m'}
  (h0 : (V0 m c main_arg0 : FVec Ideal S20000x2 .f32) = W0 m' c Cert.ReferenceIdeal.main_arg0)
  (h1 : (V0 m c main_arg1 : FVec Ideal S2x80x100x200 .f32) = W0 m' c Cert.ReferenceIdeal.main_arg1)
  (h2 : (V0 m c main_arg2 : FVec Ideal S2x4x100x200 .f32) = W0 m' c Cert.ReferenceIdeal.main_arg2)
  (h3 : (V0 m c main_arg3 : FVec Ideal S2x1x100x200 .f32) = W0 m' c Cert.ReferenceIdeal.main_arg3)
  (h4 : (V0 m c main_arg4 : FVec Ideal S2x1x100x200 .f32) = W0 m' c Cert.ReferenceIdeal.main_arg4)
  (h5 : (V0 m c main_arg5 : IVec S2x2 32) = W0 m' c Cert.ReferenceIdeal.main_arg5)
include h0 h1 h2 h3 h4 h5

/-- The candidates drawn are the reference's. -/
theorem drawn_same (n : Fin 2) (j : Fin 1000) : drawn (V2 m (o m) c) n j = cand0 m' c n j :=
  drawn_of (scores_same m c (W0 m' c) h1 h3) (labels_same m c (W0 m' c) h1) (tags_same m c (W0 m' c) h4)
    ((arg0_at2 m c).trans h0) ((arg2_at2 m c).trans h2) ((arg5_at2 m c).trans h5) n j

/-- What the suppression region holds at a candidate. -/
theorem given_same : Given (found1 m) c (cand0 m' c) := by
  have e : drawn (V2 m (o m) c) = cand0 m' c := funext fun n => funext fun j => drawn_same h0 h1 h2 h3 h4 h5 n j
  rw [← e]
  exact given m c

/-- The final scores. -/
theorem score_same : (StableHlo.after hostOps2 (V28 m (o m) c) (Proc.devRef .tc main_v62) : FVec Ideal S2x1000 .f32) = score0 m' c := by
  funext i
  obtain ⟨n, j, rfl⟩ : ∃ (n : Fin 2) (j : Fin 1000), i = ix2 n j := ⟨i 0, i 1, ix2_of i⟩
  refine (v62_at (V28 m (o m) c) n j).trans ?_
  rw [v60_0_eq]
  exact left_fin_cell (found1 m) c (given_same h0 h1 h2 h3 h4 h5) (fun n j => score0 m' c (ix2 n j)) (fun r n j k => by classical exact (fin_cell k j).trans (score0_at m' c n j).symm) n j

/-- The boxes of all candidates. -/
theorem boxes_same : (StableHlo.after hostOps2 (V28 m (o m) c) (Proc.devRef .tc main_v69) : FVec Ideal S2x1000x4 .f32) = marked (G0 m' c) Cert.ReferenceIdeal.main_v75 := by
  funext i
  obtain ⟨n, j, k, rfl⟩ : ∃ (n : Fin 2) (j : Fin 1000) (k : Fin 4), i = ix3 n j k := ⟨i 0, i 1, i 2, by
    funext a
    match a with
    | ⟨0, _⟩ => rfl
    | ⟨1, _⟩ => rfl
    | ⟨2, _⟩ => rfl⟩
  match k with
  | 0 =>
    refine (v69_0_at (V28 m (o m) c) n j).trans ?_
    rw [v60_1_eq]
    exact (left_x1_cell (found1 m) c (given_same h0 h1 h2 h3 h4 h5) n j).trans ((congrArg Cand.x1 (found0 m' c n j)).symm.trans (Cert.ReferenceIdeal.Run.corner_0 (scored (W0 m' c)) n j).symm)
  | 1 =>
    refine (v69_1_at (V28 m (o m) c) n j).trans ?_
    rw [v60_2_eq]
    exact (left_y1_cell (found1 m) c (given_same h0 h1 h2 h3 h4 h5) n j).trans ((congrArg Cand.y1 (found0 m' c n j)).symm.trans (Cert.ReferenceIdeal.Run.corner_1 (scored (W0 m' c)) n j).symm)
  | 2 =>
    refine (v69_2_at (V28 m (o m) c) n j).trans ?_
    rw [v60_3_eq]
    exact (left_x2_cell (found1 m) c (given_same h0 h1 h2 h3 h4 h5) n j).trans ((congrArg Cand.x2 (found0 m' c n j)).symm.trans (Cert.ReferenceIdeal.Run.corner_2 (scored (W0 m' c)) n j).symm)
  | 3 =>
    refine (v69_3_at (V28 m (o m) c) n j).trans ?_
    rw [v60_4_eq]
    exact (left_y2_cell (found1 m) c (given_same h0 h1 h2 h3 h4 h5) n j).trans ((congrArg Cand.y2 (found0 m' c n j)).symm.trans (Cert.ReferenceIdeal.Run.corner_3 (scored (W0 m' c)) n j).symm)

/-- The labels of all candidates, -/
theorem label_same : (StableHlo.after hostOps2 (V28 m (o m) c) (Proc.devRef .tc main_v11) : IVec S2x1000 32) = G0 m' c Cert.ReferenceIdeal.main_v33 := by
  rw [v11_kept, v11_through]
  funext i
  obtain ⟨n, j, rfl⟩ : ∃ (n : Fin 2) (j : Fin 1000), i = ix2 n j := ⟨i 0, i 1, ix2_of i⟩
  exact (v11_cell _ n j).trans ((congrArg Cand.lab (drawn_same h0 h1 h2 h3 h4 h5 n j)).trans (Cert.ReferenceIdeal.Run.v33_cell (scored (W0 m' c)) n j).symm)

/-- and their tags. -/
theorem tag_same : (StableHlo.after hostOps2 (V28 m (o m) c) (Proc.devRef .tc main_v12) : IVec S2x1000 32) = G0 m' c Cert.ReferenceIdeal.main_v34 := by
  rw [v12_kept, v12_through]
  funext i
  obtain ⟨n, j, rfl⟩ : ∃ (n : Fin 2) (j : Fin 1000), i = ix2 n j := ⟨i 0, i 1, ix2_of i⟩
  exact (v12_cell _ n j).trans ((congrArg Cand.tag (drawn_same h0 h1 h2 h3 h4 h5 n j)).trans (Cert.ReferenceIdeal.Run.v34_cell (scored (W0 m' c)) n j).symm)

/-! ## The four results -/

theorem boxes_eq : V32 m (o m) c (Proc.devRef .tc main_v71) = (Take.boxes (F := Ideal) (score0 m' c) (marked (G0 m' c) Cert.ReferenceIdeal.main_v75 : FVec Ideal S2x1000x4 .f32) : FVec Ideal S2x100x4 .f32) := by
  refine (v71_eq (StableHlo.after hostOps2 (V28 m (o m) c))).trans ?_
  rw [v70_eq, score_same h0 h1 h2 h3 h4 h5, boxes_same h0 h1 h2 h3 h4 h5]; rfl

theorem scores_eq : V32 m (o m) c (Proc.devRef .tc main_values_10) = ((Take.top100 (F := Ideal) (score0 m' c)).1 : FVec Ideal S2x100 .f32) := by
  refine (values10_kept (StableHlo.after hostOps2 (V28 m (o m) c))).trans ?_
  rw [values10_eq, score_same h0 h1 h2 h3 h4 h5]

theorem labels_eq : V32 m (o m) c (Proc.devRef .tc main_v72) = (Take.words (F := Ideal) (score0 m' c) (G0 m' c Cert.ReferenceIdeal.main_v33 : IVec S2x1000 32) : IVec S2x100 32) := by
  refine (v72_eq (StableHlo.after hostOps2 (V28 m (o m) c))).trans ?_
  rw [indices11_eq, score_same h0 h1 h2 h3 h4 h5, label_same h0 h1 h2 h3 h4 h5]; rfl

theorem tags_eq : V32 m (o m) c (Proc.devRef .tc main_v73) = (Take.words (F := Ideal) (score0 m' c) (G0 m' c Cert.ReferenceIdeal.main_v34 : IVec S2x1000 32) : IVec S2x100 32) := by
  refine (v73_eq (StableHlo.after hostOps2 (V28 m (o m) c))).trans ?_
  rw [indices11_eq, score_same h0 h1 h2 h3 h4 h5, tag_same h0 h1 h2 h3 h4 h5]; rfl

end Cert.KernelIdeal.Run

end
-- ==== Proof.lean ====
module

public import proofs.«01_k».proof.Defs
public import proofs.«01_k».proof.Proof.Whole
public import proofs.«01_k».proof.Proof.WholeIdeal
public import proofs.«01_k».proof.Proof.RefRun
public import proofs.«01_k».proof.Proof.KValue
public import Idealize.ShloMosaic.Lib.StableHlo.RunHlo

@[expose] public section

noncomputable section

namespace Cert.Proof

open Idealize.ShloMosaic Idealize.ShloMosaic.TcCoe Idealize.SL.Sem
open Idealize.ShloMosaic.StableHlo

/-- The kernel's run ends with its arguments as launched and every counter at zero. -/
theorem frame_kernel [Cert.Kernel.Facts] : Cert.quiescent_Kernel := fun m g _ =>
  θ_run_mono (Cert.Kernel.Run.run_whole m g) fun _ h => ⟨fun c =>
    ⟨((h.1 c).at _ Cert.Kernel.main_arg0 rfl).trans (Cert.Kernel.Gen.V32_main_arg0 m _ c),
     ((h.1 c).at _ Cert.Kernel.main_arg1 rfl).trans (Cert.Kernel.Gen.V32_main_arg1 m _ c),
     ((h.1 c).at _ Cert.Kernel.main_arg2 rfl).trans (Cert.Kernel.Gen.V32_main_arg2 m _ c),
     ((h.1 c).at _ Cert.Kernel.main_arg3 rfl).trans (Cert.Kernel.Gen.V32_main_arg3 m _ c),
     ((h.1 c).at _ Cert.Kernel.main_arg4 rfl).trans (Cert.Kernel.Gen.V32_main_arg4 m _ c),
     ((h.1 c).at _ Cert.Kernel.main_arg5 rfl).trans (Cert.Kernel.Gen.V32_main_arg5 m _ c)⟩, h.2⟩

/-- The same of the kernel read over the extended reals. -/
theorem frame_ideal [Cert.KernelIdeal.Facts] : Cert.quiescent_KernelIdeal := fun m g _ =>
  θ_run_mono (Cert.KernelIdeal.Run.run_whole m g) fun _ h => ⟨fun c =>
    ⟨((h.1 c).at _ Cert.KernelIdeal.main_arg0 rfl).trans (Cert.KernelIdeal.Gen.V32_main_arg0 m _ c),
     ((h.1 c).at _ Cert.KernelIdeal.main_arg1 rfl).trans (Cert.KernelIdeal.Gen.V32_main_arg1 m _ c),
     ((h.1 c).at _ Cert.KernelIdeal.main_arg2 rfl).trans (Cert.KernelIdeal.Gen.V32_main_arg2 m _ c),
     ((h.1 c).at _ Cert.KernelIdeal.main_arg3 rfl).trans (Cert.KernelIdeal.Gen.V32_main_arg3 m _ c),
     ((h.1 c).at _ Cert.KernelIdeal.main_arg4 rfl).trans (Cert.KernelIdeal.Gen.V32_main_arg4 m _ c),
     ((h.1 c).at _ Cert.KernelIdeal.main_arg5 rfl).trans (Cert.KernelIdeal.Gen.V32_main_arg5 m _ c)⟩, h.2⟩

/-- And of the reference. -/
theorem frame_reference [Cert.ReferenceIdeal.Facts] : Cert.quiescent_ReferenceIdeal := fun m g _ =>
  θ_run_mono (Cert.ReferenceIdeal.Run.run_whole m g) fun r h => ⟨fun c =>
    have k : ∀ b ∈ Cert.ReferenceIdeal.Run.args, (Proc.devRef .tc b : DevRef Cert.ReferenceIdeal.τ Cert.ReferenceIdeal.sig).isScoped = false →
        r.2.mem ((c.tc : Thread Cert.ReferenceIdeal.nD Cert.ReferenceIdeal.τ).loc b) = m ((c.tc : Thread Cert.ReferenceIdeal.nD Cert.ReferenceIdeal.τ).loc b) :=
      fun b hb hs => (h.1 c b hs).trans (Cert.ReferenceIdeal.Run.last_keeps m hb c)
    ⟨k _ (by decide) rfl, k _ (by decide) rfl, k _ (by decide) rfl, k _ (by decide) rfl, k _ (by decide) rfl, k _ (by decide) rfl⟩, h.2⟩

/-- The kernel and the reference, both read over the extended reals and launched on the same arguments, end with the same
    boxes, scores, labels and tags, and with their arguments as launched. -/
theorem value [Cert.KernelIdeal.Facts] [Cert.ReferenceIdeal.Facts] : Cert.algebraic_KernelIdeal_ReferenceIdeal := fun m g m' g' _ hA =>
  ⟨fun c => Cert.KernelIdeal.Gen.V32 m (Cert.KernelIdeal.Run.o m) c (Proc.devRef .tc Cert.KernelIdeal.main_v71),
   fun c => Cert.KernelIdeal.Gen.V32 m (Cert.KernelIdeal.Run.o m) c (Proc.devRef .tc Cert.KernelIdeal.main_values_10),
   fun c => Cert.KernelIdeal.Gen.V32 m (Cert.KernelIdeal.Run.o m) c (Proc.devRef .tc Cert.KernelIdeal.main_v72),
   fun c => Cert.KernelIdeal.Gen.V32 m (Cert.KernelIdeal.Run.o m) c (Proc.devRef .tc Cert.KernelIdeal.main_v73),
   θ_run_mono (Cert.KernelIdeal.Run.run_whole m g) fun _ h c =>
    ⟨(h.1 c).at _ Cert.KernelIdeal.main_v71 rfl, (h.1 c).at _ Cert.KernelIdeal.main_values_10 rfl,
     (h.1 c).at _ Cert.KernelIdeal.main_v72 rfl, (h.1 c).at _ Cert.KernelIdeal.main_v73 rfl,
     ((h.1 c).at _ Cert.KernelIdeal.main_arg0 rfl).trans (Cert.KernelIdeal.Gen.V32_main_arg0 m _ c),
     ((h.1 c).at _ Cert.KernelIdeal.main_arg1 rfl).trans (Cert.KernelIdeal.Gen.V32_main_arg1 m _ c),
     ((h.1 c).at _ Cert.KernelIdeal.main_arg2 rfl).trans (Cert.KernelIdeal.Gen.V32_main_arg2 m _ c),
     ((h.1 c).at _ Cert.KernelIdeal.main_arg3 rfl).trans (Cert.KernelIdeal.Gen.V32_main_arg3 m _ c),
     ((h.1 c).at _ Cert.KernelIdeal.main_arg4 rfl).trans (Cert.KernelIdeal.Gen.V32_main_arg4 m _ c),
     ((h.1 c).at _ Cert.KernelIdeal.main_arg5 rfl).trans (Cert.KernelIdeal.Gen.V32_main_arg5 m _ c)⟩,
   θ_run_mono (Cert.ReferenceIdeal.Run.run_whole m' g') fun r h c => by
    obtain ⟨a0, a1, a2, a3, a4, a5⟩ := hA c
    have k : ∀ b ∈ Cert.ReferenceIdeal.Run.args, (Proc.devRef .tc b : DevRef Cert.ReferenceIdeal.τ Cert.ReferenceIdeal.sig).isScoped = false →
        r.2.mem ((c.tc : Thread Cert.ReferenceIdeal.nD Cert.ReferenceIdeal.τ).loc b) = m' ((c.tc : Thread Cert.ReferenceIdeal.nD Cert.ReferenceIdeal.τ).loc b) :=
      fun b hb hs => (h.1 c b hs).trans (Cert.ReferenceIdeal.Run.last_keeps m' hb c)
    exact ⟨(h.1 c Cert.ReferenceIdeal.main_v152 rfl).trans ((Cert.ReferenceIdeal.Run.result0 m' c).trans
        (Cert.KernelIdeal.Run.boxes_eq a0.symm a1.symm a2.symm a3.symm a4.symm a5.symm).symm),
      (h.1 c Cert.ReferenceIdeal.main_values_33 rfl).trans ((Cert.ReferenceIdeal.Run.result1 m' c).trans
        (Cert.KernelIdeal.Run.scores_eq a0.symm a1.symm a2.symm a3.symm a4.symm a5.symm).symm),
      (h.1 c Cert.ReferenceIdeal.main_v153 rfl).trans ((Cert.ReferenceIdeal.Run.result2 m' c).trans
        (Cert.KernelIdeal.Run.labels_eq a0.symm a1.symm a2.symm a3.symm a4.symm a5.symm).symm),
      (h.1 c Cert.ReferenceIdeal.main_v154 rfl).trans ((Cert.ReferenceIdeal.Run.result3 m' c).trans
        (Cert.KernelIdeal.Run.tags_eq a0.symm a1.symm a2.symm a3.symm a4.symm a5.symm).symm),
      k _ (by decide) rfl, k _ (by decide) rfl, k _ (by decide) rfl, k _ (by decide) rfl, k _ (by decide) rfl, k _ (by decide) rfl⟩⟩

/-- Every claim. -/
theorem claim : Cert.Claim :=
  ⟨Cert.Kernel.Gen.facts, Cert.KernelIdeal.Gen.facts, Cert.ReferenceIdeal.Gen.facts,
    frame_kernel, frame_ideal, frame_reference, trivial, value⟩

end Cert.Proof

end
